-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4)
      ∧ r.2.mem ((c.tc : Thread Cert.KernelX.nD Cert.KernelX.τ).loc Cert.KernelX.main_arg5) = m ((c.tc : Thread Cert.KernelX.nD Cert.KernelX.τ).loc Cert.KernelX.main_arg5)
      ∧ r.2.mem ((c.tc : Thread Cert.KernelX.nD Cert.KernelX.τ).loc Cert.KernelX.main_arg6) = m ((c.tc : Thread Cert.KernelX.nD Cert.KernelX.τ).loc Cert.KernelX.main_arg6)
      ∧ r.2.mem ((c.tc : Thread Cert.KernelX.nD Cert.KernelX.τ).loc Cert.KernelX.main_arg7) = m ((c.tc : Thread Cert.KernelX.nD Cert.KernelX.τ).loc Cert.KernelX.main_arg7)
      ∧ r.2.mem ((c.tc : Thread Cert.KernelX.nD Cert.KernelX.τ).loc Cert.KernelX.main_arg8) = m ((c.tc : Thread Cert.KernelX.nD Cert.KernelX.τ).loc Cert.KernelX.main_arg8))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
      ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
      ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
      ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5)
      ∧ r.2.mem ((c.tc : Thread Cert.ReferenceXIdeal.nD Cert.ReferenceXIdeal.τ).loc Cert.ReferenceXIdeal.main_arg6) = m ((c.tc : Thread Cert.ReferenceXIdeal.nD Cert.ReferenceXIdeal.τ).loc Cert.ReferenceXIdeal.main_arg6)
      ∧ r.2.mem ((c.tc : Thread Cert.ReferenceXIdeal.nD Cert.ReferenceXIdeal.τ).loc Cert.ReferenceXIdeal.main_arg7) = m ((c.tc : Thread Cert.ReferenceXIdeal.nD Cert.ReferenceXIdeal.τ).loc Cert.ReferenceXIdeal.main_arg7)
      ∧ r.2.mem ((c.tc : Thread Cert.ReferenceXIdeal.nD Cert.ReferenceXIdeal.τ).loc Cert.ReferenceXIdeal.main_arg8) = m ((c.tc : Thread Cert.ReferenceXIdeal.nD Cert.ReferenceXIdeal.τ).loc Cert.ReferenceXIdeal.main_arg8))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v374_0)) (v1 : (c : Dev Cert.KernelIdeal.nD) → Buf (Elt Ideal) ((c.tc : Thread Cert.KernelIdeal.nD Cert.KernelIdeal.τ).loc Cert.KernelIdeal.main_v374_1)) (v2 : (c : Dev Cert.KernelIdeal.nD) → Buf (Elt Ideal) ((c.tc : Thread Cert.KernelIdeal.nD Cert.KernelIdeal.τ).loc Cert.KernelIdeal.main_v374_2)) (v3 : (c : Dev Cert.KernelIdeal.nD) → Buf (Elt Ideal) ((c.tc : Thread Cert.KernelIdeal.nD Cert.KernelIdeal.τ).loc Cert.KernelIdeal.main_v374_3)) (v4 : (c : Dev Cert.KernelIdeal.nD) → Buf (Elt Ideal) ((c.tc : Thread Cert.KernelIdeal.nD Cert.KernelIdeal.τ).loc Cert.KernelIdeal.main_v374_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v374_0) = v0 c
          ∧ r.2.mem ((c.tc : Thread Cert.KernelIdeal.nD Cert.KernelIdeal.τ).loc Cert.KernelIdeal.main_v374_1) = v1 c
          ∧ r.2.mem ((c.tc : Thread Cert.KernelIdeal.nD Cert.KernelIdeal.τ).loc Cert.KernelIdeal.main_v374_2) = v2 c
          ∧ r.2.mem ((c.tc : Thread Cert.KernelIdeal.nD Cert.KernelIdeal.τ).loc Cert.KernelIdeal.main_v374_3) = v3 c
          ∧ r.2.mem ((c.tc : Thread Cert.KernelIdeal.nD Cert.KernelIdeal.τ).loc Cert.KernelIdeal.main_v374_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v10) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v4) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)
      ∧ m' ((c.tc : Thread Cert.ReferenceXIdeal.nD Cert.ReferenceXIdeal.τ).loc Cert.ReferenceXIdeal.main_arg5) = m ((c.tc : Thread Cert.KernelXIdeal.nD Cert.KernelXIdeal.τ).loc Cert.KernelXIdeal.main_arg5)
      ∧ m' ((c.tc : Thread Cert.ReferenceXIdeal.nD Cert.ReferenceXIdeal.τ).loc Cert.ReferenceXIdeal.main_arg6) = m ((c.tc : Thread Cert.KernelXIdeal.nD Cert.KernelXIdeal.τ).loc Cert.KernelXIdeal.main_arg6)
      ∧ m' ((c.tc : Thread Cert.ReferenceXIdeal.nD Cert.ReferenceXIdeal.τ).loc Cert.ReferenceXIdeal.main_arg7) = m ((c.tc : Thread Cert.KernelXIdeal.nD Cert.KernelXIdeal.τ).loc Cert.KernelXIdeal.main_arg7)
      ∧ m' ((c.tc : Thread Cert.ReferenceXIdeal.nD Cert.ReferenceXIdeal.τ).loc Cert.ReferenceXIdeal.main_arg8) = m ((c.tc : Thread Cert.KernelXIdeal.nD Cert.KernelXIdeal.τ).loc Cert.KernelXIdeal.main_arg8)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
          ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
          ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
          ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
          ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v40) = v0 c
          ∧ r.2.mem ((c.tc : Thread Cert.ReferenceXIdeal.nD Cert.ReferenceXIdeal.τ).loc Cert.ReferenceXIdeal.main_v41) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4)
          ∧ r.2.mem ((c.tc : Thread Cert.ReferenceXIdeal.nD Cert.ReferenceXIdeal.τ).loc Cert.ReferenceXIdeal.main_arg5) = m' ((c.tc : Thread Cert.ReferenceXIdeal.nD Cert.ReferenceXIdeal.τ).loc Cert.ReferenceXIdeal.main_arg5)
          ∧ r.2.mem ((c.tc : Thread Cert.ReferenceXIdeal.nD Cert.ReferenceXIdeal.τ).loc Cert.ReferenceXIdeal.main_arg6) = m' ((c.tc : Thread Cert.ReferenceXIdeal.nD Cert.ReferenceXIdeal.τ).loc Cert.ReferenceXIdeal.main_arg6)
          ∧ r.2.mem ((c.tc : Thread Cert.ReferenceXIdeal.nD Cert.ReferenceXIdeal.τ).loc Cert.ReferenceXIdeal.main_arg7) = m' ((c.tc : Thread Cert.ReferenceXIdeal.nD Cert.ReferenceXIdeal.τ).loc Cert.ReferenceXIdeal.main_arg7)
          ∧ r.2.mem ((c.tc : Thread Cert.ReferenceXIdeal.nD Cert.ReferenceXIdeal.τ).loc Cert.ReferenceXIdeal.main_arg8) = m' ((c.tc : Thread Cert.ReferenceXIdeal.nD Cert.ReferenceXIdeal.τ).loc Cert.ReferenceXIdeal.main_arg8))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)) →
    ∃ (v0 : (c : Dev Cert.KernelMidIdeal.nD) → Buf (Elt Ideal) ((c.tc : Thread Cert.KernelMidIdeal.nD Cert.KernelMidIdeal.τ).loc Cert.KernelMidIdeal.main_v0_0)) (v1 : (c : Dev Cert.KernelMidIdeal.nD) → Buf (Elt Ideal) ((c.tc : Thread Cert.KernelMidIdeal.nD Cert.KernelMidIdeal.τ).loc Cert.KernelMidIdeal.main_v0_1)) (v2 : (c : Dev Cert.KernelMidIdeal.nD) → Buf (Elt Ideal) ((c.tc : Thread Cert.KernelMidIdeal.nD Cert.KernelMidIdeal.τ).loc Cert.KernelMidIdeal.main_v0_2)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v0_0) = v0 c
          ∧ r.2.mem ((c.tc : Thread Cert.KernelMidIdeal.nD Cert.KernelMidIdeal.τ).loc Cert.KernelMidIdeal.main_v0_1) = v1 c
          ∧ r.2.mem ((c.tc : Thread Cert.KernelMidIdeal.nD Cert.KernelMidIdeal.τ).loc Cert.KernelMidIdeal.main_v0_2) = v2 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v44) = v0 c
          ∧ r.2.mem ((c.tc : Thread Cert.ReferenceMidIdeal.nD Cert.ReferenceMidIdeal.τ).loc Cert.ReferenceMidIdeal.main_v46) = v1 c
          ∧ r.2.mem ((c.tc : Thread Cert.ReferenceMidIdeal.nD Cert.ReferenceMidIdeal.τ).loc Cert.ReferenceMidIdeal.main_v47) = v2 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelAct : Cert.KernelAct.Facts) (hKernelActIdeal : Cert.KernelActIdeal.Facts) (hReferenceActIdeal : Cert.ReferenceActIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelX : Cert.KernelX.Facts) (hKernelXIdeal : Cert.KernelXIdeal.Facts) (hReferenceXIdeal : Cert.ReferenceXIdeal.Facts) (hKernelMid : Cert.KernelMid.Facts) (hKernelMidIdeal : Cert.KernelMidIdeal.Facts) (hReferenceMidIdeal : Cert.ReferenceMidIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelAct_KernelActIdeal
    ∧ algebraic_KernelActIdeal_ReferenceActIdeal (hKernelActIdeal := hKernelActIdeal) (hReferenceActIdeal := hReferenceActIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelX_KernelXIdeal
    ∧ algebraic_KernelXIdeal_ReferenceXIdeal (hKernelXIdeal := hKernelXIdeal) (hReferenceXIdeal := hReferenceXIdeal)
    ∧ preserves_KernelMid_KernelMidIdeal
    ∧ algebraic_KernelMidIdeal_ReferenceMidIdeal (hKernelMidIdeal := hKernelMidIdeal) (hReferenceMidIdeal := hReferenceMidIdeal)
-- ==== Pre_finite.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  bcast_S_S8192x8 : S_.BroadcastsInDim S8192x8 (![] : Fin 0 → Fin S8192x8.rank)

variable [Facts]

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S8192x512 1 × IVec S8192x512 1 × IVec S8192x512 1 × IVec S8192x8 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Kernel.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩
abbrev S8192x8x1 : Shape := ⟨3, ![8192, 8, 1]⟩
abbrev S8192x8x16 : Shape := ⟨3, ![8192, 8, 16]⟩
abbrev S8192x8x128 : Shape := ⟨3, ![8192, 8, 128]⟩
abbrev S8192x1024 : Shape := ⟨2, ![8192, 1024]⟩
abbrev S4x8192x128 : Shape := ⟨3, ![4, 8192, 128]⟩
abbrev S8192x256 : Shape := ⟨2, ![8192, 256]⟩
abbrev S512x256 : Shape := ⟨2, ![512, 256]⟩
abbrev S8192x128 : Shape := ⟨2, ![8192, 128]⟩
abbrev S512x128 : Shape := ⟨2, ![512, 128]⟩
abbrev S1x8192x128 : Shape := ⟨3, ![1, 8192, 128]⟩
abbrev S1x512x128 : Shape := ⟨3, ![1, 512, 128]⟩
abbrev S256x128 : Shape := ⟨2, ![256, 128]⟩
abbrev S256x512 : Shape := ⟨2, ![256, 512]⟩
abbrev S256x256 : Shape := ⟨2, ![256, 256]⟩
abbrev S512x512 : Shape := ⟨2, ![512, 512]⟩
abbrev S1024x128 : Shape := ⟨2, ![1024, 128]⟩
abbrev S512x1024 : Shape := ⟨2, ![512, 1024]⟩
abbrev S512x1 : Shape := ⟨2, ![512, 1]⟩

abbrev nBuf : Space → Nat
  | .hbm => 399
  | .vmem => 21
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8192x8x64, .f32⟩
  | 7 => ⟨S8192x8x64, .f32⟩
  | 8 => ⟨S8192x8x64, .f32⟩
  | 9 => ⟨S8x8192x8192, .f32⟩
  | 10 => ⟨S_, .f32⟩
  | 11 => ⟨S8x8192x8192, .f32⟩
  | 12 => ⟨S8x8192x8192, .f32⟩
  | 13 => ⟨S8x8192, .f32⟩
  | 14 => ⟨S8x8192x1, .f32⟩
  | 15 => ⟨S8x8192x8192, .f32⟩
  | 16 => ⟨S8x8192x8192, .f32⟩
  | 17 => ⟨S8x8192, .f32⟩
  | 18 => ⟨S8x1x8192, .f32⟩
  | 19 => ⟨S8x8192x8192, .f32⟩
  | 20 => ⟨S8x8192x8192, .f32⟩
  | 21 => ⟨S8192, .i32⟩
  | 22 => ⟨S8192x1, .i32⟩
  | 23 => ⟨S1x8192, .i32⟩
  | 24 => ⟨S8192x8192, .i32⟩
  | 25 => ⟨S8192x8192, .i32⟩
  | 26 => ⟨S8192x8192, .i1⟩
  | 27 => ⟨S_, .f32⟩
  | 28 => ⟨S_, .f32⟩
  | 29 => ⟨S8x8192x8192, .i1⟩
  | 30 => ⟨S8x8192x8192, .f32⟩
  | 31 => ⟨S8x8192x8192, .f32⟩
  | 32 => ⟨S_, .f32⟩
  | 33 => ⟨S8x8192, .f32⟩
  | 34 => ⟨S8x8192x1, .f32⟩
  | 35 => ⟨S8x8192x8192, .f32⟩
  | 36 => ⟨S8x8192x8192, .f32⟩
  | 37 => ⟨S8x8192x8192, .f32⟩
  | 38 => ⟨S_, .f32⟩
  | 39 => ⟨S8x8192, .f32⟩
  | 40 => ⟨S8x8192x1, .f32⟩
  | 41 => ⟨S8x8192x8192, .f32⟩
  | 42 => ⟨S8x8192x8192, .f32⟩
  | 43 => ⟨S8x64x8192, .f32⟩
  | 44 => ⟨S8192x8x64, .f32⟩
  | 45 => ⟨S8x8192x1, .f32⟩
  | 46 => ⟨S8x8192x1, .f32⟩
  | 47 => ⟨S8x8192, .f32⟩
  | 48 => ⟨S8192x8, .f32⟩
  | 49 => ⟨S8192x8x64, .f32⟩
  | 50 => ⟨S_, .f32⟩
  | 51 => ⟨S8192x8, .f32⟩
  | 52 => ⟨S_, .f32⟩
  | 53 => ⟨S8192x8, .f32⟩
  | 54 => ⟨S_, .f32⟩
  | 55 => ⟨S8192x8, .f32⟩
  | 56 => ⟨S8192x8, .bf16⟩
  | 57 => ⟨S8192x8, .f32⟩
  | 58 => ⟨S8192x8, .f32⟩
  | 59 => ⟨S8192x8, .bf16⟩
  | 60 => ⟨S8192x8, .f32⟩
  | 61 => ⟨S8192x8, .f32⟩
  | 62 => ⟨S8192x8, .bf16⟩
  | 63 => ⟨S8192x8, .f32⟩
  | 64 => ⟨S8192x8, .f32⟩
  | 65 => ⟨S8192x8, .f32⟩
  | 66 => ⟨S8192x8, .f32⟩
  | 67 => ⟨S8192x8, .bf16⟩
  | 68 => ⟨S8192x8, .f32⟩
  | 69 => ⟨S8192x8, .f32⟩
  | 70 => ⟨S8192x8, .bf16⟩
  | 71 => ⟨S8192x8, .f32⟩
  | 72 => ⟨S8192x8, .f32⟩
  | 73 => ⟨S8192x8, .bf16⟩
  | 74 => ⟨S8192x8, .f32⟩
  | 75 => ⟨S8192x8, .f32⟩
  | 76 => ⟨S8192x8, .f32⟩
  | 77 => ⟨S8192x8, .f32⟩
  | 78 => ⟨S8192x8, .bf16⟩
  | 79 => ⟨S8192x8, .f32⟩
  | 80 => ⟨S8192x8, .f32⟩
  | 81 => ⟨S8192x8, .bf16⟩
  | 82 => ⟨S8192x8, .f32⟩
  | 83 => ⟨S8192x8, .f32⟩
  | 84 => ⟨S8192x8, .bf16⟩
  | 85 => ⟨S8192x8, .f32⟩
  | 86 => ⟨S8192x8, .f32⟩
  | 87 => ⟨S8192x8, .f32⟩
  | 88 => ⟨S_, .f32⟩
  | 89 => ⟨S8192x512, .f32⟩
  | 90 => ⟨S8192x512, .f32⟩
  | 91 => ⟨S8192x8x64, .f32⟩
  | 92 => ⟨S_, .f32⟩
  | 93 => ⟨S8192x8, .f32⟩
  | 94 => ⟨S8192x8x1, .f32⟩
  | 95 => ⟨S8192x8x1, .f32⟩
  | 96 => ⟨S8192x8x1, .f32⟩
  | 97 => ⟨S8192x8x1, .f32⟩
  | 98 => ⟨S8192x8x1, .f32⟩
  | 99 => ⟨S8192x8x1, .f32⟩
  | 100 => ⟨S8192x8x1, .f32⟩
  | 101 => ⟨S8192x8x1, .f32⟩
  | 102 => ⟨S8192x8x1, .f32⟩
  | 103 => ⟨S8192x8x1, .f32⟩
  | 104 => ⟨S8192x8x1, .f32⟩
  | 105 => ⟨S8192x8x1, .f32⟩
  | 106 => ⟨S8192x8x1, .f32⟩
  | 107 => ⟨S8192x8x1, .f32⟩
  | 108 => ⟨S8192x8x1, .f32⟩
  | 109 => ⟨S8192x8x1, .f32⟩
  | 110 => ⟨S8192x8x1, .f32⟩
  | 111 => ⟨S8192x8x1, .f32⟩
  | 112 => ⟨S8192x8x1, .f32⟩
  | 113 => ⟨S8192x8x1, .f32⟩
  | 114 => ⟨S8192x8x1, .f32⟩
  | 115 => ⟨S8192x8x1, .f32⟩
  | 116 => ⟨S8192x8x1, .f32⟩
  | 117 => ⟨S8192x8x1, .f32⟩
  | 118 => ⟨S8192x8x1, .f32⟩
  | 119 => ⟨S8192x8x1, .f32⟩
  | 120 => ⟨S8192x8x1, .f32⟩
  | 121 => ⟨S8192x8x1, .f32⟩
  | 122 => ⟨S8192x8x1, .f32⟩
  | 123 => ⟨S8192x8x1, .f32⟩
  | 124 => ⟨S8192x8x1, .f32⟩
  | 125 => ⟨S8192x8x1, .f32⟩
  | 126 => ⟨S8192x8x1, .f32⟩
  | 127 => ⟨S8192x8x1, .f32⟩
  | _ => ⟨S8192x512, .f32⟩

abbrev hbmTy0_1 (i : Nat) : BufTy := match i % 128 with
  | 0 => ⟨S8192x8x1, .f32⟩
  | 1 => ⟨S8192x8x1, .f32⟩
  | 2 => ⟨S8192x8x1, .f32⟩
  | 3 => ⟨S8192x8x1, .f32⟩
  | 4 => ⟨S8192x8x1, .f32⟩
  | 5 => ⟨S8192x8x1, .f32⟩
  | 6 => ⟨S8192x8x1, .f32⟩
  | 7 => ⟨S8192x8x1, .f32⟩
  | 8 => ⟨S8192x8x1, .f32⟩
  | 9 => ⟨S8192x8x1, .f32⟩
  | 10 => ⟨S8192x8x1, .f32⟩
  | 11 => ⟨S8192x8x1, .f32⟩
  | 12 => ⟨S8192x8x1, .f32⟩
  | 13 => ⟨S8192x8x1, .f32⟩
  | 14 => ⟨S8192x8x1, .f32⟩
  | 15 => ⟨S8192x8x1, .f32⟩
  | 16 => ⟨S8192x8x1, .f32⟩
  | 17 => ⟨S8192x8x1, .f32⟩
  | 18 => ⟨S8192x8x1, .f32⟩
  | 19 => ⟨S8192x8x1, .f32⟩
  | 20 => ⟨S8192x8x1, .f32⟩
  | 21 => ⟨S8192x8x1, .f32⟩
  | 22 => ⟨S8192x8x1, .f32⟩
  | 23 => ⟨S8192x8x1, .f32⟩
  | 24 => ⟨S8192x8x1, .f32⟩
  | 25 => ⟨S8192x8x1, .f32⟩
  | 26 => ⟨S8192x8x1, .f32⟩
  | 27 => ⟨S8192x8x1, .f32⟩
  | 28 => ⟨S8192x8x1, .f32⟩
  | 29 => ⟨S8192x8x1, .f32⟩
  | 30 => ⟨S8192x8x16, .f32⟩
  | 31 => ⟨S8192x8x16, .f32⟩
  | 32 => ⟨S8192x8x16, .f32⟩
  | 33 => ⟨S8192x8x16, .f32⟩
  | 34 => ⟨S8192x8x64, .f32⟩
  | 35 => ⟨S8192x8x128, .f32⟩
  | 36 => ⟨S8192x1024, .f32⟩
  | 37 => ⟨S8192x1024, .bf16⟩
  | 38 => ⟨S8192x8, .f32⟩
  | 39 => ⟨S8192x8, .f32⟩
  | 40 => ⟨S8192x8, .f32⟩
  | 41 => ⟨S8192x8x64, .f32⟩
  | 42 => ⟨S_, .f32⟩
  | 43 => ⟨S8192x8, .f32⟩
  | 44 => ⟨S8192x8x1, .f32⟩
  | 45 => ⟨S8192x8x1, .f32⟩
  | 46 => ⟨S8192x8x1, .f32⟩
  | 47 => ⟨S8192x8x1, .f32⟩
  | 48 => ⟨S8192x8x1, .f32⟩
  | 49 => ⟨S8192x8x1, .f32⟩
  | 50 => ⟨S8192x8x1, .f32⟩
  | 51 => ⟨S8192x8x1, .f32⟩
  | 52 => ⟨S8192x8x1, .f32⟩
  | 53 => ⟨S8192x8x1, .f32⟩
  | 54 => ⟨S8192x8x1, .f32⟩
  | 55 => ⟨S8192x8x1, .f32⟩
  | 56 => ⟨S8192x8x1, .f32⟩
  | 57 => ⟨S8192x8x1, .f32⟩
  | 58 => ⟨S8192x8x1, .f32⟩
  | 59 => ⟨S8192x8x1, .f32⟩
  | 60 => ⟨S8192x8x1, .f32⟩
  | 61 => ⟨S8192x8x1, .f32⟩
  | 62 => ⟨S8192x8x1, .f32⟩
  | 63 => ⟨S8192x8x1, .f32⟩
  | 64 => ⟨S8192x8x1, .f32⟩
  | 65 => ⟨S8192x8x1, .f32⟩
  | 66 => ⟨S8192x8x1, .f32⟩
  | 67 => ⟨S8192x8x1, .f32⟩
  | 68 => ⟨S8192x8x1, .f32⟩
  | 69 => ⟨S8192x8x1, .f32⟩
  | 70 => ⟨S8192x8x1, .f32⟩
  | 71 => ⟨S8192x8x1, .f32⟩
  | 72 => ⟨S8192x8x1, .f32⟩
  | 73 => ⟨S8192x8x1, .f32⟩
  | 74 => ⟨S8192x8x1, .f32⟩
  | 75 => ⟨S8192x8x1, .f32⟩
  | 76 => ⟨S8192x8x1, .f32⟩
  | 77 => ⟨S8192x8x1, .f32⟩
  | 78 => ⟨S8192x8x1, .f32⟩
  | 79 => ⟨S8192x8x1, .f32⟩
  | 80 => ⟨S8192x8x1, .f32⟩
  | 81 => ⟨S8192x8x1, .f32⟩
  | 82 => ⟨S8192x8x1, .f32⟩
  | 83 => ⟨S8192x8x1, .f32⟩
  | 84 => ⟨S8192x8x1, .f32⟩
  | 85 => ⟨S8192x8x1, .f32⟩
  | 86 => ⟨S8192x8x1, .f32⟩
  | 87 => ⟨S8192x8x1, .f32⟩
  | 88 => ⟨S8192x8x1, .f32⟩
  | 89 => ⟨S8192x8x1, .f32⟩
  | 90 => ⟨S8192x8x1, .f32⟩
  | 91 => ⟨S8192x8x1, .f32⟩
  | 92 => ⟨S8192x8x1, .f32⟩
  | 93 => ⟨S8192x8x1, .f32⟩
  | 94 => ⟨S8192x8x1, .f32⟩
  | 95 => ⟨S8192x8x1, .f32⟩
  | 96 => ⟨S8192x8x1, .f32⟩
  | 97 => ⟨S8192x8x1, .f32⟩
  | 98 => ⟨S8192x8x1, .f32⟩
  | 99 => ⟨S8192x8x1, .f32⟩
  | 100 => ⟨S8192x8x1, .f32⟩
  | 101 => ⟨S8192x8x1, .f32⟩
  | 102 => ⟨S8192x8x1, .f32⟩
  | 103 => ⟨S8192x8x1, .f32⟩
  | 104 => ⟨S8192x8x1, .f32⟩
  | 105 => ⟨S8192x8x1, .f32⟩
  | 106 => ⟨S8192x8x1, .f32⟩
  | 107 => ⟨S8192x8x1, .f32⟩
  | 108 => ⟨S8192x8x16, .f32⟩
  | 109 => ⟨S8192x8x16, .f32⟩
  | 110 => ⟨S8192x8x16, .f32⟩
  | 111 => ⟨S8192x8x16, .f32⟩
  | 112 => ⟨S8192x8x64, .f32⟩
  | 113 => ⟨S8192x8x128, .f32⟩
  | 114 => ⟨S8192x1024, .f32⟩
  | 115 => ⟨S8192x1024, .bf16⟩
  | 116 => ⟨S8192x8x64, .f32⟩
  | 117 => ⟨S_, .f32⟩
  | 118 => ⟨S8192x8, .f32⟩
  | 119 => ⟨S8192x8x1, .f32⟩
  | 120 => ⟨S8192x8x1, .f32⟩
  | 121 => ⟨S8192x8x1, .f32⟩
  | 122 => ⟨S8192x8x1, .f32⟩
  | 123 => ⟨S8192x8x1, .f32⟩
  | 124 => ⟨S8192x8x1, .f32⟩
  | 125 => ⟨S8192x8x1, .f32⟩
  | 126 => ⟨S8192x8x1, .f32⟩
  | 127 => ⟨S8192x8x1, .f32⟩
  | _ => ⟨S8192x512, .f32⟩

abbrev hbmTy0_2 (i : Nat) : BufTy := match i % 128 with
  | 0 => ⟨S8192x8x1, .f32⟩
  | 1 => ⟨S8192x8x1, .f32⟩
  | 2 => ⟨S8192x8x1, .f32⟩
  | 3 => ⟨S8192x8x1, .f32⟩
  | 4 => ⟨S8192x8x1, .f32⟩
  | 5 => ⟨S8192x8x1, .f32⟩
  | 6 => ⟨S8192x8x1, .f32⟩
  | 7 => ⟨S8192x8x1, .f32⟩
  | 8 => ⟨S8192x8x1, .f32⟩
  | 9 => ⟨S8192x8x1, .f32⟩
  | 10 => ⟨S8192x8x1, .f32⟩
  | 11 => ⟨S8192x8x1, .f32⟩
  | 12 => ⟨S8192x8x1, .f32⟩
  | 13 => ⟨S8192x8x1, .f32⟩
  | 14 => ⟨S8192x8x1, .f32⟩
  | 15 => ⟨S8192x8x1, .f32⟩
  | 16 => ⟨S8192x8x1, .f32⟩
  | 17 => ⟨S8192x8x1, .f32⟩
  | 18 => ⟨S8192x8x1, .f32⟩
  | 19 => ⟨S8192x8x1, .f32⟩
  | 20 => ⟨S8192x8x1, .f32⟩
  | 21 => ⟨S8192x8x1, .f32⟩
  | 22 => ⟨S8192x8x1, .f32⟩
  | 23 => ⟨S8192x8x1, .f32⟩
  | 24 => ⟨S8192x8x1, .f32⟩
  | 25 => ⟨S8192x8x1, .f32⟩
  | 26 => ⟨S8192x8x1, .f32⟩
  | 27 => ⟨S8192x8x1, .f32⟩
  | 28 => ⟨S8192x8x1, .f32⟩
  | 29 => ⟨S8192x8x1, .f32⟩
  | 30 => ⟨S8192x8x1, .f32⟩
  | 31 => ⟨S8192x8x1, .f32⟩
  | 32 => ⟨S8192x8x1, .f32⟩
  | 33 => ⟨S8192x8x1, .f32⟩
  | 34 => ⟨S8192x8x1, .f32⟩
  | 35 => ⟨S8192x8x1, .f32⟩
  | 36 => ⟨S8192x8x1, .f32⟩
  | 37 => ⟨S8192x8x1, .f32⟩
  | 38 => ⟨S8192x8x1, .f32⟩
  | 39 => ⟨S8192x8x1, .f32⟩
  | 40 => ⟨S8192x8x1, .f32⟩
  | 41 => ⟨S8192x8x1, .f32⟩
  | 42 => ⟨S8192x8x1, .f32⟩
  | 43 => ⟨S8192x8x1, .f32⟩
  | 44 => ⟨S8192x8x1, .f32⟩
  | 45 => ⟨S8192x8x1, .f32⟩
  | 46 => ⟨S8192x8x1, .f32⟩
  | 47 => ⟨S8192x8x1, .f32⟩
  | 48 => ⟨S8192x8x1, .f32⟩
  | 49 => ⟨S8192x8x1, .f32⟩
  | 50 => ⟨S8192x8x1, .f32⟩
  | 51 => ⟨S8192x8x1, .f32⟩
  | 52 => ⟨S8192x8x1, .f32⟩
  | 53 => ⟨S8192x8x1, .f32⟩
  | 54 => ⟨S8192x8x1, .f32⟩
  | 55 => ⟨S8192x8x16, .f32⟩
  | 56 => ⟨S8192x8x16, .f32⟩
  | 57 => ⟨S8192x8x16, .f32⟩
  | 58 => ⟨S8192x8x16, .f32⟩
  | 59 => ⟨S8192x8x64, .f32⟩
  | 60 => ⟨S8192x8x128, .f32⟩
  | 61 => ⟨S8192x1024, .f32⟩
  | 62 => ⟨S8192x1024, .bf16⟩
  | 63 => ⟨S8192x8x64, .f32⟩
  | 64 => ⟨S_, .f32⟩
  | 65 => ⟨S8192x8, .f32⟩
  | 66 => ⟨S8192x8x1, .f32⟩
  | 67 => ⟨S8192x8x1, .f32⟩
  | 68 => ⟨S8192x8x1, .f32⟩
  | 69 => ⟨S8192x8x1, .f32⟩
  | 70 => ⟨S8192x8x1, .f32⟩
  | 71 => ⟨S8192x8x1, .f32⟩
  | 72 => ⟨S8192x8x1, .f32⟩
  | 73 => ⟨S8192x8x1, .f32⟩
  | 74 => ⟨S8192x8x1, .f32⟩
  | 75 => ⟨S8192x8x1, .f32⟩
  | 76 => ⟨S8192x8x1, .f32⟩
  | 77 => ⟨S8192x8x1, .f32⟩
  | 78 => ⟨S8192x8x1, .f32⟩
  | 79 => ⟨S8192x8x1, .f32⟩
  | 80 => ⟨S8192x8x1, .f32⟩
  | 81 => ⟨S8192x8x1, .f32⟩
  | 82 => ⟨S8192x8x1, .f32⟩
  | 83 => ⟨S8192x8x1, .f32⟩
  | 84 => ⟨S8192x8x1, .f32⟩
  | 85 => ⟨S8192x8x1, .f32⟩
  | 86 => ⟨S8192x8x1, .f32⟩
  | 87 => ⟨S8192x8x1, .f32⟩
  | 88 => ⟨S8192x8x1, .f32⟩
  | 89 => ⟨S8192x8x1, .f32⟩
  | 90 => ⟨S8192x8x1, .f32⟩
  | 91 => ⟨S8192x8x1, .f32⟩
  | 92 => ⟨S8192x8x1, .f32⟩
  | 93 => ⟨S8192x8x1, .f32⟩
  | 94 => ⟨S8192x8x1, .f32⟩
  | 95 => ⟨S8192x8x1, .f32⟩
  | 96 => ⟨S8192x8x1, .f32⟩
  | 97 => ⟨S8192x8x1, .f32⟩
  | 98 => ⟨S8192x8x1, .f32⟩
  | 99 => ⟨S8192x8x1, .f32⟩
  | 100 => ⟨S8192x8x1, .f32⟩
  | 101 => ⟨S8192x8x1, .f32⟩
  | 102 => ⟨S8192x8x1, .f32⟩
  | 103 => ⟨S8192x8x1, .f32⟩
  | 104 => ⟨S8192x8x1, .f32⟩
  | 105 => ⟨S8192x8x1, .f32⟩
  | 106 => ⟨S8192x8x1, .f32⟩
  | 107 => ⟨S8192x8x1, .f32⟩
  | 108 => ⟨S8192x8x1, .f32⟩
  | 109 => ⟨S8192x8x1, .f32⟩
  | 110 => ⟨S8192x8x1, .f32⟩
  | 111 => ⟨S8192x8x1, .f32⟩
  | 112 => ⟨S8192x8x1, .f32⟩
  | 113 => ⟨S8192x8x1, .f32⟩
  | 114 => ⟨S8192x8x1, .f32⟩
  | 115 => ⟨S8192x8x1, .f32⟩
  | 116 => ⟨S8192x8x1, .f32⟩
  | 117 => ⟨S8192x8x1, .f32⟩
  | 118 => ⟨S8192x8x1, .f32⟩
  | 119 => ⟨S8192x8x1, .f32⟩
  | 120 => ⟨S8192x8x1, .f32⟩
  | 121 => ⟨S8192x8x1, .f32⟩
  | 122 => ⟨S8192x8x1, .f32⟩
  | 123 => ⟨S8192x8x1, .f32⟩
  | 124 => ⟨S8192x8x1, .f32⟩
  | 125 => ⟨S8192x8x1, .f32⟩
  | 126 => ⟨S8192x8x1, .f32⟩
  | 127 => ⟨S8192x8x1, .f32⟩
  | _ => ⟨S8192x512, .f32⟩

abbrev hbmTy0_3 (i : Nat) : BufTy := match i % 128 with
  | 0 => ⟨S8192x8x1, .f32⟩
  | 1 => ⟨S8192x8x1, .f32⟩
  | 2 => ⟨S8192x8x16, .f32⟩
  | 3 => ⟨S8192x8x16, .f32⟩
  | 4 => ⟨S8192x8x16, .f32⟩
  | 5 => ⟨S8192x8x16, .f32⟩
  | 6 => ⟨S8192x8x64, .f32⟩
  | 7 => ⟨S8192x8x128, .f32⟩
  | 8 => ⟨S8192x1024, .f32⟩
  | 9 => ⟨S8192x1024, .bf16⟩
  | 10 => ⟨S8192x512, .bf16⟩
  | 11 => ⟨S8192x512, .bf16⟩
  | 12 => ⟨S8192x512, .bf16⟩
  | 13 => ⟨S4x8192x128, .f32⟩
  | 14 => ⟨S4x8192x128, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S8192x128, .bf16⟩
  | .local _ .vmem, ⟨9, _⟩ => ⟨S8192x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1x8192x128, .f32⟩
  | .local _ .vmem, ⟨15, _⟩ => ⟨S1x8192x128, .f32⟩
  | .local _ .vmem, ⟨16, _⟩ => ⟨S1x512x128, .f32⟩
  | .local _ .vmem, ⟨17, _⟩ => ⟨S1x512x128, .f32⟩
  | .local _ .vmem, ⟨18, _⟩ => ⟨S8192x256, .f32⟩
  | .local _ .vmem, ⟨19, _⟩ => ⟨S512x256, .f32⟩
  | .local _ .vmem, ⟨20, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_cst_8 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_cst_9 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_v297 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_cst_10 : Ref sig .tc := ⟨.hbm, 320, rfl⟩
abbrev main_v301 : Ref sig .tc := ⟨.hbm, 321, rfl⟩
abbrev main_v302 : Ref sig .tc := ⟨.hbm, 322, rfl⟩
abbrev main_v303 : Ref sig .tc := ⟨.hbm, 323, rfl⟩
abbrev main_v304 : Ref sig .tc := ⟨.hbm, 324, rfl⟩
abbrev main_v305 : Ref sig .tc := ⟨.hbm, 325, rfl⟩
abbrev main_v306 : Ref sig .tc := ⟨.hbm, 326, rfl⟩
abbrev main_v307 : Ref sig .tc := ⟨.hbm, 327, rfl⟩
abbrev main_v308 : Ref sig .tc := ⟨.hbm, 328, rfl⟩
abbrev main_v309 : Ref sig .tc := ⟨.hbm, 329, rfl⟩
abbrev main_v310 : Ref sig .tc := ⟨.hbm, 330, rfl⟩
abbrev main_v311 : Ref sig .tc := ⟨.hbm, 331, rfl⟩
abbrev main_v312 : Ref sig .tc := ⟨.hbm, 332, rfl⟩
abbrev main_v313 : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_v331 : Ref sig .tc := ⟨.hbm, 351, rfl⟩
abbrev main_v332 : Ref sig .tc := ⟨.hbm, 352, rfl⟩
abbrev main_v333 : Ref sig .tc := ⟨.hbm, 353, rfl⟩
abbrev main_v334 : Ref sig .tc := ⟨.hbm, 354, rfl⟩
abbrev main_v335 : Ref sig .tc := ⟨.hbm, 355, rfl⟩
abbrev main_v336 : Ref sig .tc := ⟨.hbm, 356, rfl⟩
abbrev main_v337 : Ref sig .tc := ⟨.hbm, 357, rfl⟩
abbrev main_v338 : Ref sig .tc := ⟨.hbm, 358, rfl⟩
abbrev main_v339 : Ref sig .tc := ⟨.hbm, 359, rfl⟩
abbrev main_v340 : Ref sig .tc := ⟨.hbm, 360, rfl⟩
abbrev main_v341 : Ref sig .tc := ⟨.hbm, 361, rfl⟩
abbrev main_v342 : Ref sig .tc := ⟨.hbm, 362, rfl⟩
abbrev main_v343 : Ref sig .tc := ⟨.hbm, 363, rfl⟩
abbrev main_v344 : Ref sig .tc := ⟨.hbm, 364, rfl⟩
abbrev main_v345 : Ref sig .tc := ⟨.hbm, 365, rfl⟩
abbrev main_v346 : Ref sig .tc := ⟨.hbm, 366, rfl⟩
abbrev main_v347 : Ref sig .tc := ⟨.hbm, 367, rfl⟩
abbrev main_v348 : Ref sig .tc := ⟨.hbm, 368, rfl⟩
abbrev main_v349 : Ref sig .tc := ⟨.hbm, 369, rfl⟩
abbrev main_v350 : Ref sig .tc := ⟨.hbm, 370, rfl⟩
abbrev main_v351 : Ref sig .tc := ⟨.hbm, 371, rfl⟩
abbrev main_v352 : Ref sig .tc := ⟨.hbm, 372, rfl⟩
abbrev main_v353 : Ref sig .tc := ⟨.hbm, 373, rfl⟩
abbrev main_v354 : Ref sig .tc := ⟨.hbm, 374, rfl⟩
abbrev main_v355 : Ref sig .tc := ⟨.hbm, 375, rfl⟩
abbrev main_v356 : Ref sig .tc := ⟨.hbm, 376, rfl⟩
abbrev main_v357 : Ref sig .tc := ⟨.hbm, 377, rfl⟩
abbrev main_v358 : Ref sig .tc := ⟨.hbm, 378, rfl⟩
abbrev main_v359 : Ref sig .tc := ⟨.hbm, 379, rfl⟩
abbrev main_v360 : Ref sig .tc := ⟨.hbm, 380, rfl⟩
abbrev main_v361 : Ref sig .tc := ⟨.hbm, 381, rfl⟩
abbrev main_v362 : Ref sig .tc := ⟨.hbm, 382, rfl⟩
abbrev main_v363 : Ref sig .tc := ⟨.hbm, 383, rfl⟩
abbrev main_v364 : Ref sig .tc := ⟨.hbm, 384, rfl⟩
abbrev main_v365 : Ref sig .tc := ⟨.hbm, 385, rfl⟩
abbrev main_v366 : Ref sig .tc := ⟨.hbm, 386, rfl⟩
abbrev main_v367 : Ref sig .tc := ⟨.hbm, 387, rfl⟩
abbrev main_v368 : Ref sig .tc := ⟨.hbm, 388, rfl⟩
abbrev main_v369 : Ref sig .tc := ⟨.hbm, 389, rfl⟩
abbrev main_v370 : Ref sig .tc := ⟨.hbm, 390, rfl⟩
abbrev main_v371 : Ref sig .tc := ⟨.hbm, 391, rfl⟩
abbrev main_v372 : Ref sig .tc := ⟨.hbm, 392, rfl⟩
abbrev main_v373 : Ref sig .tc := ⟨.hbm, 393, rfl⟩
abbrev main_v374_0 : Ref sig .tc := ⟨.hbm, 394, rfl⟩
abbrev main_v374_1 : Ref sig .tc := ⟨.hbm, 395, rfl⟩
abbrev main_v374_2 : Ref sig .tc := ⟨.hbm, 396, rfl⟩
abbrev main_v374_3 : Ref sig .tc := ⟨.hbm, 397, rfl⟩
abbrev main_v374_4 : Ref sig .tc := ⟨.hbm, 398, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_5 : Index := 0#32
  ![v13.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v54 : Index := Scalar.indexCast v12
  let c128 : Index := 128#32
  ![v54.toNat, 128]
def k0_mult2 (i : grid0.Coords) : BitVec 32 :=
  let arg1 : BitVec 32 := BitVec.ofNat 32 (i 1).val
  let c512_i32_48 : BitVec 32 := 512#32
  let v95 : BitVec 32 := Scalar.muli arg1 c512_i32_48
  let c256_i32 : BitVec 32 := 256#32
  let v96 : BitVec 32 := Scalar.addi v95 c256_i32
  v96
def k0_off3 (i : grid0.Coords) : Fin 2 → Nat :=
  let arg1 : BitVec 32 := BitVec.ofNat 32 (i 1).val
  let c512_i32_48 : BitVec 32 := 512#32
  let v95 : BitVec 32 := Scalar.muli arg1 c512_i32_48
  let c256_i32 : BitVec 32 := 256#32
  let v96 : BitVec 32 := Scalar.addi v95 c256_i32
  let v97 : BitVec 32 := v96
  let v98 : Index := Scalar.indexCast v97
  let c0_49 : Index := 0#32
  ![v98.toNat, 0]
def k0_off4 (i : grid0.Coords) : Fin 2 → Nat :=
  let arg1 : BitVec 32 := BitVec.ofNat 32 (i 1).val
  let c512_i32_48 : BitVec 32 := 512#32
  let v95 : BitVec 32 := Scalar.muli arg1 c512_i32_48
  let c256_i32 : BitVec 32 := 256#32
  let v96 : BitVec 32 := Scalar.addi v95 c256_i32
  let v97 : BitVec 32 := v96
  let v139 : Index := Scalar.indexCast v97
  let c128_70 : Index := 128#32
  ![v139.toNat, 128]
def k0_cond2 (i : grid0.Coords) : BitVec 1 :=
  let c15_i32 : BitVec 32 := 15#32
  let arg1 : BitVec 32 := BitVec.ofNat 32 (i 1).val
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let c1_i32_96 : BitVec 32 := 1#32
  let v191 : BitVec 1 := Scalar.cmpi .eq v190 c1_i32_96
  let v192 : BitVec 32 := Scalar.extui v191
  let c0_i32_97 : BitVec 32 := 0#32
  let v193 : BitVec 1 := Scalar.cmpi .ne v192 c0_i32_97
  v193

def k0_mult3 (i : grid0.Coords) : BitVec 32 :=
  let arg1 : BitVec 32 := BitVec.ofNat 32 (i 1).val
  let c1_i32_131 : BitVec 32 := 1#32
  let v262 : BitVec 32 := Scalar.addi arg1 c1_i32_131
  let c512_i32_132 : BitVec 32 := 512#32
  let v263 : BitVec 32 := Scalar.muli v262 c512_i32_132
  v263
def k0_off5 (i : grid0.Coords) : Fin 2 → Nat :=
  let arg1 : BitVec 32 := BitVec.ofNat 32 (i 1).val
  let c1_i32_131 : BitVec 32 := 1#32
  let v262 : BitVec 32 := Scalar.addi arg1 c1_i32_131
  let c512_i32_132 : BitVec 32 := 512#32
  let v263 : BitVec 32 := Scalar.muli v262 c512_i32_132
  let v264 : BitVec 32 := v263
  let v265 : Index := Scalar.indexCast v264
  let c0_133 : Index := 0#32
  ![v265.toNat, 0]
def k0_off6 (i : grid0.Coords) : Fin 2 → Nat :=
  let arg1 : BitVec 32 := BitVec.ofNat 32 (i 1).val
  let c1_i32_131 : BitVec 32 := 1#32
  let v262 : BitVec 32 := Scalar.addi arg1 c1_i32_131
  let c512_i32_132 : BitVec 32 := 512#32
  let v263 : BitVec 32 := Scalar.muli v262 c512_i32_132
  let v264 : BitVec 32 := v263
  let v301 : Index := Scalar.indexCast v264
  let c128_154 : Index := 128#32
  ![v301.toNat, 128]
@[reducible] def k0_t1_loop (i : grid0.Coords) : Scf.Loop 32 :=
  let c0_i32_106 : BitVec 32 := 0#32
  let c15_i32 : BitVec 32 := 15#32
  let arg1 : BitVec 32 := BitVec.ofNat 32 (i 1).val
  let v180 : BitVec 32 := Scalar.subi c15_i32 arg1
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_108 : BitVec 32 := 1#32
  ⟨c0_i32_106, v215, c1_i32_108⟩
def k0_mult4 (i : grid0.Coords) (k0_t1 : Fin (k0_t1_loop i).trips) : BitVec 32 :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c1_i32_108 : BitVec 32 := 1#32
  let arg14 : BitVec 32 := Scf.iv c0_i32_106 c1_i32_108 k0_t1
  let v264 : BitVec 32 := Scalar.muli c2_i32_132 arg14
  let v265 : BitVec 32 := Scalar.addi v263 v264
  let c512_i32_133 : BitVec 32 := 512#32
  let v266 : BitVec 32 := Scalar.muli v265 c512_i32_133
  v266
def k0_off7 (i : grid0.Coords) (k0_t1 : Fin (k0_t1_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c1_i32_108 : BitVec 32 := 1#32
  let arg14 : BitVec 32 := Scf.iv c0_i32_106 c1_i32_108 k0_t1
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v268 : Index := Scalar.indexCast v267
  let c0_134 : Index := 0#32
  ![v268.toNat, 0]
def k0_off8 (i : grid0.Coords) (k0_t1 : Fin (k0_t1_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c1_i32_108 : BitVec 32 := 1#32
  let arg14 : BitVec 32 := Scf.iv c0_i32_106 c1_i32_108 k0_t1
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v304 : Index := Scalar.indexCast v267
  let c128_155 : Index := 128#32
  ![v304.toNat, 128]
@[reducible] def k0_t2_loop (i : grid0.Coords) : Scf.Loop 32 :=
  let c0_i32_106 : BitVec 32 := 0#32
  let c15_i32 : BitVec 32 := 15#32
  let arg1 : BitVec 32 := BitVec.ofNat 32 (i 1).val
  let v180 : BitVec 32 := Scalar.subi c15_i32 arg1
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let v212 : BitVec 32 := Scalar.addi c0_i32_106 v211
  let c1_i32_109 : BitVec 32 := 1#32
  ⟨v215, v212, c1_i32_109⟩
def k0_mult5 (i : grid0.Coords) (k0_t2 : Fin (k0_t2_loop i).trips) : BitVec 32 :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_109 : BitVec 32 := 1#32
  let arg14 : BitVec 32 := Scf.iv v215 c1_i32_109 k0_t2
  let v264 : BitVec 32 := Scalar.muli c2_i32_132 arg14
  let v265 : BitVec 32 := Scalar.addi v263 v264
  let c512_i32_133 : BitVec 32 := 512#32
  let v266 : BitVec 32 := Scalar.muli v265 c512_i32_133
  v266
def k0_off9 (i : grid0.Coords) (k0_t2 : Fin (k0_t2_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_109 : BitVec 32 := 1#32
  let arg14 : BitVec 32 := Scf.iv v215 c1_i32_109 k0_t2
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v268 : Index := Scalar.indexCast v267
  let c0_134 : Index := 0#32
  ![v268.toNat, 0]
def k0_off10 (i : grid0.Coords) (k0_t2 : Fin (k0_t2_loop i).trips) : Fin 2 → Nat :=
  let arg1 : BitVec 32 := BitVec.ofNat 32 (i 1).val
  let c1_i32_131 : BitVec 32 := 1#32
  let v262 : BitVec 32 := Scalar.addi arg1 c1_i32_131
  let c15_i32 : BitVec 32 := 15#32
  let v180 : BitVec 32 := Scalar.subi c15_i32 arg1
  let c2_i32 : BitVec 32 := 2#32
  let c0_i32_92 : BitVec 32 := 0#32
  let v181 : BitVec 1 := Scalar.cmpi .eq c2_i32 c0_i32_92
  let c1_i32 : BitVec 32 := 1#32
  let v182 : BitVec 32 := Scalar.select v181 c1_i32 c2_i32
  let v183 : BitVec 32 := Scalar.remsi v180 v182
  let c0_i32_94 : BitVec 32 := 0#32
  let v185 : BitVec 1 := Scalar.cmpi .slt v183 c0_i32_94
  let c0_i32_95 : BitVec 32 := 0#32
  let v186 : BitVec 1 := Scalar.cmpi .slt v182 c0_i32_95
  let v187 : BitVec 1 := Scalar.xori v185 v186
  let c0_i32_93 : BitVec 32 := 0#32
  let v184 : BitVec 1 := Scalar.cmpi .ne v183 c0_i32_93
  let v188 : BitVec 1 := Scalar.andi v187 v184
  let v189 : BitVec 32 := Scalar.addi v183 v182
  let v190 : BitVec 32 := Scalar.select v188 v189 v183
  let v263 : BitVec 32 := Scalar.addi v262 v190
  let c2_i32_132 : BitVec 32 := 2#32
  let c0_i32_106 : BitVec 32 := 0#32
  let c0_i32_99 : BitVec 32 := 0#32
  let v195 : BitVec 1 := Scalar.cmpi .sgt v180 c0_i32_99
  let v196 : BitVec 32 := Scalar.extui v195
  let c0_i32_100 : BitVec 32 := 0#32
  let v197 : BitVec 1 := Scalar.cmpi .slt v180 c0_i32_100
  let v198 : BitVec 32 := Scalar.extui v197
  let v199 : BitVec 32 := Scalar.subi v196 v198
  let c2_i32_98 : BitVec 32 := 2#32
  let c0_i32_101 : BitVec 32 := 0#32
  let v200 : BitVec 1 := Scalar.cmpi .sgt c2_i32_98 c0_i32_101
  let v201 : BitVec 32 := Scalar.extui v200
  let c0_i32_102 : BitVec 32 := 0#32
  let v202 : BitVec 1 := Scalar.cmpi .slt c2_i32_98 c0_i32_102
  let v203 : BitVec 32 := Scalar.extui v202
  let v204 : BitVec 32 := Scalar.subi v201 v203
  let v205 : BitVec 1 := Scalar.cmpi .ne v199 v204
  let v206 : BitVec 32 := Scalar.remsi v180 c2_i32_98
  let c0_i32_103 : BitVec 32 := 0#32
  let v207 : BitVec 1 := Scalar.cmpi .ne v206 c0_i32_103
  let v208 : BitVec 1 := Scalar.andi v205 v207
  let v194 : BitVec 32 := Scalar.divsi v180 c2_i32_98
  let c1_i32_104 : BitVec 32 := 1#32
  let v209 : BitVec 32 := Scalar.subi v194 c1_i32_104
  let v210 : BitVec 32 := Scalar.select v208 v209 v194
  let v211 : BitVec 32 := Scalar.subi v210 c0_i32_106
  let c1_i32_107 : BitVec 32 := 1#32
  let v213 : BitVec 32 := Scalar.divsi v211 c1_i32_107
  let v214 : BitVec 32 := Scalar.muli v213 c1_i32_107
  let v215 : BitVec 32 := Scalar.addi c0_i32_106 v214
  let c1_i32_109 : BitVec 32 := 1#32
  let arg14 : BitVec 32 := Scf.iv v215 c1_i32_109 k0_t2
  let v264 : BitVec 32 := Scalar.muli c2_i32_132 arg14
  let v265 : BitVec 32 := Scalar.addi v263 v264
  let c512_i32_133 : BitVec 32 := 512#32
  let v266 : BitVec 32 := Scalar.muli v265 c512_i32_133
  let v267 : BitVec 32 := v266
  let v304 : Index := Scalar.indexCast v267
  let c128_155 : Index := 128#32
  ![v304.toNat, 128]
def k0_cond3 (i : grid0.Coords) : BitVec 1 :=
  let arg1 : BitVec 32 := BitVec.ofNat 32 (i 1).val
  let c15_i32_129 : BitVec 32 := 15#32
  let v259 : BitVec 1 := Scalar.cmpi .eq arg1 c15_i32_129
  let v260 : BitVec 32 := Scalar.extui v259
  let c0_i32_130 : BitVec 32 := 0#32
  let v261 : BitVec 1 := Scalar.cmpi .ne v260 c0_i32_130
  v261

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩
abbrev S8x8192x64 : Shape := ⟨3, ![8, 8192, 64]⟩
abbrev S4x8192x128 : Shape := ⟨3, ![4, 8192, 128]⟩
abbrev S8192x128 : Shape := ⟨2, ![8192, 128]⟩
abbrev S1x8192x128 : Shape := ⟨3, ![1, 8192, 128]⟩

abbrev nBuf : Space → Nat
  | .hbm => 180
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8192x8x64, .f32⟩
  | 7 => ⟨S8192x8x64, .f32⟩
  | 8 => ⟨S8x8192x8192, .f32⟩
  | 9 => ⟨S_, .f32⟩
  | 10 => ⟨S8x8192x8192, .f32⟩
  | 11 => ⟨S8x8192x8192, .f32⟩
  | 12 => ⟨S8x8192, .f32⟩
  | 13 => ⟨S8x8192x1, .f32⟩
  | 14 => ⟨S8x8192x8192, .f32⟩
  | 15 => ⟨S8x8192x8192, .f32⟩
  | 16 => ⟨S8x8192, .f32⟩
  | 17 => ⟨S8x1x8192, .f32⟩
  | 18 => ⟨S8x8192x8192, .f32⟩
  | 19 => ⟨S8x8192x8192, .f32⟩
  | 20 => ⟨S8192, .i32⟩
  | 21 => ⟨S8192x1, .i32⟩
  | 22 => ⟨S1x8192, .i32⟩
  | 23 => ⟨S8192x8192, .i32⟩
  | 24 => ⟨S8192x8192, .i32⟩
  | 25 => ⟨S8192x8192, .i1⟩
  | 26 => ⟨S_, .f32⟩
  | 27 => ⟨S_, .f32⟩
  | 28 => ⟨S8x8192x8192, .i1⟩
  | 29 => ⟨S8x8192x8192, .f32⟩
  | 30 => ⟨S8x8192x8192, .f32⟩
  | 31 => ⟨S_, .f32⟩
  | 32 => ⟨S8x8192x8192, .f32⟩
  | 33 => ⟨S_, .f32⟩
  | 34 => ⟨S8x8192, .f32⟩
  | 35 => ⟨S8x8192x1, .f32⟩
  | 36 => ⟨S8x8192x8192, .f32⟩
  | 37 => ⟨S8x8192x8192, .i1⟩
  | 38 => ⟨S8x8192x8192, .f32⟩
  | 39 => ⟨S_, .f32⟩
  | 40 => ⟨S8x8192, .f32⟩
  | 41 => ⟨S_, .f32⟩
  | 42 => ⟨S8x8192, .f32⟩
  | 43 => ⟨S8x8192, .f32⟩
  | 44 => ⟨S_, .f32⟩
  | 45 => ⟨S8x8192, .f32⟩
  | 46 => ⟨S8x8192, .i1⟩
  | 47 => ⟨S_, .f32⟩
  | 48 => ⟨S8x8192, .f32⟩
  | 49 => ⟨S8x8192, .i1⟩
  | 50 => ⟨S_, .f32⟩
  | 51 => ⟨S8x8192, .f32⟩
  | 52 => ⟨S_, .f32⟩
  | 53 => ⟨S8x8192, .f32⟩
  | 54 => ⟨S_, .f32⟩
  | 55 => ⟨S8x8192, .f32⟩
  | 56 => ⟨S8x8192, .f32⟩
  | 57 => ⟨S8x8192, .f32⟩
  | 58 => ⟨S8x8192x1, .f32⟩
  | 59 => ⟨S8x8192x8192, .f32⟩
  | 60 => ⟨S8x8192x8192, .f32⟩
  | 61 => ⟨S8x8192x8192, .f32⟩
  | 62 => ⟨S_, .f32⟩
  | 63 => ⟨S8x8192, .f32⟩
  | 64 => ⟨S8x8192x1, .f32⟩
  | 65 => ⟨S8x8192x8192, .f32⟩
  | 66 => ⟨S8x8192x8192, .f32⟩
  | 67 => ⟨S8x8192x1, .f32⟩
  | 68 => ⟨S_, .f32⟩
  | 69 => ⟨S8x8192x1, .f32⟩
  | 70 => ⟨S8x8192x1, .f32⟩
  | 71 => ⟨S8x64x8192, .f32⟩
  | 72 => ⟨S8192x8x64, .f32⟩
  | 73 => ⟨S8192x512, .f32⟩
  | 74 => ⟨S8192x8x64, .f32⟩
  | 75 => ⟨S8x64x8192, .f32⟩
  | 76 => ⟨S8x8192x8192, .f32⟩
  | 77 => ⟨S8x64x8192, .f32⟩
  | 78 => ⟨S8192x8x64, .f32⟩
  | 79 => ⟨S8x8192x8192, .f32⟩
  | 80 => ⟨S8x8192x8192, .f32⟩
  | 81 => ⟨S8x8192x8192, .f32⟩
  | 82 => ⟨S_, .f32⟩
  | 83 => ⟨S8x8192, .f32⟩
  | 84 => ⟨S8x8192x1, .f32⟩
  | 85 => ⟨S8x8192x1, .f32⟩
  | 86 => ⟨S8x8192x8192, .f32⟩
  | 87 => ⟨S8x8192x8192, .f32⟩
  | 88 => ⟨S_, .f32⟩
  | 89 => ⟨S8x8192, .f32⟩
  | 90 => ⟨S8x8192x8192, .f32⟩
  | 91 => ⟨S8x8192x8192, .f32⟩
  | 92 => ⟨S8x8192x8192, .f32⟩
  | 93 => ⟨S_, .f32⟩
  | 94 => ⟨S8x8192x8192, .f32⟩
  | 95 => ⟨S8x8192x8192, .f32⟩
  | 96 => ⟨S8x8192x8192, .f32⟩
  | 97 => ⟨S_, .f32⟩
  | 98 => ⟨S8x8192, .f32⟩
  | 99 => ⟨S8x1x8192, .f32⟩
  | 100 => ⟨S_, .f32⟩
  | 101 => ⟨S8x8192, .f32⟩
  | 102 => ⟨S8192x8, .f32⟩
  | 103 => ⟨S_, .f32⟩
  | 104 => ⟨S8x8192, .f32⟩
  | 105 => ⟨S8x8192x1, .f32⟩
  | 106 => ⟨S_, .f32⟩
  | 107 => ⟨S8x8192, .f32⟩
  | 108 => ⟨S8192x8, .f32⟩
  | 109 => ⟨S_, .f32⟩
  | 110 => ⟨S8x8192x8192, .f32⟩
  | 111 => ⟨S8x8192x8192, .f32⟩
  | 112 => ⟨S8x8192x64, .f32⟩
  | 113 => ⟨S8192x8x64, .f32⟩
  | 114 => ⟨S8x8192x64, .f32⟩
  | 115 => ⟨S8192x8x64, .f32⟩
  | 116 => ⟨S8192x512, .f32⟩
  | 117 => ⟨S8192x512, .f32⟩
  | 118 => ⟨S8192x512, .f32⟩
  | 119 => ⟨S4x8192x128, .i32⟩
  | 120 => ⟨S4x8192x128, .i32⟩
  | 121 => ⟨S8192x512, .bf16⟩
  | 122 => ⟨S8192x512, .bf16⟩
  | 123 => ⟨S8192x512, .bf16⟩
  | 124 => ⟨S_, .i32⟩
  | 125 => ⟨S_, .i32⟩
  | 126 => ⟨S4x8192x128, .i32⟩
  | 127 => ⟨S4x8192x128, .i32⟩
  | _ => ⟨S8192x512, .f32⟩

abbrev hbmTy0_1 (i : Nat) : BufTy := match i % 128 with
  | 0 => ⟨S4x8192x128, .i32⟩
  | 1 => ⟨S_, .i32⟩
  | 2 => ⟨S4x8192x128, .i32⟩
  | 3 => ⟨S4x8192x128, .i1⟩
  | 4 => ⟨S4x8192x128, .i32⟩
  | 5 => ⟨S4x8192x128, .i32⟩
  | 6 => ⟨S_, .i32⟩
  | 7 => ⟨S4x8192x128, .i32⟩
  | 8 => ⟨S4x8192x128, .i1⟩
  | 9 => ⟨S4x8192x128, .i1⟩
  | 10 => ⟨S_, .i32⟩
  | 11 => ⟨S4x8192x128, .i32⟩
  | 12 => ⟨S4x8192x128, .i32⟩
  | 13 => ⟨S4x8192x128, .i32⟩
  | 14 => ⟨S4x8192x128, .i1⟩
  | 15 => ⟨S_, .i32⟩
  | 16 => ⟨S_, .f32⟩
  | 17 => ⟨S8192x128, .f32⟩
  | 18 => ⟨S1x8192x128, .f32⟩
  | 19 => ⟨S_, .f32⟩
  | 20 => ⟨S_, .f32⟩
  | 21 => ⟨S4x8192x128, .f32⟩
  | 22 => ⟨S4x8192x128, .f32⟩
  | 23 => ⟨S4x8192x128, .f32⟩
  | 24 => ⟨S_, .i32⟩
  | 25 => ⟨S_, .i32⟩
  | 26 => ⟨S4x8192x128, .i32⟩
  | 27 => ⟨S4x8192x128, .i32⟩
  | 28 => ⟨S4x8192x128, .i32⟩
  | 29 => ⟨S_, .i32⟩
  | 30 => ⟨S4x8192x128, .i32⟩
  | 31 => ⟨S4x8192x128, .i1⟩
  | 32 => ⟨S4x8192x128, .i32⟩
  | 33 => ⟨S4x8192x128, .i32⟩
  | 34 => ⟨S_, .i32⟩
  | 35 => ⟨S4x8192x128, .i32⟩
  | 36 => ⟨S4x8192x128, .i1⟩
  | 37 => ⟨S4x8192x128, .i1⟩
  | 38 => ⟨S_, .i32⟩
  | 39 => ⟨S4x8192x128, .i32⟩
  | 40 => ⟨S4x8192x128, .i32⟩
  | 41 => ⟨S4x8192x128, .i32⟩
  | 42 => ⟨S4x8192x128, .i1⟩
  | 43 => ⟨S_, .i32⟩
  | 44 => ⟨S_, .f32⟩
  | 45 => ⟨S8192x128, .f32⟩
  | 46 => ⟨S1x8192x128, .f32⟩
  | 47 => ⟨S_, .f32⟩
  | 48 => ⟨S_, .f32⟩
  | 49 => ⟨S4x8192x128, .f32⟩
  | 50 => ⟨S4x8192x128, .f32⟩
  | 51 => ⟨S4x8192x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_c : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_0 : Ref sig .tc := ⟨.hbm, 138, rfl⟩
abbrev main_call2_v12 : Ref sig .tc := ⟨.hbm, 139, rfl⟩
abbrev main_call2_v13 : Ref sig .tc := ⟨.hbm, 140, rfl⟩
abbrev main_v93 : Ref sig .tc := ⟨.hbm, 141, rfl⟩
abbrev main_v94 : Ref sig .tc := ⟨.hbm, 142, rfl⟩
abbrev main_c_18 : Ref sig .tc := ⟨.hbm, 143, rfl⟩
abbrev main_call3_v0 : Ref sig .tc := ⟨.hbm, 144, rfl⟩
abbrev main_v95 : Ref sig .tc := ⟨.hbm, 145, rfl⟩
abbrev main_v96 : Ref sig .tc := ⟨.hbm, 146, rfl⟩
abbrev main_cst_19 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_v97 : Ref sig .tc := ⟨.hbm, 151, rfl⟩
abbrev main_c_20 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_c : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_c_0 : Ref sig .tc := ⟨.hbm, 166, rfl⟩
abbrev main_call5_v12 : Ref sig .tc := ⟨.hbm, 167, rfl⟩
abbrev main_call5_v13 : Ref sig .tc := ⟨.hbm, 168, rfl⟩
abbrev main_v98 : Ref sig .tc := ⟨.hbm, 169, rfl⟩
abbrev main_v99 : Ref sig .tc := ⟨.hbm, 170, rfl⟩
abbrev main_c_21 : Ref sig .tc := ⟨.hbm, 171, rfl⟩
abbrev main_call6_v0 : Ref sig .tc := ⟨.hbm, 172, rfl⟩
abbrev main_v100 : Ref sig .tc := ⟨.hbm, 173, rfl⟩
abbrev main_v101 : Ref sig .tc := ⟨.hbm, 174, rfl⟩
abbrev main_cst_22 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_v102 : Ref sig .tc := ⟨.hbm, 179, rfl⟩

abbrev nD : Nat := 1
abbrev τ : Topo := Topo.v7x

variable {F : FTy → Type} [FloatOps F]
-- ==== KernelUp.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S_, .f32⟩
  | .hbm, ⟨8, _⟩ => ⟨S1024x5632, .f32⟩
  | .hbm, ⟨9, _⟩ => ⟨S8192x1024, .f32⟩
  | .hbm, ⟨10, _⟩ => ⟨S8192x5632, .f32⟩
  | .hbm, ⟨11, _⟩ => ⟨S8192x5632, .f32⟩
  | .hbm, ⟨12, _⟩ => ⟨S5632x1024, .f32⟩
  | .hbm, ⟨13, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceActIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceOutIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x1024, .bf16⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelIn.lean ====
abbrev S8192x1024 : Shape := ⟨2, ![8192, 1024]⟩
abbrev S8192x512 : Shape := ⟨2, ![8192, 512]⟩
abbrev S8192x128 : Shape := ⟨2, ![8192, 128]⟩
abbrev S1024x2688 : Shape := ⟨2, ![1024, 2688]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x128, .bf16⟩
  | .hbm, ⟨6, _⟩ => ⟨S1024x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S1024x2688, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceInIdeal.lean ====
abbrev S8192x1024 : Shape := ⟨2, ![8192, 1024]⟩
abbrev S8192x512 : Shape := ⟨2, ![8192, 512]⟩
abbrev S8192x128 : Shape := ⟨2, ![8192, 128]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x128, .bf16⟩
  | .hbm, ⟨6, _⟩ => ⟨S8192x2688, .bf16⟩
  | .hbm, ⟨7, _⟩ => ⟨S_, .f32⟩
  | .hbm, ⟨8, _⟩ => ⟨S1024x2688, .f32⟩
  | .hbm, ⟨9, _⟩ => ⟨S8192x1024, .f32⟩
  | .hbm, ⟨10, _⟩ => ⟨S8192x2688, .f32⟩
  | .hbm, ⟨11, _⟩ => ⟨S8192x2688, .f32⟩
  | .hbm, ⟨12, _⟩ => ⟨S2688x1024, .f32⟩
  | .hbm, ⟨13, _⟩ => ⟨S1024x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== KernelX.lean ====
abbrev S8192x512 : Shape := ⟨2, ![8192, 512]⟩
abbrev S8192x1024 : Shape := ⟨2, ![8192, 1024]⟩
abbrev S8192x128 : Shape := ⟨2, ![8192, 128]⟩
abbrev S2688x1024 : Shape := ⟨2, ![2688, 1024]⟩
abbrev S1x1024 : Shape := ⟨2, ![1, 1024]⟩
abbrev S8x1024 : Shape := ⟨2, ![8, 1024]⟩
abbrev S512x512 : Shape := ⟨2, ![512, 512]⟩
abbrev S512x1024 : Shape := ⟨2, ![512, 1024]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S8192x128, .bf16⟩
  | .hbm, ⟨5, _⟩ => ⟨S2688x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S2688x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceXIdeal.lean ====
abbrev S8192x512 : Shape := ⟨2, ![8192, 512]⟩
abbrev S8192x1024 : Shape := ⟨2, ![8192, 1024]⟩
abbrev S8192x128 : Shape := ⟨2, ![8192, 128]⟩
abbrev S2688x1024 : Shape := ⟨2, ![2688, 1024]⟩
abbrev S1x1024 : Shape := ⟨2, ![1, 1024]⟩
abbrev S8192x2688 : Shape := ⟨2, ![8192, 2688]⟩
abbrev S1024x2688 : Shape := ⟨2, ![1024, 2688]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1024, .bf16⟩
  | .hbm, ⟨4, _⟩ => ⟨S8192x128, .bf16⟩
  | .hbm, ⟨5, _⟩ => ⟨S2688x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x2688, .bf16⟩
  | .hbm, ⟨10, _⟩ => ⟨S8192x2688, .f32⟩
  | .hbm, ⟨11, _⟩ => ⟨S2688x1024, .f32⟩
  | .hbm, ⟨12, _⟩ => ⟨S1024x2688, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2688, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .i32⟩
  | .hbm, ⟨59, _⟩ => ⟨S_, .f32⟩
  | .hbm, ⟨60, _⟩ => ⟨S8x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_call0_v0 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== KernelMid.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024 : Shape := ⟨2, ![1, 1024]⟩
abbrev S8x1024 : Shape := ⟨2, ![8, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceMidIdeal.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024 : Shape := ⟨2, ![1, 1024]⟩
abbrev S1x8192x2816 : Shape := ⟨3, ![1, 8192, 2816]⟩
abbrev S8192x2816 : Shape := ⟨2, ![8192, 2816]⟩
abbrev S8192x5632 : Shape := ⟨2, ![8192, 5632]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x8192x2816, .bf16⟩
  | .hbm, ⟨6, _⟩ => ⟨S8192x2816, .bf16⟩
  | .hbm, ⟨7, _⟩ => ⟨S1x8192x2816, .bf16⟩
  | .hbm, ⟨8, _⟩ => ⟨S8192x2816, .bf16⟩
  | .hbm, ⟨9, _⟩ => ⟨S8192x5632, .bf16⟩
  | .hbm, ⟨10, _⟩ => ⟨S8192x5632, .f32⟩
  | .hbm, ⟨11, _⟩ => ⟨S5632x1024, .f32⟩
  | .hbm, ⟨12, _⟩ => ⟨S1024x5632, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S_, .i32⟩
  | .hbm, ⟨61, _⟩ => ⟨S_, .f32⟩
  | .hbm, ⟨62, _⟩ => ⟨S8x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c : Ref sig .tc := ⟨.hbm, 60, rfl⟩
abbrev main_call0_v0 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.Step.lean ====
/-
  Loads and stores of a whole-memref resource, by values. A memref owned at contents `X` (`owns`) is loaded as the
  window of `X` at the load's rectangle, and after an unmasked store it is owned at `X` with the payload put over the
  window. The kernel's parts are gone through with these two rules alone: no list of pieces, no view.
-/
module

public import Idealize.ShloMosaic.Lib.VecWindow
public import Idealize.ShloMosaic.Lib.Pipeline.TableIdle

@[expose] public section

noncomputable section

namespace Cert.Proof.Step

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable [∀ e, Nonempty (Val e)]

/-- A load from a memref owned at `X` hands the continuation the window of `X` the load's box names. -/
theorem load {defs : Defs nD τ sig Val Λ} {𝒱 : Variants} {c : Thread nD τ} {bd : Option 𝒱.V} {E : Set Name} {α : Type}
    {cs : CoreSpace} {s : Shape} {e : EltTy} {Q : α → sProp 𝕄} {P R : sProp 𝕄} {m : Memref sig c.2.kind cs s e} {r : Rect s}
    {hl : m.view.LoadsAt r.toLoadRect} {k : (r.toLoadRect.shape.Idx → Val e) → Prog (TpuEff nD τ sig Val Λ c.2) α} {q : PosShare TreeShare}
    {X : s.Idx → Val e} (hP : P ⊣⊢ R ∗ owns c m q X)
    (h : P ⊢ wp frame (wpE defs 𝒱 c bd) E (k (View.ld X r)) Q) :
    P ⊢ wp frame (wpE defs 𝒱 c bd) E (.op (.load m r.toLoadRect hl) k) Q := by
  rw [owns_eq_rep] at hP
  refine exec_load 𝒱 c bd E hP ?_ _ ?_ h
  · exact View.setOn_subset_set _ _
  · rw [View.readAt_eq_ld, View.read_rep]

/-- An unmasked store at a unit-stride box into a memref owned at `X` leaves it owned at `X` with the payload put
    over the box. -/
theorem store {defs : Defs nD τ sig Val Λ} {𝒱 : Variants} {c : Thread nD τ} {bd : Option 𝒱.V} {E : Set Name} {α : Type}
    {cs : CoreSpace} {s : Shape} {e : EltTy} {Q : α → sProp 𝕄} {P R P' : sProp 𝕄} {m : Memref sig c.2.kind cs s e}
    {off size : Fin s.rank → ℕ} {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α}
    {X : s.Idx → Val e} (hP : P ⊣⊢ R ∗ owns c m fullShare X) (hP' : P' ⊣⊢ R ∗ owns c m fullShare (VecWindow.put X off size w))
    (h : P' ⊢ wp frame (wpE defs 𝒱 c bd) E (k ⟨⟩) Q) :
    P ⊢ wp frame (wpE defs 𝒱 c bd) E (.op (.store m (Rect.unit off size inb) w Finset.univ hx hm) k) Q := by
  rw [owns_eq_rep] at hP
  refine exec_store 𝒱 c bd E (f := m.view.rep X) (L := []) hP ?_ _ rfl (P' := iprop(R ∗ (m.view.loc c ↦[m.view.set]{fullShare} m.view.writes Val (m.view.rep X) [⟨Rect.unit off size inb, w⟩]))) ⟨.rfl, .rfl⟩ ?_
  · exact View.set_slice_subset _ _
  · refine Entails.trans ?_ h
    refine Entails.trans ?_ hP'.2
    refine sep_mono .rfl ?_
    rw [← View.read_writes_rep_unit m.view X inb w rfl]
    exact owns_intro c m fullShare _

end Cert.Proof.Step

end
-- ==== Proof.State.lean ====
/-
  The contents of the attention backward kernel's twelve operands as one record (`St`), the resource that holds them
  (`Held`), and the load and store rule of each operand over that resource.
-/
module

public import proofs.«01_k».proof.Proof.Step
public import proofs.«01_k».proof.Proof.Gen.KernelIdeal.Skeleton
public import proofs.«01_k».proof.Proof.Gen.KernelIdeal.Launch
public import Idealize.ShloMosaic.Lib.Pipeline.Kit

@[expose] public section

noncomputable section

namespace Cert.Proof.Attn

open Cert.KernelIdeal Cert.KernelIdeal.Gen
open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline

variable {F : FTy → Type} [FloatOps F]

local notation "𝕄" => MT nD τ sig Unit (Elt F) ℕ (UR sig nD τ) ℕ

/-- What the kernel's operands hold. -/
@[ext] structure St (F : FTy → Type) where
  /-- the queries of the pair, all rows -/
  x2 : Vec F S8192x256 .bf16
  /-- the incoming gradients, all rows -/
  x3 : Vec F S8192x256 .bf16
  /-- the block's keys -/
  x4 : Vec F S512x256 .bf16
  /-- the block's values -/
  x5 : Vec F S512x256 .bf16
  /-- the gradient of the queries (written at the last block) -/
  x6 : Vec F S8192x128 .bf16
  /-- the block's gradient of the keys -/
  x7 : Vec F S512x128 .bf16
  /-- the block's gradient of the values -/
  x8 : Vec F S512x128 .bf16
  /-- the query side of the gate gradients (written at the last block) -/
  x9 : Vec F S1x8192x128 .f32
  /-- the key side of the gate gradients -/
  x10 : Vec F S1x512x128 .f32
  /-- the accumulator of the queries -/
  x11 : Vec F S8192x256 .f32
  /-- the accumulator of the keys -/
  x12 : Vec F S512x256 .f32
  /-- the accumulator of the values -/
  x13 : Vec F S512x256 .f32

/-- The kernel's operands: the staging buffers of a grid point and the three scratch buffers. -/
structure Ops where
  /-- the queries of the pair, all rows -/
  a2 : Memref sig .tc .vmem S8192x256 .bf16
  /-- the incoming gradients, all rows -/
  a3 : Memref sig .tc .vmem S8192x256 .bf16
  /-- the block's keys -/
  a4 : Memref sig .tc .vmem S512x256 .bf16
  /-- the block's values -/
  a5 : Memref sig .tc .vmem S512x256 .bf16
  /-- the gradient of the queries (written at the last block) -/
  a6 : Memref sig .tc .vmem S8192x128 .bf16
  /-- the block's gradient of the keys -/
  a7 : Memref sig .tc .vmem S512x128 .bf16
  /-- the block's gradient of the values -/
  a8 : Memref sig .tc .vmem S512x128 .bf16
  /-- the query side of the gate gradients (written at the last block) -/
  a9 : Memref sig .tc .vmem S1x8192x128 .f32
  /-- the key side of the gate gradients -/
  a10 : Memref sig .tc .vmem S1x512x128 .f32
  /-- the accumulator of the queries -/
  a11 : Memref sig .tc .vmem S8192x256 .f32
  /-- the accumulator of the keys -/
  a12 : Memref sig .tc .vmem S512x256 .f32
  /-- the accumulator of the values -/
  a13 : Memref sig .tc .vmem S512x256 .f32

variable (c : Dev nD) (A : Ops)

/-- The operands are owned at the contents of `s`. -/
def Held (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- All operands but operand 2. -/
def Rest2 (s : St F) : sProp 𝕄 :=
  iprop(owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 2 beside the others. -/
theorem held2 (s : St F) (v : Vec F S8192x256 .bf16) :
    Held c A { s with x2 := v } ⊣⊢ iprop(Rest2 c A s ∗ owns (c : Thread nD τ) A.a2 fullShare v) := by
  constructor
  · unfold Held Rest2
    iintro ⟨H2, H3, H4, H5, H6, H7, H8, H9, H10, H11, H12, H13⟩
    isplitr [H2]
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact H2
  · unfold Held Rest2
    iintro ⟨⟨H3, H4, H5, H6, H7, H8, H9, H10, H11, H12, H13⟩, H2⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 3. -/
def Rest3 (s : St F) : sProp 𝕄 :=
  iprop(owns (c : Thread nD τ) A.a2 fullShare s.x2 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 3 beside the others. -/
theorem held3 (s : St F) (v : Vec F S8192x256 .bf16) :
    Held c A { s with x3 := v } ⊣⊢ iprop(Rest3 c A s ∗ owns (c : Thread nD τ) A.a3 fullShare v) := by
  constructor
  · unfold Held Rest3
    iintro ⟨H2, H3, H4, H5, H6, H7, H8, H9, H10, H11, H12, H13⟩
    isplitr [H3]
    · isplitl [H2]; · iexact H2
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact H3
  · unfold Held Rest3
    iintro ⟨⟨H2, H4, H5, H6, H7, H8, H9, H10, H11, H12, H13⟩, H3⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 4. -/
def Rest4 (s : St F) : sProp 𝕄 :=
  iprop(owns (c : Thread nD τ) A.a2 fullShare s.x2 ∗ owns (c : Thread nD τ) A.a3 fullShare s.x3 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 4 beside the others. -/
theorem held4 (s : St F) (v : Vec F S512x256 .bf16) :
    Held c A { s with x4 := v } ⊣⊢ iprop(Rest4 c A s ∗ owns (c : Thread nD τ) A.a4 fullShare v) := by
  constructor
  · unfold Held Rest4
    iintro ⟨H2, H3, H4, H5, H6, H7, H8, H9, H10, H11, H12, H13⟩
    isplitr [H4]
    · isplitl [H2]; · iexact H2
      isplitl [H3]; · iexact H3
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact H4
  · unfold Held Rest4
    iintro ⟨⟨H2, H3, H5, H6, H7, H8, H9, H10, H11, H12, H13⟩, H4⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 5. -/
def Rest5 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 5 beside the others. -/
theorem held5 (s : St F) (v : Vec F S512x256 .bf16) :
    Held c A { s with x5 := v } ⊣⊢ iprop(Rest5 c A s ∗ owns (c : Thread nD τ) A.a5 fullShare v) := by
  constructor
  · unfold Held Rest5
    iintro ⟨H2, H3, H4, H5, H6, H7, H8, H9, H10, H11, H12, H13⟩
    isplitr [H5]
    · isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact H5
  · unfold Held Rest5
    iintro ⟨⟨H2, H3, H4, H6, H7, H8, H9, H10, H11, H12, H13⟩, H5⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 6. -/
def Rest6 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 6 beside the others. -/
theorem held6 (s : St F) (v : Vec F S8192x128 .bf16) :
    Held c A { s with x6 := v } ⊣⊢ iprop(Rest6 c A s ∗ owns (c : Thread nD τ) A.a6 fullShare v) := by
  constructor
  · unfold Held Rest6
    iintro ⟨H2, H3, H4, H5, H6, H7, H8, H9, H10, H11, H12, H13⟩
    isplitr [H6]
    · isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      iexact H13
    iexact H6
  · unfold Held Rest6
    iintro ⟨⟨H2, H3, H4, H5, H7, H8, H9, H10, H11, H12, H13⟩, H6⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 7. -/
def Rest7 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 7 beside the others. -/
theorem held7 (s : St F) (v : Vec F S512x128 .bf16) :
    Held c A { s with x7 := v } ⊣⊢ iprop(Rest7 c A s ∗ owns (c : Thread nD τ) A.a7 fullShare v) := by
  constructor
  · unfold Held Rest7
    iintro ⟨H2, H3, H4, H5, H6, H7, H8, H9, H10, H11, H12, H13⟩
    isplitr [H7]
    · isplitl [H2]; · iexact H2
      isplitl [H3]; · iexact H3
      isplitl [H4]; · iexact H4
      isplitl [H5]; · iexact H5
      isplitl [H6]; · iexact H6
      isplitl [H8]; · iexact H8
      isplitl [H9]; · iexact H9
      isplitl [H10]; · iexact H10
      isplitl [H11]; · iexact H11
      isplitl [H12]; · iexact H12
      iexact H13
    iexact H7
  · unfold Held Rest7
    iintro ⟨⟨H2, H3, H4, H5, H6, H8, H9, H10, H11, H12, H13⟩, H7⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 8. -/
def Rest8 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 8 beside the others. -/
theorem held8 (s : St F) (v : Vec F S512x128 .bf16) :
    Held c A { s with x8 := v } ⊣⊢ iprop(Rest8 c A s ∗ owns (c : Thread nD τ) A.a8 fullShare v) := by
  constructor
  · unfold Held Rest8
    iintro ⟨H2, H3, H4, H5, H6, H7, H8, H9, H10, H11, H12, H13⟩
    isplitr [H8]
    · isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      iexact H13
    iexact H8
  · unfold Held Rest8
    iintro ⟨⟨H2, H3, H4, H5, H6, H7, H9, H10, H11, H12, H13⟩, H8⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 9. -/
def Rest9 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a10 fullShare s.x10 ∗ owns (c : Thread nD τ) A.a11 fullShare s.x11 ∗ owns (c : Thread nD τ) A.a12 fullShare s.x12 ∗ owns (c : Thread nD τ) A.a13 fullShare s.x13)

/-- Operand 9 beside the others. -/
theorem held9 (s : St F) (v : Vec F S1x8192x128 .f32) :
    Held c A { s with x9 := v } ⊣⊢ iprop(Rest9 c A s ∗ owns (c : Thread nD τ) A.a9 fullShare v) := by
  constructor
  · unfold Held Rest9
    iintro ⟨H2, H3, H4, H5, H6, H7, H8, H9, H10, H11, H12, H13⟩
    isplitr [H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H11]; · iexact H11
      isplitl [H12]; · iexact H12
      iexact H13
    iexact H9
  · unfold Held Rest9
    iintro ⟨⟨H2, H3, H4, H5, H6, H7, H8, H10, H11, H12, H13⟩, H9⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 10. -/
def Rest10 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a11 fullShare s.x11 ∗ owns (c : Thread nD τ) A.a12 fullShare s.x12 ∗ owns (c : Thread nD τ) A.a13 fullShare s.x13)

/-- Operand 10 beside the others. -/
theorem held10 (s : St F) (v : Vec F S1x512x128 .f32) :
    Held c A { s with x10 := v } ⊣⊢ iprop(Rest10 c A s ∗ owns (c : Thread nD τ) A.a10 fullShare v) := by
  constructor
  · unfold Held Rest10
    iintro ⟨H2, H3, H4, H5, H6, H7, H8, H9, H10, H11, H12, H13⟩
    isplitr [H10]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      isplitl [H12]; · iexact H12
      iexact H13
    iexact H10
  · unfold Held Rest10
    iintro ⟨⟨H2, H3, H4, H5, H6, H7, H8, H9, H11, H12, H13⟩, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 11. -/
def Rest11 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a12 fullShare s.x12 ∗ owns (c : Thread nD τ) A.a13 fullShare s.x13)

/-- Operand 11 beside the others. -/
theorem held11 (s : St F) (v : Vec F S8192x256 .f32) :
    Held c A { s with x11 := v } ⊣⊢ iprop(Rest11 c A s ∗ owns (c : Thread nD τ) A.a11 fullShare v) := by
  constructor
  · unfold Held Rest11
    iintro ⟨H2, H3, H4, H5, H6, H7, H8, H9, H10, H11, H12, H13⟩
    isplitr [H11]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      iexact H13
    iexact H11
  · unfold Held Rest11
    iintro ⟨⟨H2, H3, H4, H5, H6, H7, H8, H9, H10, H12, H13⟩, H11⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 12. -/
def Rest12 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a13 fullShare s.x13)

/-- Operand 12 beside the others. -/
theorem held12 (s : St F) (v : Vec F S512x256 .f32) :
    Held c A { s with x12 := v } ⊣⊢ iprop(Rest12 c A s ∗ owns (c : Thread nD τ) A.a12 fullShare v) := by
  constructor
  · unfold Held Rest12
    iintro ⟨H2, H3, H4, H5, H6, H7, H8, H9, H10, H11, H12, H13⟩
    isplitr [H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H13
    iexact H12
  · unfold Held Rest12
    iintro ⟨⟨H2, H3, H4, H5, H6, H7, H8, H9, H10, H11, H13⟩, H12⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- All operands but operand 13. -/
def Rest13 (s : St F) : sProp 𝕄 :=
  iprop(owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12)

/-- Operand 13 beside the others. -/
theorem held13 (s : St F) (v : Vec F S512x256 .f32) :
    Held c A { s with x13 := v } ⊣⊢ iprop(Rest13 c A s ∗ owns (c : Thread nD τ) A.a13 fullShare v) := by
  constructor
  · unfold Held Rest13
    iintro ⟨H2, H3, H4, H5, H6, H7, H8, H9, H10, H11, H12, H13⟩
    isplitr [H13]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact H13
  · unfold Held Rest13
    iintro ⟨⟨H2, H3, H4, H5, H6, H7, H8, H9, H10, H11, H12⟩, H13⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

variable {𝒱 : Variants} {bd : Option 𝒱.V} {E : Set ℕ} (s : St F)

/-- The weakest precondition at the kernel's body table. -/
abbrev WP {α : Type} (𝒱 : Variants) (bd : Option 𝒱.V) (E : Set ℕ) (p : Prog (TpuEff nD τ sig (Elt F) Λ₀ .tc) α) (Q : α → sProp 𝕄) : sProp 𝕄 :=
  wp frame (wpE (defs₀ (F := F)) 𝒱 (c : Thread nD τ) bd) E p Q

/-- A load of operand 2. -/
theorem ld2 {α : Type} {Q : α → sProp 𝕄} {r : Rect S8192x256} {hl : A.a2.view.LoadsAt r.toLoadRect}
    {k : (r.toLoadRect.shape.Idx → Elt F .bf16) → Prog (TpuEff nD τ sig (Elt F) Λ₀ .tc) α}
    (h : Held c A s ⊢ WP c 𝒱 bd E (k (View.ld s.x2 r)) Q) : Held c A s ⊢ WP c 𝒱 bd E (.op (.load A.a2 r.toLoadRect hl) k) Q :=
  Step.load (held2 c A s s.x2) h

/-- A store to operand 2. -/
theorem st2 {α : Type} {Q : α → sProp 𝕄} {off size : Fin S8192x256.rank → ℕ} {inb : ∀ a, off a + size a ≤ S8192x256.size a} {w : (Rect.unit off size inb).shape.Idx → Elt F .bf16}
    {hx : (A.a2.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x2 := VecWindow.put s.x2 off size w } ⊢ WP c 𝒱 bd E (k ⟨⟩) Q) :
    Held c A s ⊢ WP c 𝒱 bd E (.op (.store A.a2 (Rect.unit off size inb) w Finset.univ hx hm) k) Q :=
  Step.store (held2 c A s s.x2) (held2 c A s _) h

/-- A load of operand 3. -/
theorem ld3 {α : Type} {Q : α → sProp 𝕄} {r : Rect S8192x256} {hl : A.a3.view.LoadsAt r.toLoadRect}
    {k : (r.toLoadRect.shape.Idx → Elt F .bf16) → Prog (TpuEff nD τ sig (Elt F) Λ₀ .tc) α}
    (h : Held c A s ⊢ WP c 𝒱 bd E (k (View.ld s.x3 r)) Q) : Held c A s ⊢ WP c 𝒱 bd E (.op (.load A.a3 r.toLoadRect hl) k) Q :=
  Step.load (held3 c A s s.x3) h

/-- A store to operand 3. -/
theorem st3 {α : Type} {Q : α → sProp 𝕄} {off size : Fin S8192x256.rank → ℕ} {inb : ∀ a, off a + size a ≤ S8192x256.size a} {w : (Rect.unit off size inb).shape.Idx → Elt F .bf16}
    {hx : (A.a3.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x3 := VecWindow.put s.x3 off size w } ⊢ WP c 𝒱 bd E (k ⟨⟩) Q) :
    Held c A s ⊢ WP c 𝒱 bd E (.op (.store A.a3 (Rect.unit off size inb) w Finset.univ hx hm) k) Q :=
  Step.store (held3 c A s s.x3) (held3 c A s _) h

/-- A load of operand 4. -/
theorem ld4 {α : Type} {Q : α → sProp 𝕄} {r : Rect S512x256} {hl : A.a4.view.LoadsAt r.toLoadRect}
    {k : (r.toLoadRect.shape.Idx → Elt F .bf16) → Prog (TpuEff nD τ sig (Elt F) Λ₀ .tc) α}
    (h : Held c A s ⊢ WP c 𝒱 bd E (k (View.ld s.x4 r)) Q) : Held c A s ⊢ WP c 𝒱 bd E (.op (.load A.a4 r.toLoadRect hl) k) Q :=
  Step.load (held4 c A s s.x4) h

/-- A store to operand 4. -/
theorem st4 {α : Type} {Q : α → sProp 𝕄} {off size : Fin S512x256.rank → ℕ} {inb : ∀ a, off a + size a ≤ S512x256.size a} {w : (Rect.unit off size inb).shape.Idx → Elt F .bf16}
    {hx : (A.a4.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x4 := VecWindow.put s.x4 off size w } ⊢ WP c 𝒱 bd E (k ⟨⟩) Q) :
    Held c A s ⊢ WP c 𝒱 bd E (.op (.store A.a4 (Rect.unit off size inb) w Finset.univ hx hm) k) Q :=
  Step.store (held4 c A s s.x4) (held4 c A s _) h

/-- A load of operand 5. -/
theorem ld5 {α : Type} {Q : α → sProp 𝕄} {r : Rect S512x256} {hl : A.a5.view.LoadsAt r.toLoadRect}
    {k : (r.toLoadRect.shape.Idx → Elt F .bf16) → Prog (TpuEff nD τ sig (Elt F) Λ₀ .tc) α}
    (h : Held c A s ⊢ WP c 𝒱 bd E (k (View.ld s.x5 r)) Q) : Held c A s ⊢ WP c 𝒱 bd E (.op (.load A.a5 r.toLoadRect hl) k) Q :=
  Step.load (held5 c A s s.x5) h

/-- A store to operand 5. -/
theorem st5 {α : Type} {Q : α → sProp 𝕄} {off size : Fin S512x256.rank → ℕ} {inb : ∀ a, off a + size a ≤ S512x256.size a} {w : (Rect.unit off size inb).shape.Idx → Elt F .bf16}
    {hx : (A.a5.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x5 := VecWindow.put s.x5 off size w } ⊢ WP c 𝒱 bd E (k ⟨⟩) Q) :
    Held c A s ⊢ WP c 𝒱 bd E (.op (.store A.a5 (Rect.unit off size inb) w Finset.univ hx hm) k) Q :=
  Step.store (held5 c A s s.x5) (held5 c A s _) h

/-- A load of operand 6. -/
theorem ld6 {α : Type} {Q : α → sProp 𝕄} {r : Rect S8192x128} {hl : A.a6.view.LoadsAt r.toLoadRect}
    {k : (r.toLoadRect.shape.Idx → Elt F .bf16) → Prog (TpuEff nD τ sig (Elt F) Λ₀ .tc) α}
    (h : Held c A s ⊢ WP c 𝒱 bd E (k (View.ld s.x6 r)) Q) : Held c A s ⊢ WP c 𝒱 bd E (.op (.load A.a6 r.toLoadRect hl) k) Q :=
  Step.load (held6 c A s s.x6) h

/-- A store to operand 6. -/
theorem st6 {α : Type} {Q : α → sProp 𝕄} {off size : Fin S8192x128.rank → ℕ} {inb : ∀ a, off a + size a ≤ S8192x128.size a} {w : (Rect.unit off size inb).shape.Idx → Elt F .bf16}
    {hx : (A.a6.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x6 := VecWindow.put s.x6 off size w } ⊢ WP c 𝒱 bd E (k ⟨⟩) Q) :
    Held c A s ⊢ WP c 𝒱 bd E (.op (.store A.a6 (Rect.unit off size inb) w Finset.univ hx hm) k) Q :=
  Step.store (held6 c A s s.x6) (held6 c A s _) h

/-- A load of operand 7. -/
theorem ld7 {α : Type} {Q : α → sProp 𝕄} {r : Rect S512x128} {hl : A.a7.view.LoadsAt r.toLoadRect}
    {k : (r.toLoadRect.shape.Idx → Elt F .bf16) → Prog (TpuEff nD τ sig (Elt F) Λ₀ .tc) α}
    (h : Held c A s ⊢ WP c 𝒱 bd E (k (View.ld s.x7 r)) Q) : Held c A s ⊢ WP c 𝒱 bd E (.op (.load A.a7 r.toLoadRect hl) k) Q :=
  Step.load (held7 c A s s.x7) h

/-- A store to operand 7. -/
theorem st7 {α : Type} {Q : α → sProp 𝕄} {off size : Fin S512x128.rank → ℕ} {inb : ∀ a, off a + size a ≤ S512x128.size a} {w : (Rect.unit off size inb).shape.Idx → Elt F .bf16}
    {hx : (A.a7.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x7 := VecWindow.put s.x7 off size w } ⊢ WP c 𝒱 bd E (k ⟨⟩) Q) :
    Held c A s ⊢ WP c 𝒱 bd E (.op (.store A.a7 (Rect.unit off size inb) w Finset.univ hx hm) k) Q :=
  Step.store (held7 c A s s.x7) (held7 c A s _) h

/-- A load of operand 8. -/
theorem ld8 {α : Type} {Q : α → sProp 𝕄} {r : Rect S512x128} {hl : A.a8.view.LoadsAt r.toLoadRect}
    {k : (r.toLoadRect.shape.Idx → Elt F .bf16) → Prog (TpuEff nD τ sig (Elt F) Λ₀ .tc) α}
    (h : Held c A s ⊢ WP c 𝒱 bd E (k (View.ld s.x8 r)) Q) : Held c A s ⊢ WP c 𝒱 bd E (.op (.load A.a8 r.toLoadRect hl) k) Q :=
  Step.load (held8 c A s s.x8) h

/-- A store to operand 8. -/
theorem st8 {α : Type} {Q : α → sProp 𝕄} {off size : Fin S512x128.rank → ℕ} {inb : ∀ a, off a + size a ≤ S512x128.size a} {w : (Rect.unit off size inb).shape.Idx → Elt F .bf16}
    {hx : (A.a8.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x8 := VecWindow.put s.x8 off size w } ⊢ WP c 𝒱 bd E (k ⟨⟩) Q) :
    Held c A s ⊢ WP c 𝒱 bd E (.op (.store A.a8 (Rect.unit off size inb) w Finset.univ hx hm) k) Q :=
  Step.store (held8 c A s s.x8) (held8 c A s _) h

/-- A load of operand 9. -/
theorem ld9 {α : Type} {Q : α → sProp 𝕄} {r : Rect S1x8192x128} {hl : A.a9.view.LoadsAt r.toLoadRect}
    {k : (r.toLoadRect.shape.Idx → Elt F .f32) → Prog (TpuEff nD τ sig (Elt F) Λ₀ .tc) α}
    (h : Held c A s ⊢ WP c 𝒱 bd E (k (View.ld s.x9 r)) Q) : Held c A s ⊢ WP c 𝒱 bd E (.op (.load A.a9 r.toLoadRect hl) k) Q :=
  Step.load (held9 c A s s.x9) h

/-- A store to operand 9. -/
theorem st9 {α : Type} {Q : α → sProp 𝕄} {off size : Fin S1x8192x128.rank → ℕ} {inb : ∀ a, off a + size a ≤ S1x8192x128.size a} {w : (Rect.unit off size inb).shape.Idx → Elt F .f32}
    {hx : (A.a9.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x9 := VecWindow.put s.x9 off size w } ⊢ WP c 𝒱 bd E (k ⟨⟩) Q) :
    Held c A s ⊢ WP c 𝒱 bd E (.op (.store A.a9 (Rect.unit off size inb) w Finset.univ hx hm) k) Q :=
  Step.store (held9 c A s s.x9) (held9 c A s _) h

/-- A load of operand 10. -/
theorem ld10 {α : Type} {Q : α → sProp 𝕄} {r : Rect S1x512x128} {hl : A.a10.view.LoadsAt r.toLoadRect}
    {k : (r.toLoadRect.shape.Idx → Elt F .f32) → Prog (TpuEff nD τ sig (Elt F) Λ₀ .tc) α}
    (h : Held c A s ⊢ WP c 𝒱 bd E (k (View.ld s.x10 r)) Q) : Held c A s ⊢ WP c 𝒱 bd E (.op (.load A.a10 r.toLoadRect hl) k) Q :=
  Step.load (held10 c A s s.x10) h

/-- A store to operand 10. -/
theorem st10 {α : Type} {Q : α → sProp 𝕄} {off size : Fin S1x512x128.rank → ℕ} {inb : ∀ a, off a + size a ≤ S1x512x128.size a} {w : (Rect.unit off size inb).shape.Idx → Elt F .f32}
    {hx : (A.a10.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x10 := VecWindow.put s.x10 off size w } ⊢ WP c 𝒱 bd E (k ⟨⟩) Q) :
    Held c A s ⊢ WP c 𝒱 bd E (.op (.store A.a10 (Rect.unit off size inb) w Finset.univ hx hm) k) Q :=
  Step.store (held10 c A s s.x10) (held10 c A s _) h

/-- A load of operand 11. -/
theorem ld11 {α : Type} {Q : α → sProp 𝕄} {r : Rect S8192x256} {hl : A.a11.view.LoadsAt r.toLoadRect}
    {k : (r.toLoadRect.shape.Idx → Elt F .f32) → Prog (TpuEff nD τ sig (Elt F) Λ₀ .tc) α}
    (h : Held c A s ⊢ WP c 𝒱 bd E (k (View.ld s.x11 r)) Q) : Held c A s ⊢ WP c 𝒱 bd E (.op (.load A.a11 r.toLoadRect hl) k) Q :=
  Step.load (held11 c A s s.x11) h

/-- A store to operand 11. -/
theorem st11 {α : Type} {Q : α → sProp 𝕄} {off size : Fin S8192x256.rank → ℕ} {inb : ∀ a, off a + size a ≤ S8192x256.size a} {w : (Rect.unit off size inb).shape.Idx → Elt F .f32}
    {hx : (A.a11.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x11 := VecWindow.put s.x11 off size w } ⊢ WP c 𝒱 bd E (k ⟨⟩) Q) :
    Held c A s ⊢ WP c 𝒱 bd E (.op (.store A.a11 (Rect.unit off size inb) w Finset.univ hx hm) k) Q :=
  Step.store (held11 c A s s.x11) (held11 c A s _) h

/-- A load of operand 12. -/
theorem ld12 {α : Type} {Q : α → sProp 𝕄} {r : Rect S512x256} {hl : A.a12.view.LoadsAt r.toLoadRect}
    {k : (r.toLoadRect.shape.Idx → Elt F .f32) → Prog (TpuEff nD τ sig (Elt F) Λ₀ .tc) α}
    (h : Held c A s ⊢ WP c 𝒱 bd E (k (View.ld s.x12 r)) Q) : Held c A s ⊢ WP c 𝒱 bd E (.op (.load A.a12 r.toLoadRect hl) k) Q :=
  Step.load (held12 c A s s.x12) h

/-- A store to operand 12. -/
theorem st12 {α : Type} {Q : α → sProp 𝕄} {off size : Fin S512x256.rank → ℕ} {inb : ∀ a, off a + size a ≤ S512x256.size a} {w : (Rect.unit off size inb).shape.Idx → Elt F .f32}
    {hx : (A.a12.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x12 := VecWindow.put s.x12 off size w } ⊢ WP c 𝒱 bd E (k ⟨⟩) Q) :
    Held c A s ⊢ WP c 𝒱 bd E (.op (.store A.a12 (Rect.unit off size inb) w Finset.univ hx hm) k) Q :=
  Step.store (held12 c A s s.x12) (held12 c A s _) h

/-- A load of operand 13. -/
theorem ld13 {α : Type} {Q : α → sProp 𝕄} {r : Rect S512x256} {hl : A.a13.view.LoadsAt r.toLoadRect}
    {k : (r.toLoadRect.shape.Idx → Elt F .f32) → Prog (TpuEff nD τ sig (Elt F) Λ₀ .tc) α}
    (h : Held c A s ⊢ WP c 𝒱 bd E (k (View.ld s.x13 r)) Q) : Held c A s ⊢ WP c 𝒱 bd E (.op (.load A.a13 r.toLoadRect hl) k) Q :=
  Step.load (held13 c A s s.x13) h

/-- A store to operand 13. -/
theorem st13 {α : Type} {Q : α → sProp 𝕄} {off size : Fin S512x256.rank → ℕ} {inb : ∀ a, off a + size a ≤ S512x256.size a} {w : (Rect.unit off size inb).shape.Idx → Elt F .f32}
    {hx : (A.a13.access (Rect.unit off size inb)).Stores Finset.univ} {hm : Finset.univ = Finset.univ ∨ ∀ a, (Rect.unit off size inb).stride a = 1}
    {k : PUnit → Prog (TpuEff nD τ sig (Elt F) Λ₀ .tc) α}
    (h : Held c A { s with x13 := VecWindow.put s.x13 off size w } ⊢ WP c 𝒱 bd E (k ⟨⟩) Q) :
    Held c A s ⊢ WP c 𝒱 bd E (.op (.store A.a13 (Rect.unit off size inb) w Finset.univ hx hm) k) Q :=
  Step.store (held13 c A s s.x13) (held13 c A s _) h

end Cert.Proof.Attn

end
-- ==== Proof.Tiles.lean ====
/-
  What one tile does to the kernel's three accumulators, as pure functions: per tile and head the three payloads (`xxV` the
  values' accumulator, `xxK` the keys', `xxQ` the queries'), and the state after each of the three stores.
-/
module

public import proofs.«01_k».proof.Proof.State

@[expose] public section

set_option maxRecDepth 65536

noncomputable section

namespace Cert.Proof.Attn

open Cert.KernelIdeal Cert.KernelIdeal.Gen
open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline

variable {F : FTy → Type} [FloatOps F]

/-- The upper half of the diagonal block, first head: what is stored to the values' accumulator. -/
def a0V (q d : Vec F S512x128 .bf16) (k v : Vec F S256x128 .bf16) (w : Vec F S256x128 .f32) : FVec F S256x128 .f32 :=
  k0_pay60 (k0_pay55 d) w (k0_pay59 q k)

/-- The upper half of the diagonal block, first head: what is stored to the keys' accumulator. -/
def a0K (q d : Vec F S512x128 .bf16) (k v : Vec F S256x128 .bf16) (w : Vec F S256x128 .f32) : FVec F S256x128 .f32 :=
  k0_pay61 (k0_pay54 q) (k0_pay58 q d k v) w

/-- The upper half of the diagonal block, first head: what is stored to the queries' accumulator. -/
def a0Q (q d : Vec F S512x128 .bf16) (k v : Vec F S256x128 .bf16) (w : Vec F S512x128 .f32) : FVec F S512x128 .f32 :=
  k0_pay62 (k0_pay56 k) (k0_pay58 q d k v) w

/-- The upper half of the diagonal block, first head: the state after the store to operand 13. -/
def a0Vs (i : grid0.Coords) (s : St F) : St F :=
  { s with x13 := VecWindow.put s.x13 ![0, 0] S256x128.size (a0V (View.ld s.x2 (Rect.unit (s := S8192x256) (k0_off1 i) S512x128.size (k0_off1_inb i))) (View.ld s.x3 (Rect.unit (s := S8192x256) (k0_off1 i) S512x128.size (k0_off1_inb i))) (View.ld s.x4 (Rect.unit (s := S512x256) ![0, 0] S256x128.size inb_S512x256_S256x128_0_0)) (View.ld s.x5 (Rect.unit (s := S512x256) ![0, 0] S256x128.size inb_S512x256_S256x128_0_0)) (View.ld s.x13 (Rect.unit (s := S512x256) ![0, 0] S256x128.size inb_S512x256_S256x128_0_0))) }

/-- The upper half of the diagonal block, first head: the state after the store to operand 12. -/
def a0Ks (i : grid0.Coords) (s : St F) : St F :=
  { s with x12 := VecWindow.put s.x12 ![0, 0] S256x128.size (a0K (View.ld s.x2 (Rect.unit (s := S8192x256) (k0_off1 i) S512x128.size (k0_off1_inb i))) (View.ld s.x3 (Rect.unit (s := S8192x256) (k0_off1 i) S512x128.size (k0_off1_inb i))) (View.ld s.x4 (Rect.unit (s := S512x256) ![0, 0] S256x128.size inb_S512x256_S256x128_0_0)) (View.ld s.x5 (Rect.unit (s := S512x256) ![0, 0] S256x128.size inb_S512x256_S256x128_0_0)) (View.ld s.x12 (Rect.unit (s := S512x256) ![0, 0] S256x128.size inb_S512x256_S256x128_0_0))) }

/-- The upper half of the diagonal block, first head: the state after the store to operand 11. -/
def a0Qs (i : grid0.Coords) (s : St F) : St F :=
  { s with x11 := VecWindow.put s.x11 (k0_off1 i) S512x128.size (a0Q (View.ld s.x2 (Rect.unit (s := S8192x256) (k0_off1 i) S512x128.size (k0_off1_inb i))) (View.ld s.x3 (Rect.unit (s := S8192x256) (k0_off1 i) S512x128.size (k0_off1_inb i))) (View.ld s.x4 (Rect.unit (s := S512x256) ![0, 0] S256x128.size inb_S512x256_S256x128_0_0)) (View.ld s.x5 (Rect.unit (s := S512x256) ![0, 0] S256x128.size inb_S512x256_S256x128_0_0)) (View.ld s.x11 (Rect.unit (s := S8192x256) (k0_off1 i) S512x128.size (k0_off1_inb i)))) }

/-- The upper half of the diagonal block, second head: what is stored to the values' accumulator. -/
def a1V (q d : Vec F S512x128 .bf16) (k v : Vec F S256x128 .bf16) (w : Vec F S256x128 .f32) : FVec F S256x128 .f32 :=
  k0_pay69 (k0_pay64 d) (k0_pay66 q k) w

/-- The upper half of the diagonal block, second head: what is stored to the keys' accumulator. -/
def a1K (q d : Vec F S512x128 .bf16) (k v : Vec F S256x128 .bf16) (w : Vec F S256x128 .f32) : FVec F S256x128 .f32 :=
  k0_pay70 (k0_pay63 q) (k0_pay66 q k) (k0_pay67 d v) w

/-- The upper half of the diagonal block, second head: what is stored to the queries' accumulator. -/
def a1Q (q d : Vec F S512x128 .bf16) (k v : Vec F S256x128 .bf16) (w : Vec F S512x128 .f32) : FVec F S512x128 .f32 :=
  k0_pay71 (k0_pay65 k) (k0_pay66 q k) (k0_pay67 d v) w

/-- The upper half of the diagonal block, second head: the state after the store to operand 13. -/
def a1Vs (i : grid0.Coords) (s : St F) : St F :=
  { s with x13 := VecWindow.put s.x13 ![0, 128] S256x128.size (a1V (View.ld s.x2 (Rect.unit (s := S8192x256) (k0_off2 i) S512x128.size (k0_off2_inb i))) (View.ld s.x3 (Rect.unit (s := S8192x256) (k0_off2 i) S512x128.size (k0_off2_inb i))) (View.ld s.x4 (Rect.unit (s := S512x256) ![0, 128] S256x128.size inb_S512x256_S256x128_0_128)) (View.ld s.x5 (Rect.unit (s := S512x256) ![0, 128] S256x128.size inb_S512x256_S256x128_0_128)) (View.ld s.x13 (Rect.unit (s := S512x256) ![0, 128] S256x128.size inb_S512x256_S256x128_0_128))) }

/-- The upper half of the diagonal block, second head: the state after the store to operand 12. -/
def a1Ks (i : grid0.Coords) (s : St F) : St F :=
  { s with x12 := VecWindow.put s.x12 ![0, 128] S256x128.size (a1K (View.ld s.x2 (Rect.unit (s := S8192x256) (k0_off2 i) S512x128.size (k0_off2_inb i))) (View.ld s.x3 (Rect.unit (s := S8192x256) (k0_off2 i) S512x128.size (k0_off2_inb i))) (View.ld s.x4 (Rect.unit (s := S512x256) ![0, 128] S256x128.size inb_S512x256_S256x128_0_128)) (View.ld s.x5 (Rect.unit (s := S512x256) ![0, 128] S256x128.size inb_S512x256_S256x128_0_128)) (View.ld s.x12 (Rect.unit (s := S512x256) ![0, 128] S256x128.size inb_S512x256_S256x128_0_128))) }

/-- The upper half of the diagonal block, second head: the state after the store to operand 11. -/
def a1Qs (i : grid0.Coords) (s : St F) : St F :=
  { s with x11 := VecWindow.put s.x11 (k0_off2 i) S512x128.size (a1Q (View.ld s.x2 (Rect.unit (s := S8192x256) (k0_off2 i) S512x128.size (k0_off2_inb i))) (View.ld s.x3 (Rect.unit (s := S8192x256) (k0_off2 i) S512x128.size (k0_off2_inb i))) (View.ld s.x4 (Rect.unit (s := S512x256) ![0, 128] S256x128.size inb_S512x256_S256x128_0_128)) (View.ld s.x5 (Rect.unit (s := S512x256) ![0, 128] S256x128.size inb_S512x256_S256x128_0_128)) (View.ld s.x11 (Rect.unit (s := S8192x256) (k0_off2 i) S512x128.size (k0_off2_inb i)))) }

/-- The lower half of the diagonal block, first head: what is stored to the values' accumulator. -/
def b0V (q d : Vec F S256x128 .bf16) (k v : Vec F S256x128 .bf16) (w : Vec F S256x128 .f32) : FVec F S256x128 .f32 :=
  k0_pay78 (k0_pay73 d) (k0_pay75 q k) (iota .tc S256x256 32 [1] iota_S256x256_d1_w32) w

/-- The lower half of the diagonal block, first head: what is stored to the keys' accumulator. -/
def b0K (q d : Vec F S256x128 .bf16) (k v : Vec F S256x128 .bf16) (w : Vec F S256x128 .f32) : FVec F S256x128 .f32 :=
  k0_pay79 (k0_pay72 q) (k0_pay73 d) (k0_pay75 q k) (iota .tc S256x256 32 [1] iota_S256x256_d1_w32) v w

/-- The lower half of the diagonal block, first head: what is stored to the queries' accumulator. -/
def b0Q (q d : Vec F S256x128 .bf16) (k v : Vec F S256x128 .bf16) (w : Vec F S256x128 .f32) : FVec F S256x128 .f32 :=
  k0_pay80 (k0_pay73 d) (k0_pay74 k) (k0_pay75 q k) (iota .tc S256x256 32 [1] iota_S256x256_d1_w32) v w

/-- The lower half of the diagonal block, first head: the state after the store to operand 13. -/
def b0Vs (i : grid0.Coords) (s : St F) : St F :=
  { s with x13 := VecWindow.put s.x13 ![256, 0] S256x128.size (b0V (View.ld s.x2 (Rect.unit (s := S8192x256) (k0_off3 i) S256x128.size (k0_off3_inb i))) (View.ld s.x3 (Rect.unit (s := S8192x256) (k0_off3 i) S256x128.size (k0_off3_inb i))) (View.ld s.x4 (Rect.unit (s := S512x256) ![256, 0] S256x128.size inb_S512x256_S256x128_256_0)) (View.ld s.x5 (Rect.unit (s := S512x256) ![256, 0] S256x128.size inb_S512x256_S256x128_256_0)) (View.ld s.x13 (Rect.unit (s := S512x256) ![256, 0] S256x128.size inb_S512x256_S256x128_256_0))) }

/-- The lower half of the diagonal block, first head: the state after the store to operand 12. -/
def b0Ks (i : grid0.Coords) (s : St F) : St F :=
  { s with x12 := VecWindow.put s.x12 ![256, 0] S256x128.size (b0K (View.ld s.x2 (Rect.unit (s := S8192x256) (k0_off3 i) S256x128.size (k0_off3_inb i))) (View.ld s.x3 (Rect.unit (s := S8192x256) (k0_off3 i) S256x128.size (k0_off3_inb i))) (View.ld s.x4 (Rect.unit (s := S512x256) ![256, 0] S256x128.size inb_S512x256_S256x128_256_0)) (View.ld s.x5 (Rect.unit (s := S512x256) ![256, 0] S256x128.size inb_S512x256_S256x128_256_0)) (View.ld s.x12 (Rect.unit (s := S512x256) ![256, 0] S256x128.size inb_S512x256_S256x128_256_0))) }

/-- The lower half of the diagonal block, first head: the state after the store to operand 11. -/
def b0Qs (i : grid0.Coords) (s : St F) : St F :=
  { s with x11 := VecWindow.put s.x11 (k0_off3 i) S256x128.size (b0Q (View.ld s.x2 (Rect.unit (s := S8192x256) (k0_off3 i) S256x128.size (k0_off3_inb i))) (View.ld s.x3 (Rect.unit (s := S8192x256) (k0_off3 i) S256x128.size (k0_off3_inb i))) (View.ld s.x4 (Rect.unit (s := S512x256) ![256, 0] S256x128.size inb_S512x256_S256x128_256_0)) (View.ld s.x5 (Rect.unit (s := S512x256) ![256, 0] S256x128.size inb_S512x256_S256x128_256_0)) (View.ld s.x11 (Rect.unit (s := S8192x256) (k0_off3 i) S256x128.size (k0_off3_inb i)))) }

/-- The lower half of the diagonal block, second head: what is stored to the values' accumulator. -/
def b1V (q d : Vec F S256x128 .bf16) (k v : Vec F S256x128 .bf16) (w : Vec F S256x128 .f32) : FVec F S256x128 .f32 :=
  k0_pay86 (k0_pay81 q) (k0_pay82 d) k w

/-- The lower half of the diagonal block, second head: what is stored to the keys' accumulator. -/
def b1K (q d : Vec F S256x128 .bf16) (k v : Vec F S256x128 .bf16) (w : Vec F S256x128 .f32) : FVec F S256x128 .f32 :=
  k0_pay87 (k0_pay81 q) (k0_pay82 d) k v w

/-- The lower half of the diagonal block, second head: what is stored to the queries' accumulator. -/
def b1Q (q d : Vec F S256x128 .bf16) (k v : Vec F S256x128 .bf16) (w : Vec F S256x128 .f32) : FVec F S256x128 .f32 :=
  k0_pay88 (k0_pay81 q) (k0_pay82 d) k v w

/-- The lower half of the diagonal block, second head: the state after the store to operand 13. -/
def b1Vs (i : grid0.Coords) (s : St F) : St F :=
  { s with x13 := VecWindow.put s.x13 ![256, 128] S256x128.size (b1V (View.ld s.x2 (Rect.unit (s := S8192x256) (k0_off4 i) S256x128.size (k0_off4_inb i))) (View.ld s.x3 (Rect.unit (s := S8192x256) (k0_off4 i) S256x128.size (k0_off4_inb i))) (View.ld s.x4 (Rect.unit (s := S512x256) ![256, 128] S256x128.size inb_S512x256_S256x128_256_128)) (View.ld s.x5 (Rect.unit (s := S512x256) ![256, 128] S256x128.size inb_S512x256_S256x128_256_128)) (View.ld s.x13 (Rect.unit (s := S512x256) ![256, 128] S256x128.size inb_S512x256_S256x128_256_128))) }

/-- The lower half of the diagonal block, second head: the state after the store to operand 12. -/
def b1Ks (i : grid0.Coords) (s : St F) : St F :=
  { s with x12 := VecWindow.put s.x12 ![256, 128] S256x128.size (b1K (View.ld s.x2 (Rect.unit (s := S8192x256) (k0_off4 i) S256x128.size (k0_off4_inb i))) (View.ld s.x3 (Rect.unit (s := S8192x256) (k0_off4 i) S256x128.size (k0_off4_inb i))) (View.ld s.x4 (Rect.unit (s := S512x256) ![256, 128] S256x128.size inb_S512x256_S256x128_256_128)) (View.ld s.x5 (Rect.unit (s := S512x256) ![256, 128] S256x128.size inb_S512x256_S256x128_256_128)) (View.ld s.x12 (Rect.unit (s := S512x256) ![256, 128] S256x128.size inb_S512x256_S256x128_256_128))) }

/-- The lower half of the diagonal block, second head: the state after the store to operand 11. -/
def b1Qs (i : grid0.Coords) (s : St F) : St F :=
  { s with x11 := VecWindow.put s.x11 (k0_off4 i) S256x128.size (b1Q (View.ld s.x2 (Rect.unit (s := S8192x256) (k0_off4 i) S256x128.size (k0_off4_inb i))) (View.ld s.x3 (Rect.unit (s := S8192x256) (k0_off4 i) S256x128.size (k0_off4_inb i))) (View.ld s.x4 (Rect.unit (s := S512x256) ![256, 128] S256x128.size inb_S512x256_S256x128_256_128)) (View.ld s.x5 (Rect.unit (s := S512x256) ![256, 128] S256x128.size inb_S512x256_S256x128_256_128)) (View.ld s.x11 (Rect.unit (s := S8192x256) (k0_off4 i) S256x128.size (k0_off4_inb i)))) }

/-- The single tile, first head: what is stored to the values' accumulator. -/
def o0V (q d : Vec F S512x128 .bf16) (k v : Vec F S512x128 .bf16) (w : Vec F S512x128 .f32) : FVec F S512x128 .f32 :=
  k0_pay9 q d k w

/-- The single tile, first head: what is stored to the keys' accumulator. -/
def o0K (q d : Vec F S512x128 .bf16) (k v : Vec F S512x128 .bf16) (w : Vec F S512x128 .f32) : FVec F S512x128 .f32 :=
  k0_pay10 q d k v w

/-- The single tile, first head: what is stored to the queries' accumulator. -/
def o0Q (q d : Vec F S512x128 .bf16) (k v : Vec F S512x128 .bf16) (w : Vec F S512x128 .f32) : FVec F S512x128 .f32 :=
  k0_pay12 (k0_pay11 q d k v w)

/-- The single tile, first head: the state after the store to operand 13. -/
def o0Vs (i : grid0.Coords) (h2 : k0_cond2 i = 1#1) (s : St F) : St F :=
  { s with x13 := VecWindow.put s.x13 ![0, 0] S512x128.size (o0V (View.ld s.x2 (Rect.unit (s := S8192x256) (k0_off5 i) S512x128.size (k0_off5_inb i h2))) (View.ld s.x3 (Rect.unit (s := S8192x256) (k0_off5 i) S512x128.size (k0_off5_inb i h2))) (View.ld s.x4 (Rect.unit (s := S512x256) ![0, 0] S512x128.size inb_S512x256_S512x128_0_0)) (View.ld s.x5 (Rect.unit (s := S512x256) ![0, 0] S512x128.size inb_S512x256_S512x128_0_0)) (View.ld s.x13 (Rect.unit (s := S512x256) ![0, 0] S512x128.size inb_S512x256_S512x128_0_0))) }

/-- The single tile, first head: the state after the store to operand 12. -/
def o0Ks (i : grid0.Coords) (h2 : k0_cond2 i = 1#1) (s : St F) : St F :=
  { s with x12 := VecWindow.put s.x12 ![0, 0] S512x128.size (o0K (View.ld s.x2 (Rect.unit (s := S8192x256) (k0_off5 i) S512x128.size (k0_off5_inb i h2))) (View.ld s.x3 (Rect.unit (s := S8192x256) (k0_off5 i) S512x128.size (k0_off5_inb i h2))) (View.ld s.x4 (Rect.unit (s := S512x256) ![0, 0] S512x128.size inb_S512x256_S512x128_0_0)) (View.ld s.x5 (Rect.unit (s := S512x256) ![0, 0] S512x128.size inb_S512x256_S512x128_0_0)) (View.ld s.x12 (Rect.unit (s := S512x256) ![0, 0] S512x128.size inb_S512x256_S512x128_0_0))) }

/-- The single tile, first head: the state after the store to operand 11. -/
def o0Qs (i : grid0.Coords) (h2 : k0_cond2 i = 1#1) (s : St F) : St F :=
  { s with x11 := VecWindow.put s.x11 (k0_off5 i) S512x128.size (o0Q (View.ld s.x2 (Rect.unit (s := S8192x256) (k0_off5 i) S512x128.size (k0_off5_inb i h2))) (View.ld s.x3 (Rect.unit (s := S8192x256) (k0_off5 i) S512x128.size (k0_off5_inb i h2))) (View.ld s.x4 (Rect.unit (s := S512x256) ![0, 0] S512x128.size inb_S512x256_S512x128_0_0)) (View.ld s.x5 (Rect.unit (s := S512x256) ![0, 0] S512x128.size inb_S512x256_S512x128_0_0)) (View.ld s.x11 (Rect.unit (s := S8192x256) (k0_off5 i) S512x128.size (k0_off5_inb i h2)))) }

/-- The single tile, second head: what is stored to the values' accumulator. -/
def o1V (q d : Vec F S512x128 .bf16) (k v : Vec F S512x128 .bf16) (w : Vec F S512x128 .f32) : FVec F S512x128 .f32 :=
  k0_pay18 q d k w

/-- The single tile, second head: what is stored to the keys' accumulator. -/
def o1K (q d : Vec F S512x128 .bf16) (k v : Vec F S512x128 .bf16) (w : Vec F S512x128 .f32) : FVec F S512x128 .f32 :=
  k0_pay19 q d k v w

/-- The single tile, second head: what is stored to the queries' accumulator. -/
def o1Q (q d : Vec F S512x128 .bf16) (k v : Vec F S512x128 .bf16) (w : Vec F S512x128 .f32) : FVec F S512x128 .f32 :=
  k0_pay89 (k0_pay20 q d k v w)

/-- The single tile, second head: the state after the store to operand 13. -/
def o1Vs (i : grid0.Coords) (h2 : k0_cond2 i = 1#1) (s : St F) : St F :=
  { s with x13 := VecWindow.put s.x13 ![0, 128] S512x128.size (o1V (View.ld s.x2 (Rect.unit (s := S8192x256) (k0_off6 i) S512x128.size (k0_off6_inb i h2))) (View.ld s.x3 (Rect.unit (s := S8192x256) (k0_off6 i) S512x128.size (k0_off6_inb i h2))) (View.ld s.x4 (Rect.unit (s := S512x256) ![0, 128] S512x128.size inb_S512x256_S512x128_0_128)) (View.ld s.x5 (Rect.unit (s := S512x256) ![0, 128] S512x128.size inb_S512x256_S512x128_0_128)) (View.ld s.x13 (Rect.unit (s := S512x256) ![0, 128] S512x128.size inb_S512x256_S512x128_0_128))) }

/-- The single tile, second head: the state after the store to operand 12. -/
def o1Ks (i : grid0.Coords) (h2 : k0_cond2 i = 1#1) (s : St F) : St F :=
  { s with x12 := VecWindow.put s.x12 ![0, 128] S512x128.size (o1K (View.ld s.x2 (Rect.unit (s := S8192x256) (k0_off6 i) S512x128.size (k0_off6_inb i h2))) (View.ld s.x3 (Rect.unit (s := S8192x256) (k0_off6 i) S512x128.size (k0_off6_inb i h2))) (View.ld s.x4 (Rect.unit (s := S512x256) ![0, 128] S512x128.size inb_S512x256_S512x128_0_128)) (View.ld s.x5 (Rect.unit (s := S512x256) ![0, 128] S512x128.size inb_S512x256_S512x128_0_128)) (View.ld s.x12 (Rect.unit (s := S512x256) ![0, 128] S512x128.size inb_S512x256_S512x128_0_128))) }

/-- The single tile, second head: the state after the store to operand 11. -/
def o1Qs (i : grid0.Coords) (h2 : k0_cond2 i = 1#1) (s : St F) : St F :=
  { s with x11 := VecWindow.put s.x11 (k0_off6 i) S512x128.size (o1Q (View.ld s.x2 (Rect.unit (s := S8192x256) (k0_off6 i) S512x128.size (k0_off6_inb i h2))) (View.ld s.x3 (Rect.unit (s := S8192x256) (k0_off6 i) S512x128.size (k0_off6_inb i h2))) (View.ld s.x4 (Rect.unit (s := S512x256) ![0, 128] S512x128.size inb_S512x256_S512x128_0_128)) (View.ld s.x5 (Rect.unit (s := S512x256) ![0, 128] S512x128.size inb_S512x256_S512x128_0_128)) (View.ld s.x11 (Rect.unit (s := S8192x256) (k0_off6 i) S512x128.size (k0_off6_inb i h2)))) }

/-- A double tile, first head: what is stored to the values' accumulator. -/
def t0V (q d : Vec F S1024x128 .bf16) (k v : Vec F S512x128 .bf16) (w : Vec F S512x128 .f32) : FVec F S512x128 .f32 :=
  k0_pay26 q d k w

/-- A double tile, first head: what is stored to the keys' accumulator. -/
def t0K (q d : Vec F S1024x128 .bf16) (k v : Vec F S512x128 .bf16) (w : Vec F S512x128 .f32) : FVec F S512x128 .f32 :=
  k0_pay27 q d k v w

/-- A double tile, first head: what is stored to the queries' accumulator. -/
def t0Q (q d : Vec F S1024x128 .bf16) (k v : Vec F S512x128 .bf16) (w : Vec F S1024x128 .f32) : FVec F S1024x128 .f32 :=
  k0_pay28 (k0_pay23 k) (k0_pay25 q d k v) w

/-- A double tile, first head: the state after the store to operand 13. -/
def t0Vs (i : grid0.Coords) (t : Fin (k0_t1_loop i).trips) (s : St F) : St F :=
  { s with x13 := VecWindow.put s.x13 ![0, 0] S512x128.size (t0V (View.ld s.x2 (Rect.unit (s := S8192x256) (k0_off7 i t) S1024x128.size (k0_off7_inb i t))) (View.ld s.x3 (Rect.unit (s := S8192x256) (k0_off7 i t) S1024x128.size (k0_off7_inb i t))) (View.ld s.x4 (Rect.unit (s := S512x256) ![0, 0] S512x128.size inb_S512x256_S512x128_0_0)) (View.ld s.x5 (Rect.unit (s := S512x256) ![0, 0] S512x128.size inb_S512x256_S512x128_0_0)) (View.ld s.x13 (Rect.unit (s := S512x256) ![0, 0] S512x128.size inb_S512x256_S512x128_0_0))) }

/-- A double tile, first head: the state after the store to operand 12. -/
def t0Ks (i : grid0.Coords) (t : Fin (k0_t1_loop i).trips) (s : St F) : St F :=
  { s with x12 := VecWindow.put s.x12 ![0, 0] S512x128.size (t0K (View.ld s.x2 (Rect.unit (s := S8192x256) (k0_off7 i t) S1024x128.size (k0_off7_inb i t))) (View.ld s.x3 (Rect.unit (s := S8192x256) (k0_off7 i t) S1024x128.size (k0_off7_inb i t))) (View.ld s.x4 (Rect.unit (s := S512x256) ![0, 0] S512x128.size inb_S512x256_S512x128_0_0)) (View.ld s.x5 (Rect.unit (s := S512x256) ![0, 0] S512x128.size inb_S512x256_S512x128_0_0)) (View.ld s.x12 (Rect.unit (s := S512x256) ![0, 0] S512x128.size inb_S512x256_S512x128_0_0))) }

/-- A double tile, first head: the state after the store to operand 11. -/
def t0Qs (i : grid0.Coords) (t : Fin (k0_t1_loop i).trips) (s : St F) : St F :=
  { s with x11 := VecWindow.put s.x11 (k0_off7 i t) S1024x128.size (t0Q (View.ld s.x2 (Rect.unit (s := S8192x256) (k0_off7 i t) S1024x128.size (k0_off7_inb i t))) (View.ld s.x3 (Rect.unit (s := S8192x256) (k0_off7 i t) S1024x128.size (k0_off7_inb i t))) (View.ld s.x4 (Rect.unit (s := S512x256) ![0, 0] S512x128.size inb_S512x256_S512x128_0_0)) (View.ld s.x5 (Rect.unit (s := S512x256) ![0, 0] S512x128.size inb_S512x256_S512x128_0_0)) (View.ld s.x11 (Rect.unit (s := S8192x256) (k0_off7 i t) S1024x128.size (k0_off7_inb i t)))) }

/-- A double tile, second head: what is stored to the values' accumulator. -/
def t1V (q d : Vec F S1024x128 .bf16) (k v : Vec F S512x128 .bf16) (w : Vec F S512x128 .f32) : FVec F S512x128 .f32 :=
  k0_pay34 q d k w

/-- A double tile, second head: what is stored to the keys' accumulator. -/
def t1K (q d : Vec F S1024x128 .bf16) (k v : Vec F S512x128 .bf16) (w : Vec F S512x128 .f32) : FVec F S512x128 .f32 :=
  k0_pay35 q d k v w

/-- A double tile, second head: what is stored to the queries' accumulator. -/
def t1Q (q d : Vec F S1024x128 .bf16) (k v : Vec F S512x128 .bf16) (w : Vec F S1024x128 .f32) : FVec F S1024x128 .f32 :=
  k0_pay90 (k0_pay31 k) (k0_pay33 q d k v) w

/-- A double tile, second head: the state after the store to operand 13. -/
def t1Vs (i : grid0.Coords) (t : Fin (k0_t1_loop i).trips) (s : St F) : St F :=
  { s with x13 := VecWindow.put s.x13 ![0, 128] S512x128.size (t1V (View.ld s.x2 (Rect.unit (s := S8192x256) (k0_off8 i t) S1024x128.size (k0_off8_inb i t))) (View.ld s.x3 (Rect.unit (s := S8192x256) (k0_off8 i t) S1024x128.size (k0_off8_inb i t))) (View.ld s.x4 (Rect.unit (s := S512x256) ![0, 128] S512x128.size inb_S512x256_S512x128_0_128)) (View.ld s.x5 (Rect.unit (s := S512x256) ![0, 128] S512x128.size inb_S512x256_S512x128_0_128)) (View.ld s.x13 (Rect.unit (s := S512x256) ![0, 128] S512x128.size inb_S512x256_S512x128_0_128))) }

/-- A double tile, second head: the state after the store to operand 12. -/
def t1Ks (i : grid0.Coords) (t : Fin (k0_t1_loop i).trips) (s : St F) : St F :=
  { s with x12 := VecWindow.put s.x12 ![0, 128] S512x128.size (t1K (View.ld s.x2 (Rect.unit (s := S8192x256) (k0_off8 i t) S1024x128.size (k0_off8_inb i t))) (View.ld s.x3 (Rect.unit (s := S8192x256) (k0_off8 i t) S1024x128.size (k0_off8_inb i t))) (View.ld s.x4 (Rect.unit (s := S512x256) ![0, 128] S512x128.size inb_S512x256_S512x128_0_128)) (View.ld s.x5 (Rect.unit (s := S512x256) ![0, 128] S512x128.size inb_S512x256_S512x128_0_128)) (View.ld s.x12 (Rect.unit (s := S512x256) ![0, 128] S512x128.size inb_S512x256_S512x128_0_128))) }

/-- A double tile, second head: the state after the store to operand 11. -/
def t1Qs (i : grid0.Coords) (t : Fin (k0_t1_loop i).trips) (s : St F) : St F :=
  { s with x11 := VecWindow.put s.x11 (k0_off8 i t) S1024x128.size (t1Q (View.ld s.x2 (Rect.unit (s := S8192x256) (k0_off8 i t) S1024x128.size (k0_off8_inb i t))) (View.ld s.x3 (Rect.unit (s := S8192x256) (k0_off8 i t) S1024x128.size (k0_off8_inb i t))) (View.ld s.x4 (Rect.unit (s := S512x256) ![0, 128] S512x128.size inb_S512x256_S512x128_0_128)) (View.ld s.x5 (Rect.unit (s := S512x256) ![0, 128] S512x128.size inb_S512x256_S512x128_0_128)) (View.ld s.x11 (Rect.unit (s := S8192x256) (k0_off8 i t) S1024x128.size (k0_off8_inb i t)))) }

/-- The condition under which the queries' accumulator is zeroed, as the kernel computes it. -/
def cond1 (i : grid0.Coords) : BitVec 1 :=
  Scalar.cmpi .ne (Scalar.extui (Scalar.cmpi .eq (BitVec.ofNat 32 (i 1).val) 0#32) : BitVec 32) 0#32
/-- The state after the queries' accumulator is zeroed at the first block, and the keys' and the values' at every block. -/
def zeroQ (s : St F) : St F :=
  { s with x11 := VecWindow.put s.x11 ![0, 0] S8192x256.size (k0_pay51 (F := F)) }
/-- The state after the keys' and the values' accumulators are zeroed. -/
def zeroKV (s : St F) : St F :=
  { s with x12 := VecWindow.put s.x12 ![0, 0] S512x256.size (k0_pay52 (F := F)), x13 := VecWindow.put s.x13 ![0, 0] S512x256.size (k0_pay53 (F := F)) }
/-- The state the tiles start from. -/
def start (i : grid0.Coords) (s : St F) : St F :=
  zeroKV (if cond1 i = 1#1 then zeroQ s else s)
/-- The diagonal block. -/
def diag (i : grid0.Coords) (s : St F) : St F :=
  b1Qs i (b1Ks i (b1Vs i (b0Qs i (b0Ks i (b0Vs i (a1Qs i (a1Ks i (a1Vs i (a0Qs i (a0Ks i (a0Vs i s)))))))))))
/-- The single tile, where the number of tiles below the diagonal is odd. -/
def single (i : grid0.Coords) (s : St F) : St F :=
  if h2 : k0_cond2 i = 1#1 then o1Qs i h2 (o1Ks i h2 (o1Vs i h2 (o0Qs i h2 (o0Ks i h2 (o0Vs i h2 s))))) else s
/-- A trip of the loop over the double tiles. -/
def trip (i : grid0.Coords) (t : Fin (k0_t1_loop i).trips) (s : St F) : St F :=
  t1Qs i t (t1Ks i t (t1Vs i t (t0Qs i t (t0Ks i t (t0Vs i t s)))))
/-- The loop over the double tiles. -/
def loop (i : grid0.Coords) (s : St F) : St F :=
  (List.finRange (k0_t1_loop i).trips).foldl (fun s t => trip i t s) s
/-- All tiles of a block. -/
def tiles (i : grid0.Coords) (s : St F) : St F := loop i (single i (diag i (start i s)))
/-- The block's outputs of the keys and of the values. -/
def outKV' (s : St F) : St F :=
  { s with
    x7 := VecWindow.put s.x7 ![0, 0] S512x128.size (k0_pay92 (View.ld s.x12 (Rect.unit (s := S512x256) ![0, 0] S512x256.size inb_S512x256_S512x256_0_0)) (iota .tc S512x128 32 [1] iota_S512x128_d1_w32))
    x8 := VecWindow.put s.x8 ![0, 0] S512x128.size (k0_pay93 (View.ld s.x13 (Rect.unit (s := S512x256) ![0, 0] S512x256.size inb_S512x256_S512x256_0_0))) }
/-- The block's outputs. -/
def outKV (i : grid0.Coords) (s : St F) : St F :=
  { outKV' s with
    x10 := VecWindow.put s.x10 ![0, 0, 0] S1x512x128.size (k0_pay1 (k0_pay94 (BitVec.ofNat 32 (i 0).val) (View.ld s.x12 (Rect.unit (s := S512x256) ![0, 0] S512x256.size inb_S512x256_S512x256_0_0)))) }
/-- The pair's outputs, at its last block. -/
def outQ (i : grid0.Coords) (s : St F) : St F :=
  if k0_cond3 i = 1#1 then { s with
    x6 := VecWindow.put s.x6 ![0, 0] S8192x128.size (k0_pay2 (View.ld s.x11 (Rect.unit (s := S8192x256) ![0, 0] S8192x256.size inb_S8192x256_S8192x256_0_0)))
    x9 := VecWindow.put s.x9 ![0, 0, 0] S1x8192x128.size (k0_pay3 (Scalar.muli 2#32 (BitVec.ofNat 32 (i 0).val)) (View.ld s.x11 (Rect.unit (s := S8192x256) ![0, 0] S8192x256.size inb_S8192x256_S8192x256_0_0))) }
  else s
/-- What a grid point leaves in the operands. -/
def point (i : grid0.Coords) (s : St F) : St F := outQ i (outKV i (tiles i s))

end Cert.Proof.Attn

end
-- ==== Proof.Parts.lean ====
/-
  The kernel's parts, gone through with the load and store rules of its operands: each part takes the state to the one
  Tiles.lean names, and returns the payloads its successor reads.
-/
module

public import proofs.«01_k».proof.Proof.State
public import proofs.«01_k».proof.Proof.Tiles

@[expose] public section

set_option maxRecDepth 65536

noncomputable section

namespace Cert.Proof.Attn

open Cert.KernelIdeal Cert.KernelIdeal.Gen
open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline

variable {F : FTy → Type} [FloatOps F]

local notation "𝕄" => MT nD τ sig Unit (Elt F) ℕ (UR sig nD τ) ℕ

/-- The operands are whole buffers. -/
structure Ops.Whole (A : Ops) : Prop where
  h2 : A.a2.IsWhole
  h3 : A.a3.IsWhole
  h4 : A.a4.IsWhole
  h5 : A.a5.IsWhole
  h6 : A.a6.IsWhole
  h7 : A.a7.IsWhole
  h8 : A.a8.IsWhole
  h9 : A.a9.IsWhole
  h10 : A.a10.IsWhole
  h11 : A.a11.IsWhole
  h12 : A.a12.IsWhole
  h13 : A.a13.IsWhole

/-- A program that has returned. -/
theorem done (c : Dev nD) {𝒱 : Variants} {bd : Option 𝒱.V} {E : Set ℕ} {α : Type} {P : sProp 𝕄} {Q : α → sProp 𝕄} {a : α} (h : P ⊢ Q a) :
    P ⊢ WP (F := F) c 𝒱 bd E (.ret a) Q := h.trans (le_wp_ret _ _ _ _ _)

variable (c : Dev nD) (A : Ops) (W : A.Whole) {𝒱 : Variants} {bd : Option 𝒱.V} {E : Set ℕ} (i : grid0.Coords) (s : St F)
include W

omit W in
/-- The zeroing of the accumulators and the first head's blocks. -/
theorem part7 (W : A.Whole) {Q : (Σ' (arg0 : BitVec 32) (arg1 : BitVec 32) (v12 : BitVec 32) (v15 : FVec F S512x128 .bf16) (v18 : FVec F S512x128 .bf16) (v20 : FVec F S256x128 .bf16) (v32 : FVec F S256x512 .bf16) (v33 : Vec F S256x128 .f32), FVec F S256x512 .bf16) → sProp 𝕄}
    (h : Held c A (start i s) ⊢ Q ⟨BitVec.ofNat 32 (i 0).val, BitVec.ofNat 32 (i 1).val, Scalar.muli (BitVec.ofNat 32 (i 1).val) 512#32, k0_pay54 (View.ld (start i s).x2 (Rect.unit (s := S8192x256) (k0_off1 i) S512x128.size (k0_off1_inb i))), k0_pay55 (View.ld (start i s).x3 (Rect.unit (s := S8192x256) (k0_off1 i) S512x128.size (k0_off1_inb i))), k0_pay56 (View.ld (start i s).x4 (Rect.unit (s := S512x256) ![0, 0] S256x128.size inb_S512x256_S256x128_0_0)), k0_pay58 (View.ld (start i s).x2 (Rect.unit (s := S8192x256) (k0_off1 i) S512x128.size (k0_off1_inb i))) (View.ld (start i s).x3 (Rect.unit (s := S8192x256) (k0_off1 i) S512x128.size (k0_off1_inb i))) (View.ld (start i s).x4 (Rect.unit (s := S512x256) ![0, 0] S256x128.size inb_S512x256_S256x128_0_0)) (View.ld (start i s).x5 (Rect.unit (s := S512x256) ![0, 0] S256x128.size inb_S512x256_S256x128_0_0)), (View.ld (start i s).x13 (Rect.unit (s := S512x256) ![0, 0] S256x128.size inb_S512x256_S256x128_0_0)), k0_pay59 (View.ld (start i s).x2 (Rect.unit (s := S8192x256) (k0_off1 i) S512x128.size (k0_off1_inb i))) (View.ld (start i s).x4 (Rect.unit (s := S512x256) ![0, 0] S256x128.size inb_S512x256_S256x128_0_0))⟩) :
    Held c A s ⊢ WP c 𝒱 bd E (k0_part7 i A.a2 W.h2 A.a3 W.h3 A.a4 W.h4 A.a5 W.h5 A.a6 W.h6 A.a7 W.h7 A.a8 W.h8 A.a9 W.h9 A.a10 W.h10 A.a11 W.h11 A.a12 W.h12 A.a13 W.h13) Q := by
  rw [k0_part7_eq_skeleton]
  unfold k0_part7_skel
  by_cases h1 : cond1 i = 1#1
  · have e : start i s = zeroKV (zeroQ s) := by unfold start; rw [if_pos h1]
    rw [e] at h
    unfold cond1 at h1
    simp only [Prog.lift, Prog.bind_op, Prog.bind_ret]
    rw [dif_pos h1]
    refine ld11 c A _ ?_
    refine st11 c A _ ?_
    refine ld12 c A _ ?_
    refine st12 c A _ ?_
    refine ld13 c A _ ?_
    refine st13 c A _ ?_
    refine ld2 c A _ ?_
    refine ld3 c A _ ?_
    refine ld4 c A _ ?_
    refine ld5 c A _ ?_
    refine ld13 c A _ ?_
    exact done c h
  · have e : start i s = zeroKV s := by unfold start; rw [if_neg h1]
    rw [e] at h
    unfold cond1 at h1
    simp only [Prog.lift, Prog.bind_op, Prog.bind_ret]
    rw [dif_neg h1]
    refine ld12 c A _ ?_
    refine st12 c A _ ?_
    refine ld13 c A _ ?_
    refine st13 c A _ ?_
    refine ld2 c A _ ?_
    refine ld3 c A _ ?_
    refine ld4 c A _ ?_
    refine ld5 c A _ ?_
    refine ld13 c A _ ?_
    exact done c h

/-- The upper half of the diagonal block, first head; the second head's blocks. -/
theorem part8 (v12 : BitVec 32) {Q : (Σ' (v56 : FVec F S512x128 .bf16) (v59 : FVec F S512x128 .bf16) (v61 : FVec F S256x128 .bf16) (v68 : FVec F S256x512 .f32), FVec F S256x512 .f32) → sProp 𝕄}
    (h : Held c A (a0Qs i (a0Ks i (a0Vs i s))) ⊢ Q ⟨k0_pay63 (View.ld s.x2 (Rect.unit (s := S8192x256) (k0_off2 i) S512x128.size (k0_off2_inb i))), k0_pay64 (View.ld s.x3 (Rect.unit (s := S8192x256) (k0_off2 i) S512x128.size (k0_off2_inb i))), k0_pay65 (View.ld s.x4 (Rect.unit (s := S512x256) ![0, 128] S256x128.size inb_S512x256_S256x128_0_128)), k0_pay66 (View.ld s.x2 (Rect.unit (s := S8192x256) (k0_off2 i) S512x128.size (k0_off2_inb i))) (View.ld s.x4 (Rect.unit (s := S512x256) ![0, 128] S256x128.size inb_S512x256_S256x128_0_128)), k0_pay67 (View.ld s.x3 (Rect.unit (s := S8192x256) (k0_off2 i) S512x128.size (k0_off2_inb i))) (View.ld s.x5 (Rect.unit (s := S512x256) ![0, 128] S256x128.size inb_S512x256_S256x128_0_128))⟩) :
    Held c A s ⊢ WP c 𝒱 bd E (k0_part8 i A.a2 W.h2 A.a3 W.h3 A.a4 W.h4 A.a5 W.h5 A.a6 W.h6 A.a7 W.h7 A.a8 W.h8 A.a9 W.h9 A.a10 W.h10 A.a11 W.h11 A.a12 W.h12 A.a13 W.h13 v12 (k0_pay54 (View.ld s.x2 (Rect.unit (s := S8192x256) (k0_off1 i) S512x128.size (k0_off1_inb i)))) (k0_pay55 (View.ld s.x3 (Rect.unit (s := S8192x256) (k0_off1 i) S512x128.size (k0_off1_inb i)))) (k0_pay56 (View.ld s.x4 (Rect.unit (s := S512x256) ![0, 0] S256x128.size inb_S512x256_S256x128_0_0))) (k0_pay58 (View.ld s.x2 (Rect.unit (s := S8192x256) (k0_off1 i) S512x128.size (k0_off1_inb i))) (View.ld s.x3 (Rect.unit (s := S8192x256) (k0_off1 i) S512x128.size (k0_off1_inb i))) (View.ld s.x4 (Rect.unit (s := S512x256) ![0, 0] S256x128.size inb_S512x256_S256x128_0_0)) (View.ld s.x5 (Rect.unit (s := S512x256) ![0, 0] S256x128.size inb_S512x256_S256x128_0_0))) (View.ld s.x13 (Rect.unit (s := S512x256) ![0, 0] S256x128.size inb_S512x256_S256x128_0_0)) (k0_pay59 (View.ld s.x2 (Rect.unit (s := S8192x256) (k0_off1 i) S512x128.size (k0_off1_inb i))) (View.ld s.x4 (Rect.unit (s := S512x256) ![0, 0] S256x128.size inb_S512x256_S256x128_0_0)))) Q := by
  rw [k0_part8_eq_skeleton]
  unfold k0_part8_skel
  simp only [Prog.lift, Prog.bind_op, Prog.bind_ret]
  refine ld13 c A _ ?_
  refine st13 c A _ ?_
  refine ld12 c A _ ?_
  refine ld12 c A _ ?_
  refine st12 c A _ ?_
  refine ld11 c A _ ?_
  refine ld11 c A _ ?_
  refine st11 c A _ ?_
  refine ld2 c A _ ?_
  refine ld3 c A _ ?_
  refine ld4 c A _ ?_
  refine ld5 c A _ ?_
  exact done c h

/-- The upper half of the diagonal block, second head; the lower half's blocks. -/
theorem part9 (arg1 v12 : BitVec 32) {Q : (Σ' (v97 : BitVec 32) (v100 : FVec F S256x128 .bf16) (v103 : FVec F S256x128 .bf16) (v105 : FVec F S256x128 .bf16) (v107 : FVec F S256x256 .f32), IVec S256x256 32) → sProp 𝕄}
    (h : Held c A (a1Qs i (a1Ks i (a1Vs i s))) ⊢ Q ⟨Scalar.addi (Scalar.muli arg1 512#32) 256#32, k0_pay72 (View.ld s.x2 (Rect.unit (s := S8192x256) (k0_off3 i) S256x128.size (k0_off3_inb i))), k0_pay73 (View.ld s.x3 (Rect.unit (s := S8192x256) (k0_off3 i) S256x128.size (k0_off3_inb i))), k0_pay74 (View.ld s.x4 (Rect.unit (s := S512x256) ![256, 0] S256x128.size inb_S512x256_S256x128_256_0)), k0_pay75 (View.ld s.x2 (Rect.unit (s := S8192x256) (k0_off3 i) S256x128.size (k0_off3_inb i))) (View.ld s.x4 (Rect.unit (s := S512x256) ![256, 0] S256x128.size inb_S512x256_S256x128_256_0)), iota .tc S256x256 32 [1] iota_S256x256_d1_w32⟩) :
    Held c A s ⊢ WP c 𝒱 bd E (k0_part9 i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v12 (k0_pay63 (View.ld s.x2 (Rect.unit (s := S8192x256) (k0_off2 i) S512x128.size (k0_off2_inb i)))) (k0_pay64 (View.ld s.x3 (Rect.unit (s := S8192x256) (k0_off2 i) S512x128.size (k0_off2_inb i)))) (k0_pay65 (View.ld s.x4 (Rect.unit (s := S512x256) ![0, 128] S256x128.size inb_S512x256_S256x128_0_128))) (k0_pay66 (View.ld s.x2 (Rect.unit (s := S8192x256) (k0_off2 i) S512x128.size (k0_off2_inb i))) (View.ld s.x4 (Rect.unit (s := S512x256) ![0, 128] S256x128.size inb_S512x256_S256x128_0_128))) (k0_pay67 (View.ld s.x3 (Rect.unit (s := S8192x256) (k0_off2 i) S512x128.size (k0_off2_inb i))) (View.ld s.x5 (Rect.unit (s := S512x256) ![0, 128] S256x128.size inb_S512x256_S256x128_0_128)))) Q := by
  rw [k0_part9_eq_skeleton]
  unfold k0_part9_skel
  simp only [Prog.lift, Prog.bind_op, Prog.bind_ret]
  refine ld13 c A _ ?_
  refine ld13 c A _ ?_
  refine st13 c A _ ?_
  refine ld12 c A _ ?_
  refine ld12 c A _ ?_
  refine st12 c A _ ?_
  refine ld11 c A _ ?_
  refine ld11 c A _ ?_
  refine st11 c A _ ?_
  refine ld2 c A _ ?_
  refine ld3 c A _ ?_
  refine ld4 c A _ ?_
  exact done c h

/-- The lower half of the diagonal block, first head. -/
theorem part10 (v97 : BitVec 32) {Q : (Σ' (v141 : FVec F S256x128 .bf16), FVec F S256x128 .bf16) → sProp 𝕄}
    (h : Held c A (b0Qs i (b0Ks i (b0Vs i s))) ⊢ Q ⟨k0_pay81 (View.ld s.x2 (Rect.unit (s := S8192x256) (k0_off4 i) S256x128.size (k0_off4_inb i))), k0_pay82 (View.ld s.x3 (Rect.unit (s := S8192x256) (k0_off4 i) S256x128.size (k0_off4_inb i)))⟩) :
    Held c A s ⊢ WP c 𝒱 bd E (k0_part10 i A.a2 W.h2 A.a3 W.h3 A.a4 W.h4 A.a5 W.h5 A.a6 W.h6 A.a7 W.h7 A.a8 W.h8 A.a9 W.h9 A.a10 W.h10 A.a11 W.h11 A.a12 W.h12 A.a13 W.h13 v97 (k0_pay72 (View.ld s.x2 (Rect.unit (s := S8192x256) (k0_off3 i) S256x128.size (k0_off3_inb i)))) (k0_pay73 (View.ld s.x3 (Rect.unit (s := S8192x256) (k0_off3 i) S256x128.size (k0_off3_inb i)))) (k0_pay74 (View.ld s.x4 (Rect.unit (s := S512x256) ![256, 0] S256x128.size inb_S512x256_S256x128_256_0))) (k0_pay75 (View.ld s.x2 (Rect.unit (s := S8192x256) (k0_off3 i) S256x128.size (k0_off3_inb i))) (View.ld s.x4 (Rect.unit (s := S512x256) ![256, 0] S256x128.size inb_S512x256_S256x128_256_0))) (iota .tc S256x256 32 [1] iota_S256x256_d1_w32)) Q := by
  rw [k0_part10_eq_skeleton]
  unfold k0_part10_skel
  simp only [Prog.lift, Prog.bind_op, Prog.bind_ret]
  refine ld5 c A _ ?_
  refine ld13 c A _ ?_
  refine ld13 c A _ ?_
  refine st13 c A _ ?_
  refine ld12 c A _ ?_
  refine ld12 c A _ ?_
  refine st12 c A _ ?_
  refine ld11 c A _ ?_
  refine ld11 c A _ ?_
  refine st11 c A _ ?_
  refine ld2 c A _ ?_
  refine ld3 c A _ ?_
  exact done c h

/-- The lower half of the diagonal block, second head. -/
theorem part11 (arg1 v97 : BitVec 32) {Q : (Σ' (v180 : BitVec 32) (c2_i32 : BitVec 32), BitVec 32) → sProp 𝕄}
    (h : Held c A (b1Qs i (b1Ks i (b1Vs i s))) ⊢ Q ⟨Scalar.subi 15#32 arg1, 2#32, 0#32⟩) :
    Held c A s ⊢ WP c 𝒱 bd E (k0_part11 i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v97 (k0_pay81 (View.ld s.x2 (Rect.unit (s := S8192x256) (k0_off4 i) S256x128.size (k0_off4_inb i)))) (k0_pay82 (View.ld s.x3 (Rect.unit (s := S8192x256) (k0_off4 i) S256x128.size (k0_off4_inb i))))) Q := by
  rw [k0_part11_eq_skeleton]
  unfold k0_part11_skel
  simp only [Prog.lift, Prog.bind_op, Prog.bind_ret]
  refine ld4 c A _ ?_
  refine ld5 c A _ ?_
  refine ld13 c A _ ?_
  refine ld13 c A _ ?_
  refine st13 c A _ ?_
  refine ld12 c A _ ?_
  refine ld12 c A _ ?_
  refine st12 c A _ ?_
  refine ld11 c A _ ?_
  refine ld11 c A _ ?_
  refine st11 c A _ ?_
  exact done c h

/-- The single tile, first head. -/
theorem part1 (arg1 : BitVec 32) (h2 : k0_cond2 i = 1#1) {Q : (Σ' (v264 : BitVec 32), FVec F S512x128 .f32) → sProp 𝕄}
    (h : Held c A (o0Ks i h2 (o0Vs i h2 s)) ⊢ Q ⟨Scalar.muli (Scalar.addi arg1 1#32) 512#32, k0_pay11 (View.ld s.x2 (Rect.unit (s := S8192x256) (k0_off5 i) S512x128.size (k0_off5_inb i h2))) (View.ld s.x3 (Rect.unit (s := S8192x256) (k0_off5 i) S512x128.size (k0_off5_inb i h2))) (View.ld s.x4 (Rect.unit (s := S512x256) ![0, 0] S512x128.size inb_S512x256_S512x128_0_0)) (View.ld s.x5 (Rect.unit (s := S512x256) ![0, 0] S512x128.size inb_S512x256_S512x128_0_0)) (View.ld s.x11 (Rect.unit (s := S8192x256) (k0_off5 i) S512x128.size (k0_off5_inb i h2)))⟩) :
    Held c A s ⊢ WP c 𝒱 bd E (k0_part1 i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 h2) Q := by
  rw [k0_part1_eq_skeleton]
  unfold k0_part1_skel
  simp only [Prog.lift, Prog.bind_op, Prog.bind_ret]
  refine ld2 c A _ ?_
  refine ld3 c A _ ?_
  refine ld4 c A _ ?_
  refine ld5 c A _ ?_
  refine ld13 c A _ ?_
  refine ld13 c A _ ?_
  refine st13 c A _ ?_
  refine ld12 c A _ ?_
  refine ld12 c A _ ?_
  refine st12 c A _ ?_
  refine ld11 c A _ ?_
  exact done c h

/-- The single tile, second head. -/
theorem part2 (h2 : k0_cond2 i = 1#1) (v264 : BitVec 32) {Q : (FVec F S512x128 .f32) → sProp 𝕄}
    (h : Held c A (o1Ks i h2 (o1Vs i h2 (o0Qs i h2 s))) ⊢ Q (k0_pay20 (View.ld s.x2 (Rect.unit (s := S8192x256) (k0_off6 i) S512x128.size (k0_off6_inb i h2))) (View.ld s.x3 (Rect.unit (s := S8192x256) (k0_off6 i) S512x128.size (k0_off6_inb i h2))) (View.ld s.x4 (Rect.unit (s := S512x256) ![0, 128] S512x128.size inb_S512x256_S512x128_0_128)) (View.ld s.x5 (Rect.unit (s := S512x256) ![0, 128] S512x128.size inb_S512x256_S512x128_0_128)) (View.ld (o0Qs i h2 s).x11 (Rect.unit (s := S8192x256) (k0_off6 i) S512x128.size (k0_off6_inb i h2))))) :
    Held c A s ⊢ WP c 𝒱 bd E (k0_part2 i A.a2 W.h2 A.a3 W.h3 A.a4 W.h4 A.a5 W.h5 A.a6 W.h6 A.a7 W.h7 A.a8 W.h8 A.a9 W.h9 A.a10 W.h10 A.a11 W.h11 A.a12 W.h12 A.a13 W.h13 h2 v264 (k0_pay11 (View.ld s.x2 (Rect.unit (s := S8192x256) (k0_off5 i) S512x128.size (k0_off5_inb i h2))) (View.ld s.x3 (Rect.unit (s := S8192x256) (k0_off5 i) S512x128.size (k0_off5_inb i h2))) (View.ld s.x4 (Rect.unit (s := S512x256) ![0, 0] S512x128.size inb_S512x256_S512x128_0_0)) (View.ld s.x5 (Rect.unit (s := S512x256) ![0, 0] S512x128.size inb_S512x256_S512x128_0_0)) (View.ld s.x11 (Rect.unit (s := S8192x256) (k0_off5 i) S512x128.size (k0_off5_inb i h2))))) Q := by
  rw [k0_part2_eq_skeleton]
  unfold k0_part2_skel
  simp only [Prog.lift, Prog.bind_op, Prog.bind_ret]
  refine ld11 c A _ ?_
  refine st11 c A _ ?_
  refine ld2 c A _ ?_
  refine ld3 c A _ ?_
  refine ld4 c A _ ?_
  refine ld5 c A _ ?_
  refine ld13 c A _ ?_
  refine ld13 c A _ ?_
  refine st13 c A _ ?_
  refine ld12 c A _ ?_
  refine ld12 c A _ ?_
  refine st12 c A _ ?_
  refine ld11 c A _ ?_
  exact done c h

/-- A double tile, first head. -/
theorem part3 (arg1 v190 c0_i32_106 c1_i32_108 : BitVec 32) (t : Fin (k0_t1_loop i).trips) {Q : (Σ' (v267 : BitVec 32) (v275 : FVec F S512x128 .bf16), FVec F S512x1024 .bf16) → sProp 𝕄}
    (h : Held c A (t0Ks i t (t0Vs i t s)) ⊢ Q ⟨((Scalar.muli (Scalar.addi (Scalar.addi (Scalar.addi arg1 1#32) v190) (Scalar.muli 2#32 (Scf.iv c0_i32_106 c1_i32_108 t))) 512#32)), k0_pay23 (View.ld s.x4 (Rect.unit (s := S512x256) ![0, 0] S512x128.size inb_S512x256_S512x128_0_0)), k0_pay25 (View.ld s.x2 (Rect.unit (s := S8192x256) (k0_off7 i t) S1024x128.size (k0_off7_inb i t))) (View.ld s.x3 (Rect.unit (s := S8192x256) (k0_off7 i t) S1024x128.size (k0_off7_inb i t))) (View.ld s.x4 (Rect.unit (s := S512x256) ![0, 0] S512x128.size inb_S512x256_S512x128_0_0)) (View.ld s.x5 (Rect.unit (s := S512x256) ![0, 0] S512x128.size inb_S512x256_S512x128_0_0))⟩) :
    Held c A s ⊢ WP c 𝒱 bd E (k0_part3 i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v190 c0_i32_106 c1_i32_108 t) Q := by
  rw [k0_part3_eq_skeleton]
  unfold k0_part3_skel
  simp only [Prog.lift, Prog.bind_op, Prog.bind_ret]
  refine ld2 c A _ ?_
  refine ld3 c A _ ?_
  refine ld4 c A _ ?_
  refine ld5 c A _ ?_
  refine ld13 c A _ ?_
  refine ld13 c A _ ?_
  refine st13 c A _ ?_
  refine ld12 c A _ ?_
  refine ld12 c A _ ?_
  refine st12 c A _ ?_
  exact done c h

/-- A double tile, second head. -/
theorem part4 (t : Fin (k0_t1_loop i).trips) (v267 : BitVec 32) {Q : (Σ' (v311 : FVec F S512x128 .bf16), FVec F S512x1024 .bf16) → sProp 𝕄}
    (h : Held c A (t1Ks i t (t1Vs i t (t0Qs i t s))) ⊢ Q ⟨k0_pay31 (View.ld s.x4 (Rect.unit (s := S512x256) ![0, 128] S512x128.size inb_S512x256_S512x128_0_128)), k0_pay33 (View.ld s.x2 (Rect.unit (s := S8192x256) (k0_off8 i t) S1024x128.size (k0_off8_inb i t))) (View.ld s.x3 (Rect.unit (s := S8192x256) (k0_off8 i t) S1024x128.size (k0_off8_inb i t))) (View.ld s.x4 (Rect.unit (s := S512x256) ![0, 128] S512x128.size inb_S512x256_S512x128_0_128)) (View.ld s.x5 (Rect.unit (s := S512x256) ![0, 128] S512x128.size inb_S512x256_S512x128_0_128))⟩) :
    Held c A s ⊢ WP c 𝒱 bd E (k0_part4 i A.a2 W.h2 A.a3 W.h3 A.a4 W.h4 A.a5 W.h5 A.a6 W.h6 A.a7 W.h7 A.a8 W.h8 A.a9 W.h9 A.a10 W.h10 A.a11 W.h11 A.a12 W.h12 A.a13 W.h13 t v267 (k0_pay23 (View.ld s.x4 (Rect.unit (s := S512x256) ![0, 0] S512x128.size inb_S512x256_S512x128_0_0))) (k0_pay25 (View.ld s.x2 (Rect.unit (s := S8192x256) (k0_off7 i t) S1024x128.size (k0_off7_inb i t))) (View.ld s.x3 (Rect.unit (s := S8192x256) (k0_off7 i t) S1024x128.size (k0_off7_inb i t))) (View.ld s.x4 (Rect.unit (s := S512x256) ![0, 0] S512x128.size inb_S512x256_S512x128_0_0)) (View.ld s.x5 (Rect.unit (s := S512x256) ![0, 0] S512x128.size inb_S512x256_S512x128_0_0)))) Q := by
  rw [k0_part4_eq_skeleton]
  unfold k0_part4_skel
  simp only [Prog.lift, Prog.bind_op, Prog.bind_ret]
  refine ld11 c A _ ?_
  refine ld11 c A _ ?_
  refine st11 c A _ ?_
  refine ld2 c A _ ?_
  refine ld3 c A _ ?_
  refine ld4 c A _ ?_
  refine ld5 c A _ ?_
  refine ld13 c A _ ?_
  refine ld13 c A _ ?_
  refine st13 c A _ ?_
  refine ld12 c A _ ?_
  refine ld12 c A _ ?_
  refine st12 c A _ ?_
  exact done c h

/-- The outputs of the keys and of the values. -/
theorem part13 (arg0 : BitVec 32) {Q : (Σ' (v236 : BitVec 32), FVec F S512x128 .f32) → sProp 𝕄}
    (h : Held c A (outKV' s) ⊢ Q ⟨Scalar.muli 2#32 arg0, k0_pay94 arg0 (View.ld s.x12 (Rect.unit (s := S512x256) ![0, 0] S512x256.size inb_S512x256_S512x256_0_0))⟩) :
    Held c A s ⊢ WP c 𝒱 bd E (k0_part13 i A.a2 W.h2 A.a3 W.h3 A.a4 W.h4 A.a5 W.h5 A.a6 W.h6 A.a7 W.h7 A.a8 W.h8 A.a9 W.h9 A.a10 W.h10 A.a11 W.h11 A.a12 W.h12 A.a13 W.h13 arg0 (View.ld s.x12 (Rect.unit (s := S512x256) ![0, 0] S512x256.size inb_S512x256_S512x256_0_0)) (iota .tc S512x128 32 [1] iota_S512x128_d1_w32)) Q := by
  rw [k0_part13_eq_skeleton]
  unfold k0_part13_skel
  simp only [Prog.lift, Prog.bind_op, Prog.bind_ret]
  refine ld7 c A _ ?_
  refine st7 c A _ ?_
  refine ld13 c A _ ?_
  refine ld8 c A _ ?_
  refine st8 c A _ ?_
  refine ld10 c A _ ?_
  exact done c h

end Cert.Proof.Attn

end
-- ==== Proof.Body.lean ====
/-
  The kernel's body: the loop over the double tiles by its trip, the parts in sequence, and the outputs. At any contents
  of its operands the body takes them to `point` (Tiles.lean) and returns.
-/
module

public import proofs.«01_k».proof.Proof.State
public import proofs.«01_k».proof.Proof.Parts
public import Idealize.ShloMosaic.Lib.LoopRemainder

@[expose] public section

set_option maxRecDepth 65536

noncomputable section

namespace Cert.Proof.Attn

open Cert.KernelIdeal Cert.KernelIdeal.Gen
open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline

variable {F : FTy → Type} [FloatOps F]

local notation "𝕄" => MT nD τ sig Unit (Elt F) ℕ (UR sig nD τ) ℕ

variable (c : Dev nD) (A : Ops) (W : A.Whole) {𝒱 : Variants} {bd : Option 𝒱.V} {E : Set ℕ} (i : grid0.Coords) (s : St F)

/-- A program, then its continuation. -/
theorem bind {α β : Type} {P : sProp 𝕄} {p : Prog (TpuEff nD τ sig (Elt F) Λ₀ .tc) α} {k : α → Prog (TpuEff nD τ sig (Elt F) Λ₀ .tc) β} {Q : β → sProp 𝕄}
    (h : P ⊢ WP c 𝒱 bd E p fun a => WP c 𝒱 bd E (k a) Q) : P ⊢ WP c 𝒱 bd E (p >>= k) Q := by
  unfold WP; rw [wp_bind]; exact h

/-- Trips in sequence: the fold of what each does to the state. -/
theorem trips {n : ℕ} {body : Fin n → Unit → Prog (TpuEff nD τ sig (Elt F) Λ₀ .tc) Unit} {step : Fin n → St F → St F}
    (hb : ∀ (k : Fin n) (s : St F) {Q : Unit → sProp 𝕄}, (Held c A (step k s) ⊢ Q ()) → Held c A s ⊢ WP c 𝒱 bd E (body k ()) Q) :
    ∀ (ks : List (Fin n)) (s : St F) {Q : Unit → sProp 𝕄}, (Held c A (ks.foldl (fun s t => step t s) s) ⊢ Q ()) →
      Held c A s ⊢ WP c 𝒱 bd E (Scf.forFrom body ks ()) Q
  | [], _, _, h => done c h
  | k :: ks, s, Q, h => by
    rw [Scf.forFrom_cons]
    refine bind c ?_
    exact hb k s (trips hb ks (step k s) h)

include W

/-- A trip of the loop over the double tiles. -/
theorem trip_run (arg1 v180 c2_i32 c0_i32_92 v190 : BitVec 32) (t : Fin (k0_t1_loop i).trips) (s : St F) {Q : Unit → sProp 𝕄}
    (h : Held c A (trip i t s) ⊢ Q ()) :
    Held c A s ⊢ WP c 𝒱 bd E (k0_t1_body i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v180 c2_i32 c0_i32_92 v190 t ()) Q := by
  unfold k0_t1_body
  refine bind c ?_
  refine part3 c A W i s _ _ _ _ t ?_
  refine bind c ?_
  refine part4 c A W i (t0Ks i t (t0Vs i t s)) t _ ?_
  simp only [Prog.lift, Prog.bind_op, Prog.bind_ret]
  refine ld11 c A _ ?_
  refine ld11 c A _ ?_
  refine st11 c A _ ?_
  exact done c h

omit [FloatOps F] W in
/-- The remainder loop makes no trip. -/
theorem rem_trips : (k0_t2_loop i).trips = 0 := Scf.rem_trips _ _

/-- The single tile and the loop. -/
theorem part12 (arg1 v180 c2_i32 c0_i32_92 : BitVec 32) {Q : (Σ' (v216 : Vec F S512x256 .f32), IVec S512x128 32) → sProp 𝕄}
    (h : Held c A (loop i (single i s)) ⊢ Q ⟨View.ld (loop i (single i s)).x12 (Rect.unit (s := S512x256) ![0, 0] S512x256.size inb_S512x256_S512x256_0_0), iota .tc S512x128 32 [1] iota_S512x128_d1_w32⟩) :
    Held c A s ⊢ WP c 𝒱 bd E (k0_part12 i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v180 c2_i32 c0_i32_92) Q := by
  have key : ∀ (s : St F) (v190 v215 : BitVec 32), (Held c A (loop i s) ⊢ Q ⟨View.ld (loop i s).x12 (Rect.unit (s := S512x256) ![0, 0] S512x256.size inb_S512x256_S512x256_0_0), iota .tc S512x128 32 [1] iota_S512x128_d1_w32⟩) →
      Held c A s ⊢ WP c 𝒱 bd E (Scf.Loop.for (k0_t1_loop i) (k0_t1_ok i) () (k0_t1_body i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v180 c2_i32 c0_i32_92 v190) >>= fun _ =>
        Scf.Loop.for (k0_t2_loop i) (k0_t2_ok i) () (k0_t2_body i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v180 c2_i32 c0_i32_92 v190 v215) >>= fun _ =>
        Prog.op (TpuEff.load A.a12 (Rect.unit (s := S512x256) ![0, 0] S512x256.size inb_S512x256_S512x256_0_0).toLoadRect (View.loadsAt_vmem h_S512x256)) fun v216 =>
          (Prog.ret ⟨v216, iota .tc S512x128 32 [1] iota_S512x128_d1_w32⟩ : Prog (TpuEff nD τ sig (Elt F) Λ₀ .tc) (Σ' (v216 : Vec F S512x256 .f32), IVec S512x128 32))) Q := by
    intro s v190 v215 h
    refine bind c ?_
    rw [show Scf.Loop.for (k0_t1_loop i) (k0_t1_ok i) () (k0_t1_body (F := F) i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v180 c2_i32 c0_i32_92 v190) = _ from Scf.for_eq _ _ _ _ _ _]
    refine trips c A (step := trip i) (fun k s {Q} h => trip_run c A W i _ _ _ _ _ k s h) _ s ?_
    refine bind c ?_
    rw [show Scf.Loop.for (k0_t2_loop i) (k0_t2_ok i) () (k0_t2_body (F := F) i A.a2 W.h2 A.a3 W.h3 A.a4 W.h4 A.a5 W.h5 A.a6 W.h6 A.a7 W.h7 A.a8 W.h8 A.a9 W.h9 A.a10 W.h10 A.a11 W.h11 A.a12 W.h12 A.a13 W.h13 arg1 v180 c2_i32 c0_i32_92 v190 v215) = .ret () from Scf.for_eq_ret _ _ _ _ _ _ (rem_trips i)]
    refine done c ?_
    refine ld12 c A _ ?_
    exact done c h
  rw [k0_part12_eq_skeleton]
  unfold k0_part12_skel
  by_cases h2 : k0_cond2 i = 1#1
  · have e : single i s = o1Qs i h2 (o1Ks i h2 (o1Vs i h2 (o0Qs i h2 (o0Ks i h2 (o0Vs i h2 s))))) := by unfold single; rw [dif_pos h2]
    rw [e] at h
    simp only [Prog.lift, Prog.bind_op, Prog.bind_ret]
    rw [dif_pos h2]
    refine bind c ?_
    refine part1 c A W i s _ h2 ?_
    refine bind c ?_
    refine part2 c A W i (o0Ks i h2 (o0Vs i h2 s)) h2 _ ?_
    refine ld11 c A _ ?_
    refine st11 c A _ ?_
    exact key _ _ _ h
  · have e : single i s = s := by unfold single; rw [dif_neg h2]
    rw [e] at h
    simp only [Prog.lift, Prog.bind_op, Prog.bind_ret]
    rw [dif_neg h2]
    exact key _ _ _ h

/-- The body: at any contents of its operands it takes them to `point`. -/
theorem body_run {Q : PUnit → sProp 𝕄} (h : Held c A (point i s) ⊢ Q ⟨⟩) :
    Held c A s ⊢ WP c 𝒱 bd E (cc0_attn_bwd i A.a2 W.h2 A.a3 W.h3 A.a4 W.h4 A.a5 W.h5 A.a6 W.h6 A.a7 W.h7 A.a8 W.h8 A.a9 W.h9 A.a10 W.h10 A.a11 W.h11 A.a12 W.h12 A.a13 W.h13) Q := by
  rw [cc0_attn_bwd_eq_skeleton]
  unfold cc0_attn_bwd_skel
  refine bind c ?_
  refine part7 c A i s W ?_
  refine bind c ?_
  refine part8 c A W i (start i s) _ ?_
  refine bind c ?_
  refine part9 c A W i _ _ _ ?_
  refine bind c ?_
  refine part10 c A W i _ _ ?_
  refine bind c ?_
  refine part11 c A W i _ _ _ ?_
  refine bind c ?_
  refine part12 c A W i (diag i (start i s)) _ _ _ _ ?_
  refine bind c ?_
  refine part13 c A W i (tiles i s) _ ?_
  have hp : point i s = outQ i (outKV i (tiles i s)) := rfl
  rw [hp] at h
  generalize tiles i s = u at h ⊢
  by_cases h3 : k0_cond3 i = 1#1
  · simp only [Prog.lift, Prog.bind_op, Prog.bind_ret]
    refine st10 c A _ ?_
    rw [dif_pos h3]
    refine ld11 c A _ ?_
    refine ld6 c A _ ?_
    refine st6 c A _ ?_
    refine ld9 c A _ ?_
    refine st9 c A _ ?_
    unfold outQ at h; rw [if_pos h3] at h
    exact done c h
  · simp only [Prog.lift, Prog.bind_op, Prog.bind_ret]
    refine st10 c A _ ?_
    rw [dif_neg h3]
    unfold outQ at h; rw [if_neg h3] at h
    exact done c h

end Cert.Proof.Attn

end
-- ==== Proof.Run.lean ====
/-
  The run of the program: the kernel at its 64 grid points (4 pairs of heads, 16 blocks of 512 keys), what it leaves in
  its outputs stated as a relation, and the run of the whole program to its end from there.

  The accumulator of the queries is carried through the 16 blocks of a pair; `Carry` says which contents it may hold
  before a point. The accumulators of the keys and of the values are cleared at every point, so nothing is said of them.
-/
module

public import proofs.«01_k».proof.Proof.Body
public import proofs.«01_k».proof.Proof.Gen.KernelIdeal.Frame
public import proofs.«01_k».proof.Proof.Gen.KernelIdeal.Points

@[expose] public section

set_option maxRecDepth 65536

noncomputable section

namespace Cert.Proof.Attn

open Cert.KernelIdeal Cert.KernelIdeal.Gen
open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The four inputs of the kernel are its blocks of the arrays at point `t`. -/
structure Ins (t : Fin cfg0.N) (s : St F) : Prop where
  i2 : s.x2 = iblk m c 0 t
  i3 : s.x3 = iblk m c 1 t
  i4 : s.x4 = iblk m c 2 t
  i5 : s.x5 = iblk m c 3 t

/-- What the accumulator of the queries may hold before point `n`: anything at the start, then what the kernel leaves. -/
def Carry : ℕ → Vec F S8192x256 .f32 → Prop
  | 0, _ => True
  | n + 1, x => ∃ (h : n < cfg0.N) (s : St F), Ins m c ⟨n, h⟩ s ∧ Carry n s.x11 ∧ x = (point (grid0.coords ⟨n, h⟩) s).x11

/-- The states the kernel may be entered with at point `t`. -/
structure Reach (t : Fin cfg0.N) (s : St F) : Prop where
  ins : Ins m c t s
  carry : Carry m c t.val s.x11

/-- The launch's data: the arrays as the call finds them, an input left as found, an output what the kernel leaves
    from a state it may be entered with; between points the accumulators, that of the queries carried. -/
def rdat (c : Dev nD) : RDat τ (Elt F) Unit ℕ (UR sig nD τ) ℕ cfg0 c where
  A w := V m c (arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => ∃ s : St F, Reach m c t s ∧ X = (point (grid0.coords t) s).x6
    | ⟨5, _⟩ => fun _ X => ∃ s : St F, Reach m c t s ∧ X = (point (grid0.coords t) s).x7
    | ⟨6, _⟩ => fun _ X => ∃ s : St F, Reach m c t s ∧ X = (point (grid0.coords t) s).x8
    | ⟨7, _⟩ => fun _ X => ∃ s : St F, Reach m c t s ∧ X = (point (grid0.coords t) s).x9
    | ⟨8, _⟩ => fun _ X => ∃ s : St F, Reach m c t s ∧ X = (point (grid0.coords t) s).x10
  Φ t := iprop((∃ x : Vec F S8192x256 .f32, ⌜Carry m c t.val x⌝ ∗ owns (c : Thread nD τ) (Memref.whole cc0_scratch0) fullShare x)
    ∗ (∃ x : Vec F S512x256 .f32, owns (c : Thread nD τ) (Memref.whole cc0_scratch1) fullShare x)
    ∗ (∃ x : Vec F S512x256 .f32, owns (c : Thread nD τ) (Memref.whole cc0_scratch2) fullShare x)
    ∗ ∃ r, prngReg c r)
  q _ := fullShare
  owed _ := 0

/-- The operands the pipeline hands the kernel at point `t`. -/
abbrev opsAt (t : Fin cfg0.N) : Ops where
  a2 := win0_0.stage (cfg0.slots t 0)
  a3 := win0_1.stage (cfg0.slots t 1)
  a4 := win0_2.stage (cfg0.slots t 2)
  a5 := win0_3.stage (cfg0.slots t 3)
  a6 := win0_4.stage (cfg0.slots t 4)
  a7 := win0_5.stage (cfg0.slots t 5)
  a8 := win0_6.stage (cfg0.slots t 6)
  a9 := win0_7.stage (cfg0.slots t 7)
  a10 := win0_8.stage (cfg0.slots t 8)
  a11 := Memref.whole cc0_scratch0
  a12 := Memref.whole cc0_scratch1
  a13 := Memref.whole cc0_scratch2

/-- Each of them is a whole buffer. -/
theorem opsAt_whole (t : Fin cfg0.N) : (opsAt t).Whole where
  h2 := hstage0_0 ((cfg0.slots t 0).cast nbuf0_0)
  h3 := hstage0_1 ((cfg0.slots t 1).cast nbuf0_1)
  h4 := hstage0_2 ((cfg0.slots t 2).cast nbuf0_2)
  h5 := hstage0_3 ((cfg0.slots t 3).cast nbuf0_3)
  h6 := hstage0_4 ((cfg0.slots t 4).cast nbuf0_4)
  h7 := hstage0_5 ((cfg0.slots t 5).cast nbuf0_5)
  h8 := hstage0_6 ((cfg0.slots t 6).cast nbuf0_6)
  h9 := hstage0_7 ((cfg0.slots t 7).cast nbuf0_7)
  h10 := hstage0_8 ((cfg0.slots t 8).cast nbuf0_8)
  h11 := Memref.isWhole_whole _
  h12 := Memref.isWhole_whole _
  h13 := Memref.isWhole_whole _

/-- The body the pipeline calls at point `t` is the kernel there. -/
theorem defs₀_row (t : Fin cfg0.N) :
    defs₀ (F := F) .tc cfg0.body (cfg0.bodyArgs t (cfg0.slots t))
      = cc0_attn_bwd (grid0.coords t) (opsAt t).a2 (opsAt_whole t).h2 (opsAt t).a3 (opsAt_whole t).h3 (opsAt t).a4 (opsAt_whole t).h4
          (opsAt t).a5 (opsAt_whole t).h5 (opsAt t).a6 (opsAt_whole t).h6 (opsAt t).a7 (opsAt_whole t).h7 (opsAt t).a8 (opsAt_whole t).h8
          (opsAt t).a9 (opsAt_whole t).h9 (opsAt t).a10 (opsAt_whole t).h10 (opsAt t).a11 (opsAt_whole t).h11
          (opsAt t).a12 (opsAt_whole t).h12 (opsAt t).a13 (opsAt_whole t).h13 := by
  unfold defs₀; rw [Defs.onTc_tc]

/-- The kernel is handed the queries' block. -/
theorem finds0 (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl

/-- The kernel is handed the incoming gradients' block. -/
theorem finds1 (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl

/-- The kernel is handed the keys' block. -/
theorem finds2 (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rfl

/-- The kernel is handed the values' block. -/
theorem finds3 (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rfl

/-- Two states with the same inputs. -/
structure SameIns (u s : St F) : Prop where
  i2 : u.x2 = s.x2
  i3 : u.x3 = s.x3
  i4 : u.x4 = s.x4
  i5 : u.x5 = s.x5

omit [FloatOps F] in
/-- Sameness of inputs composes. -/
theorem SameIns.trans {u v w : St F} (h : SameIns u v) (h' : SameIns v w) : SameIns u w :=
  ⟨h.i2.trans h'.i2, h.i3.trans h'.i3, h.i4.trans h'.i4, h.i5.trans h'.i5⟩

/-- A store to the values' accumulator keeps the inputs. -/
theorem same_a0Vs (i : grid0.Coords) (s : St F) : SameIns (a0Vs i s) s := by unfold a0Vs; exact ⟨rfl, rfl, rfl, rfl⟩
/-- A store to the keys' accumulator keeps the inputs. -/
theorem same_a0Ks (i : grid0.Coords) (s : St F) : SameIns (a0Ks i s) s := by unfold a0Ks; exact ⟨rfl, rfl, rfl, rfl⟩
/-- A store to the queries' accumulator keeps the inputs. -/
theorem same_a0Qs (i : grid0.Coords) (s : St F) : SameIns (a0Qs i s) s := by unfold a0Qs; exact ⟨rfl, rfl, rfl, rfl⟩
/-- A store to the values' accumulator keeps the inputs. -/
theorem same_a1Vs (i : grid0.Coords) (s : St F) : SameIns (a1Vs i s) s := by unfold a1Vs; exact ⟨rfl, rfl, rfl, rfl⟩
/-- A store to the keys' accumulator keeps the inputs. -/
theorem same_a1Ks (i : grid0.Coords) (s : St F) : SameIns (a1Ks i s) s := by unfold a1Ks; exact ⟨rfl, rfl, rfl, rfl⟩
/-- A store to the queries' accumulator keeps the inputs. -/
theorem same_a1Qs (i : grid0.Coords) (s : St F) : SameIns (a1Qs i s) s := by unfold a1Qs; exact ⟨rfl, rfl, rfl, rfl⟩
/-- A store to the values' accumulator keeps the inputs. -/
theorem same_b0Vs (i : grid0.Coords) (s : St F) : SameIns (b0Vs i s) s := by unfold b0Vs; exact ⟨rfl, rfl, rfl, rfl⟩
/-- A store to the keys' accumulator keeps the inputs. -/
theorem same_b0Ks (i : grid0.Coords) (s : St F) : SameIns (b0Ks i s) s := by unfold b0Ks; exact ⟨rfl, rfl, rfl, rfl⟩
/-- A store to the queries' accumulator keeps the inputs. -/
theorem same_b0Qs (i : grid0.Coords) (s : St F) : SameIns (b0Qs i s) s := by unfold b0Qs; exact ⟨rfl, rfl, rfl, rfl⟩
/-- A store to the values' accumulator keeps the inputs. -/
theorem same_b1Vs (i : grid0.Coords) (s : St F) : SameIns (b1Vs i s) s := by unfold b1Vs; exact ⟨rfl, rfl, rfl, rfl⟩
/-- A store to the keys' accumulator keeps the inputs. -/
theorem same_b1Ks (i : grid0.Coords) (s : St F) : SameIns (b1Ks i s) s := by unfold b1Ks; exact ⟨rfl, rfl, rfl, rfl⟩
/-- A store to the queries' accumulator keeps the inputs. -/
theorem same_b1Qs (i : grid0.Coords) (s : St F) : SameIns (b1Qs i s) s := by unfold b1Qs; exact ⟨rfl, rfl, rfl, rfl⟩
/-- A store to the values' accumulator keeps the inputs. -/
theorem same_o0Vs (i : grid0.Coords) (h2 : k0_cond2 i = 1#1) (s : St F) : SameIns (o0Vs i h2 s) s := by unfold o0Vs; exact ⟨rfl, rfl, rfl, rfl⟩
/-- A store to the keys' accumulator keeps the inputs. -/
theorem same_o0Ks (i : grid0.Coords) (h2 : k0_cond2 i = 1#1) (s : St F) : SameIns (o0Ks i h2 s) s := by unfold o0Ks; exact ⟨rfl, rfl, rfl, rfl⟩
/-- A store to the queries' accumulator keeps the inputs. -/
theorem same_o0Qs (i : grid0.Coords) (h2 : k0_cond2 i = 1#1) (s : St F) : SameIns (o0Qs i h2 s) s := by unfold o0Qs; exact ⟨rfl, rfl, rfl, rfl⟩
/-- A store to the values' accumulator keeps the inputs. -/
theorem same_o1Vs (i : grid0.Coords) (h2 : k0_cond2 i = 1#1) (s : St F) : SameIns (o1Vs i h2 s) s := by unfold o1Vs; exact ⟨rfl, rfl, rfl, rfl⟩
/-- A store to the keys' accumulator keeps the inputs. -/
theorem same_o1Ks (i : grid0.Coords) (h2 : k0_cond2 i = 1#1) (s : St F) : SameIns (o1Ks i h2 s) s := by unfold o1Ks; exact ⟨rfl, rfl, rfl, rfl⟩
/-- A store to the queries' accumulator keeps the inputs. -/
theorem same_o1Qs (i : grid0.Coords) (h2 : k0_cond2 i = 1#1) (s : St F) : SameIns (o1Qs i h2 s) s := by unfold o1Qs; exact ⟨rfl, rfl, rfl, rfl⟩
/-- A store to the values' accumulator keeps the inputs. -/
theorem same_t0Vs (i : grid0.Coords) (t : Fin (k0_t1_loop i).trips) (s : St F) : SameIns (t0Vs i t s) s := by unfold t0Vs; exact ⟨rfl, rfl, rfl, rfl⟩
/-- A store to the keys' accumulator keeps the inputs. -/
theorem same_t0Ks (i : grid0.Coords) (t : Fin (k0_t1_loop i).trips) (s : St F) : SameIns (t0Ks i t s) s := by unfold t0Ks; exact ⟨rfl, rfl, rfl, rfl⟩
/-- A store to the queries' accumulator keeps the inputs. -/
theorem same_t0Qs (i : grid0.Coords) (t : Fin (k0_t1_loop i).trips) (s : St F) : SameIns (t0Qs i t s) s := by unfold t0Qs; exact ⟨rfl, rfl, rfl, rfl⟩
/-- A store to the values' accumulator keeps the inputs. -/
theorem same_t1Vs (i : grid0.Coords) (t : Fin (k0_t1_loop i).trips) (s : St F) : SameIns (t1Vs i t s) s := by unfold t1Vs; exact ⟨rfl, rfl, rfl, rfl⟩
/-- A store to the keys' accumulator keeps the inputs. -/
theorem same_t1Ks (i : grid0.Coords) (t : Fin (k0_t1_loop i).trips) (s : St F) : SameIns (t1Ks i t s) s := by unfold t1Ks; exact ⟨rfl, rfl, rfl, rfl⟩
/-- A store to the queries' accumulator keeps the inputs. -/
theorem same_t1Qs (i : grid0.Coords) (t : Fin (k0_t1_loop i).trips) (s : St F) : SameIns (t1Qs i t s) s := by unfold t1Qs; exact ⟨rfl, rfl, rfl, rfl⟩

/-- The start of a point keeps the inputs. -/
theorem same_start (i : grid0.Coords) (s : St F) : SameIns (start i s) s := by
  unfold start zeroKV
  split
  · unfold zeroQ; exact ⟨rfl, rfl, rfl, rfl⟩
  · exact ⟨rfl, rfl, rfl, rfl⟩

/-- The diagonal block keeps the inputs. -/
theorem same_diag (i : grid0.Coords) (s : St F) : SameIns (diag i s) s := by
  unfold diag
  exact (same_b1Qs i _).trans <| (same_b1Ks i _).trans <| (same_b1Vs i _).trans <| (same_b0Qs i _).trans <| (same_b0Ks i _).trans <|
    (same_b0Vs i _).trans <| (same_a1Qs i _).trans <| (same_a1Ks i _).trans <| (same_a1Vs i _).trans <| (same_a0Qs i _).trans <|
    (same_a0Ks i _).trans (same_a0Vs i _)

/-- The single tile keeps the inputs. -/
theorem same_single (i : grid0.Coords) (s : St F) : SameIns (single i s) s := by
  unfold single
  split
  · exact (same_o1Qs i _ _).trans <| (same_o1Ks i _ _).trans <| (same_o1Vs i _ _).trans <| (same_o0Qs i _ _).trans <|
      (same_o0Ks i _ _).trans (same_o0Vs i _ _)
  · exact ⟨rfl, rfl, rfl, rfl⟩

/-- A double tile keeps the inputs. -/
theorem same_trip (i : grid0.Coords) (t : Fin (k0_t1_loop i).trips) (s : St F) : SameIns (trip i t s) s := by
  unfold trip
  exact (same_t1Qs i t _).trans <| (same_t1Ks i t _).trans <| (same_t1Vs i t _).trans <| (same_t0Qs i t _).trans <|
    (same_t0Ks i t _).trans (same_t0Vs i t _)

/-- The loop keeps the inputs. -/
theorem same_loop (i : grid0.Coords) (s : St F) : SameIns (loop i s) s := by
  unfold loop
  generalize List.finRange (k0_t1_loop i).trips = L
  induction L generalizing s with
  | nil => exact ⟨rfl, rfl, rfl, rfl⟩
  | cons t L ih => rw [List.foldl_cons]; exact (ih (trip i t s)).trans (same_trip i t s)

/-- All tiles keep the inputs. -/
theorem same_tiles (i : grid0.Coords) (s : St F) : SameIns (tiles i s) s := by
  unfold tiles
  exact (same_loop i _).trans <| (same_single i _).trans <| (same_diag i _).trans (same_start i s)

/-- The outputs keep the inputs and the accumulators. -/
theorem out_keeps (i : grid0.Coords) (u : St F) :
    SameIns (outQ i (outKV i u)) u ∧ (outQ i (outKV i u)).x11 = u.x11 := by
  unfold outQ outKV outKV'
  split
  · exact ⟨⟨rfl, rfl, rfl, rfl⟩, rfl⟩
  · exact ⟨⟨rfl, rfl, rfl, rfl⟩, rfl⟩

/-- The kernel writes none of its inputs. -/
theorem same_point (i : grid0.Coords) (s : St F) : SameIns (point i s) s := by
  unfold point
  exact (out_keeps i _).1.trans (same_tiles i s)

/-- The accumulators before a point, and the generator's register. -/
def Between (n : ℕ) : sProp 𝕄 :=
  iprop((∃ x : Vec F S8192x256 .f32, ⌜Carry m c n x⌝ ∗ owns (c : Thread nD τ) (Memref.whole cc0_scratch0) fullShare x)
    ∗ (∃ x : Vec F S512x256 .f32, owns (c : Thread nD τ) (Memref.whole cc0_scratch1) fullShare x)
    ∗ (∃ x : Vec F S512x256 .f32, owns (c : Thread nD τ) (Memref.whole cc0_scratch2) fullShare x)
    ∗ ∃ r, prngReg c r)

/-- What a point hands back: the inputs as they were, the outputs from a state the kernel may be entered with. -/
def After (t : Fin cfg0.N) (s : St F) : sProp 𝕄 :=
  iprop((∃ X, ⌜X = s.x2⌝ ∗ owns (c : Thread nD τ) (opsAt t).a2 fullShare X) ∗ (∃ X, ⌜X = s.x3⌝ ∗ owns (c : Thread nD τ) (opsAt t).a3 fullShare X) ∗ (∃ X, ⌜X = s.x4⌝ ∗ owns (c : Thread nD τ) (opsAt t).a4 fullShare X) ∗ (∃ X, ⌜X = s.x5⌝ ∗ owns (c : Thread nD τ) (opsAt t).a5 fullShare X) ∗ (∃ X, ⌜∃ s : St F, Reach m c t s ∧ X = (point (grid0.coords t) s).x6⌝ ∗ owns (c : Thread nD τ) (opsAt t).a6 fullShare X) ∗ (∃ X, ⌜∃ s : St F, Reach m c t s ∧ X = (point (grid0.coords t) s).x7⌝ ∗ owns (c : Thread nD τ) (opsAt t).a7 fullShare X) ∗ (∃ X, ⌜∃ s : St F, Reach m c t s ∧ X = (point (grid0.coords t) s).x8⌝ ∗ owns (c : Thread nD τ) (opsAt t).a8 fullShare X) ∗ (∃ X, ⌜∃ s : St F, Reach m c t s ∧ X = (point (grid0.coords t) s).x9⌝ ∗ owns (c : Thread nD τ) (opsAt t).a9 fullShare X) ∗ (∃ X, ⌜∃ s : St F, Reach m c t s ∧ X = (point (grid0.coords t) s).x10⌝ ∗ owns (c : Thread nD τ) (opsAt t).a10 fullShare X))

/-- From what the kernel leaves, the buffers in the form the pipeline asks for. -/
theorem held_after (t : Fin cfg0.N) (s : St F) (hr : Reach m c t s) :
    Held c (opsAt t) (point (grid0.coords t) s)
      ⊢ iprop(After m c t s ∗ (∃ x : Vec F S8192x256 .f32, ⌜Carry m c (t.val + 1) x⌝ ∗ owns (c : Thread nD τ) (Memref.whole cc0_scratch0) fullShare x)
    ∗ (∃ x : Vec F S512x256 .f32, owns (c : Thread nD τ) (Memref.whole cc0_scratch1) fullShare x)
    ∗ (∃ x : Vec F S512x256 .f32, owns (c : Thread nD τ) (Memref.whole cc0_scratch2) fullShare x)) := by
  have hk := same_point (grid0.coords t) s
  have hc : Carry m c (t.val + 1) (point (grid0.coords t) s).x11 := ⟨t.isLt, s, hr.ins, hr.carry, rfl⟩
  have ho : ∀ {α : Type} (f : St F → α), ∃ s' : St F, Reach m c t s' ∧ f (point (grid0.coords t) s) = f (point (grid0.coords t) s') :=
    fun f => ⟨s, hr, rfl⟩
  have h6 := ho St.x6; have h7 := ho St.x7; have h8 := ho St.x8; have h9 := ho St.x9; have h10 := ho St.x10
  unfold Held After
  generalize point (grid0.coords t) s = u at *
  iintro ⟨H2, H3, H4, H5, H6, H7, H8, H9, H10, H11, H12, H13⟩
  isplitr [H11 H12 H13]
  · isplitl [H2]
    · iexists u.x2; isplitr
      · ipureintro; exact hk.i2
      iexact H2
    isplitl [H3]
    · iexists u.x3; isplitr
      · ipureintro; exact hk.i3
      iexact H3
    isplitl [H4]
    · iexists u.x4; isplitr
      · ipureintro; exact hk.i4
      iexact H4
    isplitl [H5]
    · iexists u.x5; isplitr
      · ipureintro; exact hk.i5
      iexact H5
    isplitl [H6]
    · iexists u.x6; isplitr
      · ipureintro; exact h6
      iexact H6
    isplitl [H7]
    · iexists u.x7; isplitr
      · ipureintro; exact h7
      iexact H7
    isplitl [H8]
    · iexists u.x8; isplitr
      · ipureintro; exact h8
      iexact H8
    isplitl [H9]
    · iexists u.x9; isplitr
      · ipureintro; exact h9
      iexact H9
    iexists u.x10; isplitr
    · ipureintro; exact h10
    iexact H10
  isplitl [H11]
  · iexists u.x11; isplitr
    · ipureintro; exact hc
    iexact H11
  isplitl [H12]
  · iexists u.x12; iexact H12
  iexists u.x13; iexact H13

/-- One grid point, the buffers one by one. -/
theorem point_run (t : Fin cfg0.N) (O : sProp 𝕄) (s : St F) (hr : Reach m c t s) :
    iprop(((O ∗ ∃ r, prngReg c r)) ∗ Held c (opsAt t) s)
      ⊢ wp frame (wpE (defs₀ (F := F)) Variants.none c none) Set.univ (cc0_attn_bwd (grid0.coords t) (opsAt t).a2 (opsAt_whole t).h2 (opsAt t).a3 (opsAt_whole t).h3 (opsAt t).a4 (opsAt_whole t).h4
          (opsAt t).a5 (opsAt_whole t).h5 (opsAt t).a6 (opsAt_whole t).h6 (opsAt t).a7 (opsAt_whole t).h7 (opsAt t).a8 (opsAt_whole t).h8
          (opsAt t).a9 (opsAt_whole t).h9 (opsAt t).a10 (opsAt_whole t).h10 (opsAt t).a11 (opsAt_whole t).h11
          (opsAt t).a12 (opsAt_whole t).h12 (opsAt t).a13 (opsAt_whole t).h13)
        fun _ => iprop(Between m c (t.val + 1) ∗ O ∗ After m c t s) := by
  have hb := body_run (𝒱 := Variants.none) (bd := none) (E := Set.univ) c (opsAt t) (opsAt_whole t) (grid0.coords t) s
    (Q := fun _ => Held c (opsAt t) (point (grid0.coords t) s)) .rfl
  refine (Idealize.SL.BI.sep_mono_r hb).trans ?_
  refine (wp_frame_l _ _ _).trans ?_
  refine wp_mono _ _ _ fun _ => ?_
  refine (Idealize.SL.BI.sep_mono_r (held_after m c t s hr)).trans ?_
  unfold Between
  show iprop((O ∗ ∃ r, prngReg c r) ∗ After m c t s ∗ (∃ x : Vec F S8192x256 .f32, ⌜Carry m c (t.val + 1) x⌝ ∗ owns (c : Thread nD τ) (Memref.whole cc0_scratch0) fullShare x)
    ∗ (∃ x : Vec F S512x256 .f32, owns (c : Thread nD τ) (Memref.whole cc0_scratch1) fullShare x)
    ∗ (∃ x : Vec F S512x256 .f32, owns (c : Thread nD τ) (Memref.whole cc0_scratch2) fullShare x)) ⊢ _
  iintro ⟨⟨HO, G⟩, HA, H11, H12, H13⟩
  isplitl [G H11 H12 H13]
  · isplitl [H11]; · iexact H11
    isplitl [H12]; · iexact H12
    isplitl [H13]; · iexact H13
    iexact G
  isplitl [HO]; · iexact HO
  iexact HA

/-- One grid point: from the buffers the pipeline hands it, the kernel leaves what the data says. -/
theorem body_obligation : (rdat m c).BodyObligation (defs₀ (F := F)) Variants.none () Set.univ := by
  intro t Y hY
  rw [bigSep_W0, bigSep_W0, defs₀_row]
  have h0 := finds0 m c t _ (hY 0)
  have h1 := finds1 m c t _ (hY 1)
  have h2 := finds2 m c t _ (hY 2)
  have h3 := finds3 m c t _ (hY 3)
  rw [show (rdat m c).Φ t.castSucc = Between m c t.val from rfl, show (rdat m c).Φ t.succ = Between m c (t.val + 1) from rfl]
  rw [show (rdat m c).owesAt () t.castSucc = (rdat m c).owesAt () t.succ from rfl]
  generalize (rdat m c).owesAt () t.succ = O
  have key : ∀ x11 x12 x13, Carry m c t.val x11 → _ := fun x11 x12 x13 hx =>
    point_run m c t O ⟨Y 0, Y 1, Y 2, Y 3, Y 4, Y 5, Y 6, Y 7, Y 8, x11, x12, x13⟩ ⟨⟨h0, h1, h2, h3⟩, hx⟩
  unfold Between
  iintro ⟨⟨⟨%x11, %hx, S11⟩, ⟨%x12, S12⟩, ⟨%x13, S13⟩, G⟩, HO, H0, H1, H2, H3, H4, H5, H6, H7, H8⟩
  iapply key x11 x12 x13 hx
  isplitl [HO G]
  · isplitl [HO]; · iexact HO
    iexact G
  unfold Held
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  iexact S13

/-- The accumulators as the launch finds them. -/
theorem launch_in : ΦA spec0 c ⊢ (rdat m c).Φ 0 := by
  rw [show (rdat m c).Φ 0 = Between m c 0 from rfl]
  unfold ΦA Between
  rw [scopedRest0_eq]
  simp only [owns_whole]
  iintro ⟨⟨⟨%f, H0⟩, ⟨%g, H1⟩, ⟨%h, H2⟩⟩, G⟩
  isplitl [H0]
  · iexists f; isplitr
    · ipureintro; exact trivial
    iexact H0
  isplitl [H1]
  · iexists g; iexact H1
  isplitl [H2]
  · iexists h; iexact H2
  iexact G

/-- The accumulators as the launch leaves them. -/
theorem launch_out : (rdat m c).Φ (Fin.last cfg0.N) ⊢ ΦA spec0 c := by
  rw [show (rdat m c).Φ (Fin.last cfg0.N) = Between m c cfg0.N from rfl]
  unfold ΦA Between
  rw [scopedRest0_eq]
  simp only [owns_whole]
  iintro ⟨⟨%f, -, H0⟩, ⟨%g, H1⟩, ⟨%h, H2⟩, G⟩
  isplitl [H0 H1 H2]
  · isplitl [H0]
    · iexists f; iexact H0
    isplitl [H1]
    · iexists g; iexact H1
    iexists h; iexact H2
  iexact G

/-- Each window's array is held whole. -/
theorem share_full (w : Fin cfg0.W) : (rdat m c).share w = fullShare := by
  unfold RDat.share; split
  · rfl
  · rfl

set_option backward.isDefEq.respectTransparency.types false in
/-- The program runs to its end: the arrays the call writes hold what the data says, the other buffers what they held
    when the call began, and every counter is zero. -/
theorem run_main : θ_run defs (onTc (τ := τ) (main (F := F))) (s₀ m ρ)
    (fun r => RDat.FramePost cfg0 (rdat m) (V m) r ∧ r.2.sem = fun _ => 0) :=
  RDat.θ_run_frame_track (Q' := fun r => RDat.FramePost cfg0 (rdat m) (V m) r ∧ r.2.sem = fun _ => 0) cfgs (0 : Fin 1) launch0 defs₀ Variants.none
    (rdat m) m ρ main (hbody := fun c => body_obligation m c) (hshare := fun c => share_full m c) (howed := fun _ _ => rfl)
    (V := V m) (hmain := hmain m Variants.none) (hA := fun _ _ => rfl) (hin := fun c => launch_in m c) (hout := fun c => launch_out m c)

/-- The arguments are left as they were. -/
theorem args_kept {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩

/-- The program runs to its end with the arguments left as they were, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

end Cert.Proof.Attn

end
-- ==== Proof.Twin.lean ====
/-
  The printed kernel and its idealization have one text: their procedure tables are equal over any float values, and the run of
  one is the run of the other.
-/
module

public import proofs.«01_k».proof.Proof.Gen.Kernel
public import proofs.«01_k».proof.Proof.Run

@[expose] public section

set_option maxRecDepth 65536

noncomputable section

namespace Cert.Proof.Twin

open Idealize.ShloMosaic Idealize.SL.Sem

variable {F : FTy → Type} [FloatOps F]

set_option maxHeartbeats 4000000 in
/-- The kernels' body tables are equal. -/
theorem defs₀_eq : Cert.Kernel.defs₀ (F := F) = Cert.KernelIdeal.defs₀ (F := F) := by
  unfold Cert.Kernel.defs₀ Cert.KernelIdeal.defs₀
  refine congrArg (fun f => Defs.onTc (nD := Cert.KernelIdeal.nD) (τ := Cert.KernelIdeal.τ) (sig := Cert.KernelIdeal.sig) (Λ := Cert.KernelIdeal.Λ₀) f) ?_
  funext l a
  match l, a with
  | 0, (t, s) => rfl
  | ⟨_ + 1, h⟩, _ => exact absurd h (Nat.not_lt.2 (Nat.le_add_left _ _))

set_option maxHeartbeats 4000000 in
/-- The programs' procedure tables are equal. -/
theorem defs_eq : Cert.Kernel.defs (F := F) = Cert.KernelIdeal.defs (F := F) :=
  congrArg (Pipeline.defs Cert.Kernel.pcfgs) defs₀_eq

set_option maxHeartbeats 4000000 in
set_option backward.isDefEq.respectTransparency.types false in
/-- The printed kernel's run: the arguments left as they were, every counter at zero. -/
theorem frame_run (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_eq]
  exact Attn.frame_run (F := F) m ρ

end Cert.Proof.Twin

end
-- ==== Proof.Pay.lean ====
/-
  The attention backward kernel's tiles, read at an element over the extended reals. A tile takes `n` queries with their
  incoming gradients and `m` keys with their values, for one head; its weights are `exp (key · query)`, zero where the
  mask is off, and the three stores add to their accumulators the sums the weights make.
-/
module

public import proofs.«01_k».proof.Proof.Tiles
public import Idealize.ShloMosaic.Lib.Pointwise
public import Idealize.ShloMosaic.Lib.Pipeline.ValueKit

@[expose] public section

set_option maxRecDepth 16384

noncomputable section

namespace Cert.Proof.Pay

open Cert.KernelIdeal Cert.KernelIdeal.Gen Cert.Proof.Attn
open Idealize.ShloMosaic

/-- A block of `n` rows of one head. -/
abbrev Rows (n : ℕ) (φ : FTy) := FVec Ideal ⟨2, ![n, 128]⟩ φ

/-- The tile's weight of key `j` for query `i`. -/
def weight {n m : ℕ} (M : ℕ → ℕ → Prop) [DecidableRel M] (q : Rows n .bf16) (k : Rows m .bf16) (j : Fin m) (i : Fin n) : EReal :=
  if M j i then Ideal.exp (∑ x : Fin 128, k (ix2 j x) * q (ix2 i x)) else 0

/-- The product of a value and an incoming gradient. -/
def prod {n m : ℕ} (d : Rows n .bf16) (v : Rows m .bf16) (j : Fin m) (i : Fin n) : EReal := ∑ x : Fin 128, v (ix2 j x) * d (ix2 i x)

/-- What the three stores of a tile do: `pV` to the values' accumulator, `pK` to the keys', `pQ` to the queries'. -/
structure Tile (n m : ℕ) (M : ℕ → ℕ → Prop) [DecidableRel M] (pV pK : Rows n .bf16 → Rows n .bf16 → Rows m .bf16 → Rows m .bf16 → Rows m .f32 → Rows m .f32)
    (pQ : Rows n .bf16 → Rows n .bf16 → Rows m .bf16 → Rows m .bf16 → Rows n .f32 → Rows n .f32) : Prop where
  val : ∀ q d k v w (j : Fin m) (l : Fin 128), pV q d k v w (ix2 j l) = w (ix2 j l) + ∑ i : Fin n, weight M q k j i * d (ix2 i l)
  key : ∀ q d k v w (j : Fin m) (l : Fin 128), pK q d k v w (ix2 j l) = w (ix2 j l) + ∑ i : Fin n, weight M q k j i * prod d v j i * q (ix2 i l)
  qry : ∀ q d k v w (i : Fin n) (l : Fin 128), pQ q d k v w (ix2 i l) = w (ix2 i l) + ∑ j : Fin m, weight M q k j i * prod d v j i * k (ix2 j l)

/-- The comparison of two row numbers, as the mask makes it. -/
theorem mask_bit {a b : ℕ} (ha : a < 512) (hb : b < 512) :
    IntOp.cmpi CmpIPredicate.sge (BitVec.ofNat 32 a) (BitVec.ofNat 32 b) = if b ≤ a then 1#1 else 0#1 := by
  have e : ∀ x : ℕ, x < 512 → (BitVec.ofNat 32 x).toInt = (x : ℤ) := fun x hx => by
    rw [BitVec.toInt_eq_toNat_of_lt (by rw [BitVec.toNat_ofNat]; omega), BitVec.toNat_ofNat]; omega
  simp only [IntOp.cmpi, BitVec.sle, e a ha, e b hb]
  by_cases h : b ≤ a
  · simp [h]
  · simp [h]

/-- The mask's choice is a condition. -/
theorem mask_select {n m : ℕ} (a : Fin n) (b : Fin m) (hn : n ≤ 512) (hm : m ≤ 512) (x y : EReal) :
    Scalar.select (IntOp.cmpi CmpIPredicate.sge (BitVec.ofNat 32 a.val) (BitVec.ofNat 32 b.val)) x y = if b.val ≤ a.val then x else y := by
  rw [mask_bit (lt_of_lt_of_le a.isLt hn) (lt_of_lt_of_le b.isLt hm)]
  by_cases h : b.val ≤ a.val
  · rw [if_pos h, if_pos h]; rfl
  · rw [if_neg h, if_neg h]; rfl

/-- The upper half of the diagonal block, first head. -/
theorem a0_tile : Tile 512 256 (fun j i => j ≤ i) (a0V (F := Ideal)) (a0K (F := Ideal)) (a0Q (F := Ideal)) where
  val := fun q d k v w j l => by
      unfold weight
      pointwise [a0V, k0_pay54, k0_pay55, k0_pay56, k0_pay57, k0_pay58, k0_pay59, k0_pay60, k0_pay61, k0_pay62]
      simp only [ite_mul, zero_mul, mul_assoc]
      exact congrArg (_ + ·) (Finset.sum_congr rfl fun x _ => mask_select _ _ (by decide) (by decide) _ _)
  key := fun q d k v w j l => by
      unfold weight prod
      pointwise [a0K, k0_pay54, k0_pay55, k0_pay56, k0_pay57, k0_pay58, k0_pay59, k0_pay60, k0_pay61, k0_pay62]
      simp only [ite_mul, zero_mul, mul_assoc]
      exact congrArg (_ + ·) (Finset.sum_congr rfl fun x _ => mask_select _ _ (by decide) (by decide) _ _)
  qry := fun q d k v w i l => by
      unfold weight prod
      pointwise [a0Q, k0_pay54, k0_pay55, k0_pay56, k0_pay57, k0_pay58, k0_pay59, k0_pay60, k0_pay61, k0_pay62]
      simp only [ite_mul, zero_mul, mul_assoc]
      exact congrArg (_ + ·) (Finset.sum_congr rfl fun x _ => mask_select _ _ (by decide) (by decide) _ _)

/-- The upper half of the diagonal block, second head. -/
theorem a1_tile : Tile 512 256 (fun j i => j ≤ i) (a1V (F := Ideal)) (a1K (F := Ideal)) (a1Q (F := Ideal)) where
  val := fun q d k v w j l => by
      unfold weight
      pointwise [a1V, k0_pay63, k0_pay64, k0_pay65, k0_pay66, k0_pay67, k0_pay68, k0_pay69, k0_pay70, k0_pay71]
      simp only [ite_mul, zero_mul, mul_assoc]
      exact congrArg (_ + ·) (Finset.sum_congr rfl fun x _ => mask_select _ _ (by decide) (by decide) _ _)
  key := fun q d k v w j l => by
      unfold weight prod
      pointwise [a1K, k0_pay63, k0_pay64, k0_pay65, k0_pay66, k0_pay67, k0_pay68, k0_pay69, k0_pay70, k0_pay71]
      simp only [ite_mul, zero_mul, mul_assoc]
      exact congrArg (_ + ·) (Finset.sum_congr rfl fun x _ => mask_select _ _ (by decide) (by decide) _ _)
  qry := fun q d k v w i l => by
      unfold weight prod
      pointwise [a1Q, k0_pay63, k0_pay64, k0_pay65, k0_pay66, k0_pay67, k0_pay68, k0_pay69, k0_pay70, k0_pay71]
      simp only [ite_mul, zero_mul, mul_assoc]
      exact congrArg (_ + ·) (Finset.sum_congr rfl fun x _ => mask_select _ _ (by decide) (by decide) _ _)

/-- The lower half of the diagonal block, first head. -/
theorem b0_tile : Tile 256 256 (fun j i => j ≤ i) (b0V (F := Ideal)) (b0K (F := Ideal)) (b0Q (F := Ideal)) where
  val := fun q d k v w j l => by
      unfold weight
      pointwise [b0V, k0_pay72, k0_pay73, k0_pay74, k0_pay75, k0_pay76, k0_pay77, k0_pay78, k0_pay79, k0_pay80]
      simp only [ite_mul, zero_mul, mul_assoc]
      exact congrArg (_ + ·) (Finset.sum_congr rfl fun x _ => mask_select _ _ (by decide) (by decide) _ _)
  key := fun q d k v w j l => by
      unfold weight prod
      pointwise [b0K, k0_pay72, k0_pay73, k0_pay74, k0_pay75, k0_pay76, k0_pay77, k0_pay78, k0_pay79, k0_pay80]
      simp only [ite_mul, zero_mul, mul_assoc]
      exact congrArg (_ + ·) (Finset.sum_congr rfl fun x _ => mask_select _ _ (by decide) (by decide) _ _)
  qry := fun q d k v w i l => by
      unfold weight prod
      pointwise [b0Q, k0_pay72, k0_pay73, k0_pay74, k0_pay75, k0_pay76, k0_pay77, k0_pay78, k0_pay79, k0_pay80]
      simp only [ite_mul, zero_mul, mul_assoc]
      exact congrArg (_ + ·) (Finset.sum_congr rfl fun x _ => mask_select _ _ (by decide) (by decide) _ _)

/-- The lower half of the diagonal block, second head. -/
theorem b1_tile : Tile 256 256 (fun j i => j ≤ i) (b1V (F := Ideal)) (b1K (F := Ideal)) (b1Q (F := Ideal)) where
  val := fun q d k v w j l => by
      unfold weight
      pointwise [b1V, k0_pay81, k0_pay82, k0_pay83, k0_pay84, k0_pay85, k0_pay86, k0_pay87, k0_pay88]
      simp only [ite_mul, zero_mul, mul_assoc]
      exact congrArg (_ + ·) (Finset.sum_congr rfl fun x _ => mask_select _ _ (by decide) (by decide) _ _)
  key := fun q d k v w j l => by
      unfold weight prod
      pointwise [b1K, k0_pay81, k0_pay82, k0_pay83, k0_pay84, k0_pay85, k0_pay86, k0_pay87, k0_pay88]
      simp only [ite_mul, zero_mul, mul_assoc]
      exact congrArg (_ + ·) (Finset.sum_congr rfl fun x _ => mask_select _ _ (by decide) (by decide) _ _)
  qry := fun q d k v w i l => by
      unfold weight prod
      pointwise [b1Q, k0_pay81, k0_pay82, k0_pay83, k0_pay84, k0_pay85, k0_pay86, k0_pay87, k0_pay88]
      simp only [ite_mul, zero_mul, mul_assoc]
      exact congrArg (_ + ·) (Finset.sum_congr rfl fun x _ => mask_select _ _ (by decide) (by decide) _ _)

/-- The single tile, first head. -/
theorem o0_tile : Tile 512 512 (fun _ _ => True) (o0V (F := Ideal)) (o0K (F := Ideal)) (o0Q (F := Ideal)) where
  val := fun q d k v w j l => by
      unfold weight
      pointwise [o0V, k0_pay4, k0_pay5, k0_pay6, k0_pay7, k0_pay8, k0_pay9, k0_pay10, k0_pay11, k0_pay12]
  key := fun q d k v w j l => by
      unfold weight prod
      pointwise [o0K, k0_pay4, k0_pay5, k0_pay6, k0_pay7, k0_pay8, k0_pay9, k0_pay10, k0_pay11, k0_pay12]
  qry := fun q d k v w i l => by
      unfold weight prod
      pointwise [o0Q, k0_pay4, k0_pay5, k0_pay6, k0_pay7, k0_pay8, k0_pay9, k0_pay10, k0_pay11, k0_pay12]

/-- The single tile, second head. -/
theorem o1_tile : Tile 512 512 (fun _ _ => True) (o1V (F := Ideal)) (o1K (F := Ideal)) (o1Q (F := Ideal)) where
  val := fun q d k v w j l => by
      unfold weight
      pointwise [o1V, k0_pay13, k0_pay14, k0_pay15, k0_pay16, k0_pay17, k0_pay18, k0_pay19, k0_pay20, k0_pay89]
  key := fun q d k v w j l => by
      unfold weight prod
      pointwise [o1K, k0_pay13, k0_pay14, k0_pay15, k0_pay16, k0_pay17, k0_pay18, k0_pay19, k0_pay20, k0_pay89]
  qry := fun q d k v w i l => by
      unfold weight prod
      pointwise [o1Q, k0_pay13, k0_pay14, k0_pay15, k0_pay16, k0_pay17, k0_pay18, k0_pay19, k0_pay20, k0_pay89]

/-- A double tile, first head. -/
theorem t0_tile : Tile 1024 512 (fun _ _ => True) (t0V (F := Ideal)) (t0K (F := Ideal)) (t0Q (F := Ideal)) where
  val := fun q d k v w j l => by
      unfold weight
      pointwise [t0V, k0_pay21, k0_pay22, k0_pay23, k0_pay24, k0_pay25, k0_pay26, k0_pay27, k0_pay28]
  key := fun q d k v w j l => by
      unfold weight prod
      pointwise [t0K, k0_pay21, k0_pay22, k0_pay23, k0_pay24, k0_pay25, k0_pay26, k0_pay27, k0_pay28]
  qry := fun q d k v w i l => by
      unfold weight prod
      pointwise [t0Q, k0_pay21, k0_pay22, k0_pay23, k0_pay24, k0_pay25, k0_pay26, k0_pay27, k0_pay28]

/-- A double tile, second head. -/
theorem t1_tile : Tile 1024 512 (fun _ _ => True) (t1V (F := Ideal)) (t1K (F := Ideal)) (t1Q (F := Ideal)) where
  val := fun q d k v w j l => by
      unfold weight
      pointwise [t1V, k0_pay29, k0_pay30, k0_pay31, k0_pay32, k0_pay33, k0_pay34, k0_pay35, k0_pay90]
  key := fun q d k v w j l => by
      unfold weight prod
      pointwise [t1K, k0_pay29, k0_pay30, k0_pay31, k0_pay32, k0_pay33, k0_pay34, k0_pay35, k0_pay90]
  qry := fun q d k v w i l => by
      unfold weight prod
      pointwise [t1Q, k0_pay29, k0_pay30, k0_pay31, k0_pay32, k0_pay33, k0_pay34, k0_pay35, k0_pay90]

end Cert.Proof.Pay

end
-- ==== Proof.Acc.lean ====
/-
  What a tile of the attention backward kernel adds to the three accumulators, over the extended reals. Arrays are read
  at a row and a column given as numbers (`rd`); the accumulators' increments are sums over ranges of rows, so that the
  tiles of a block fold into one sum.
-/
module

public import proofs.«01_k».proof.Proof.Pay
public import proofs.«01_k».proof.Proof.Run

@[expose] public section

set_option maxRecDepth 16384

noncomputable section

namespace Cert.Proof.Acc

open Cert.KernelIdeal Cert.KernelIdeal.Gen Cert.Proof.Attn Cert.Proof.Pay
open Idealize.ShloMosaic

/-- An array read at a row and a column; zero outside of it. -/
def rd {R C : ℕ} (X : (⟨2, ![R, C]⟩ : Shape).Idx → EReal) (r c : ℕ) : EReal :=
  if h : r < R ∧ c < C then X (ix2 ⟨r, h.1⟩ ⟨c, h.2⟩) else 0

theorem rd_in {R C : ℕ} (X : (⟨2, ![R, C]⟩ : Shape).Idx → EReal) (r c : ℕ) (hr : r < R) (hc : c < C) :
    rd X r c = X (ix2 ⟨r, hr⟩ ⟨c, hc⟩) := dif_pos ⟨hr, hc⟩

/-- A window read at an element is the array read at the place it stands for. -/
theorem rd_ld {R C n m : ℕ} (X : (⟨2, ![R, C]⟩ : Shape).Idx → EReal) {off : Fin 2 → ℕ}
    (inb : ∀ a, off a + (![n, m] : Fin 2 → ℕ) a ≤ (⟨2, ![R, C]⟩ : Shape).size a) (i : Fin n) (l : Fin m) :
    X ((Rect.unit (s := ⟨2, ![R, C]⟩) off ![n, m] inb).idx (ix2 i l)) = rd X (off 0 + i.val) (off 1 + l.val) := by
  have h0 : off 0 + n ≤ R := inb 0
  have h1 : off 1 + m ≤ C := inb 1
  rw [rd_in X _ _ (by omega) (by omega)]
  refine congrArg X (funext fun a => Fin.ext ?_)
  match a with
  | ⟨0, _⟩ => show off 0 + 1 * i.val = off 0 + i.val; omega
  | ⟨1, _⟩ => show off 1 + 1 * l.val = off 1 + l.val; omega

/-- An array with a window put over it. -/
theorem rd_put {R C n m : ℕ} (X : (⟨2, ![R, C]⟩ : Shape).Idx → EReal) (off : Fin 2 → ℕ)
    (inb : ∀ a, off a + (![n, m] : Fin 2 → ℕ) a ≤ (⟨2, ![R, C]⟩ : Shape).size a) (w : (⟨2, ![n, m]⟩ : Shape).Idx → EReal) (r c : ℕ) :
    rd (VecWindow.put (s := ⟨2, ![R, C]⟩) X off ![n, m] w) r c
      = if off 0 ≤ r ∧ r < off 0 + n ∧ off 1 ≤ c ∧ c < off 1 + m then rd w (r - off 0) (c - off 1) else rd X r c := by
  have h0 : off 0 + n ≤ R := inb 0
  have h1 : off 1 + m ≤ C := inb 1
  by_cases hrc : r < R ∧ c < C
  · rw [rd_in _ r c hrc.1 hrc.2]
    by_cases h : off 0 ≤ r ∧ r < off 0 + n ∧ off 1 ≤ c ∧ c < off 1 + m
    · rw [if_pos h, rd_in w _ _ (by omega) (by omega)]
      unfold VecWindow.put
      have hall : ∀ a : Fin 2, off a ≤ ((ix2 ⟨r, hrc.1⟩ ⟨c, hrc.2⟩ : (⟨2, ![R, C]⟩ : Shape).Idx) a).val ∧ ((ix2 ⟨r, hrc.1⟩ ⟨c, hrc.2⟩ : (⟨2, ![R, C]⟩ : Shape).Idx) a).val < off a + (![n, m] : Fin 2 → ℕ) a := fun a => by
        match a with
        | ⟨0, _⟩ => exact ⟨h.1, h.2.1⟩
        | ⟨1, _⟩ => exact ⟨h.2.2.1, h.2.2.2⟩
      rw [dif_pos hall]
      refine congrArg w (funext fun a => Fin.ext ?_)
      match a with
      | ⟨0, _⟩ => rfl
      | ⟨1, _⟩ => rfl
    · rw [if_neg h, rd_in X r c hrc.1 hrc.2]
      unfold VecWindow.put
      rw [dif_neg fun hall => h ⟨(hall 0).1, (hall 0).2, (hall 1).1, (hall 1).2⟩]
  · rw [if_neg (by omega)]
    unfold rd
    rw [dif_neg hrc, dif_neg hrc]

variable (b : ℕ) (s : St Ideal) (h : ℕ)

/-- The logit of the block's key `j` and query `q`, head `h`. -/
def lg (j q : ℕ) : EReal := ∑ x : Fin 128, rd s.x4 j (128 * h + x.val) * rd s.x2 q (128 * h + x.val)
/-- The weight of the block's key `j` for query `q`, for a block whose first key is `b`. -/
def wt (j q : ℕ) : EReal := if b + j ≤ q then Ideal.exp (lg s h j q) else 0
/-- The product of the block's value `j` and the incoming gradient `q`. -/
def gd (j q : ℕ) : EReal := ∑ x : Fin 128, rd s.x5 j (128 * h + x.val) * rd s.x3 q (128 * h + x.val)
/-- Query `q`'s term of the gradient of value `j`. -/
def tV (j l q : ℕ) : EReal := wt b s h j q * rd s.x3 q (128 * h + l)
/-- Query `q`'s term of the gradient of key `j`. -/
def tK (j l q : ℕ) : EReal := wt b s h j q * gd s h j q * rd s.x2 q (128 * h + l)
/-- Key `j`'s term of the gradient of query `q`. -/
def tQ (q l j : ℕ) : EReal := wt b s h j q * gd s h j q * rd s.x4 j (128 * h + l)

/-- `u'` is `u` with a tile's terms added: head `h`, queries `q0 … q0 + n`, keys `j0 … j0 + m`. -/
structure Upd (q0 n j0 m : ℕ) (u' u : St Ideal) : Prop where
  same : SameIns u' u
  val : ∀ h' j l, h' < 2 → j < 512 → l < 128 → rd u'.x13 j (128 * h' + l)
    = rd u.x13 j (128 * h' + l) + if h' = h ∧ j0 ≤ j ∧ j < j0 + m then ∑ i ∈ Finset.range n, tV b u h j l (q0 + i) else 0
  key : ∀ h' j l, h' < 2 → j < 512 → l < 128 → rd u'.x12 j (128 * h' + l)
    = rd u.x12 j (128 * h' + l) + if h' = h ∧ j0 ≤ j ∧ j < j0 + m then ∑ i ∈ Finset.range n, tK b u h j l (q0 + i) else 0
  qry : ∀ h' q l, h' < 2 → q < 8192 → l < 128 → rd u'.x11 q (128 * h' + l)
    = rd u.x11 q (128 * h' + l) + if h' = h ∧ q0 ≤ q ∧ q < q0 + n then ∑ j ∈ Finset.range m, tQ b u h q l (j0 + j) else 0

/-- A tile's three stores. -/
def step {n m : ℕ} (pV pK : Rows n .bf16 → Rows n .bf16 → Rows m .bf16 → Rows m .bf16 → Rows m .f32 → Rows m .f32)
    (pQ : Rows n .bf16 → Rows n .bf16 → Rows m .bf16 → Rows m .bf16 → Rows n .f32 → Rows n .f32)
    (oq ok : Fin 2 → ℕ) (iq : ∀ a, oq a + (![n, 128] : Fin 2 → ℕ) a ≤ S8192x256.size a) (ik : ∀ a, ok a + (![m, 128] : Fin 2 → ℕ) a ≤ S512x256.size a)
    (u : St Ideal) : St Ideal :=
  { u with
    x13 := VecWindow.put u.x13 ok ![m, 128] (pV (View.ld u.x2 (Rect.unit (s := S8192x256) oq ![n, 128] iq)) (View.ld u.x3 (Rect.unit (s := S8192x256) oq ![n, 128] iq)) (View.ld u.x4 (Rect.unit (s := S512x256) ok ![m, 128] ik)) (View.ld u.x5 (Rect.unit (s := S512x256) ok ![m, 128] ik)) (View.ld u.x13 (Rect.unit (s := S512x256) ok ![m, 128] ik)))
    x12 := VecWindow.put u.x12 ok ![m, 128] (pK (View.ld u.x2 (Rect.unit (s := S8192x256) oq ![n, 128] iq)) (View.ld u.x3 (Rect.unit (s := S8192x256) oq ![n, 128] iq)) (View.ld u.x4 (Rect.unit (s := S512x256) ok ![m, 128] ik)) (View.ld u.x5 (Rect.unit (s := S512x256) ok ![m, 128] ik)) (View.ld u.x12 (Rect.unit (s := S512x256) ok ![m, 128] ik)))
    x11 := VecWindow.put u.x11 oq ![n, 128] (pQ (View.ld u.x2 (Rect.unit (s := S8192x256) oq ![n, 128] iq)) (View.ld u.x3 (Rect.unit (s := S8192x256) oq ![n, 128] iq)) (View.ld u.x4 (Rect.unit (s := S512x256) ok ![m, 128] ik)) (View.ld u.x5 (Rect.unit (s := S512x256) ok ![m, 128] ik)) (View.ld u.x11 (Rect.unit (s := S8192x256) oq ![n, 128] iq))) }

section
variable {n m : ℕ} {M : ℕ → ℕ → Prop} [DecidableRel M] {oq ok : Fin 2 → ℕ}
  (iq : ∀ a, oq a + (![n, 128] : Fin 2 → ℕ) a ≤ S8192x256.size a) (ik : ∀ a, ok a + (![m, 128] : Fin 2 → ℕ) a ≤ S512x256.size a)
  {q0 j0 : ℕ} (eq0 : oq 0 = q0) (eq1 : oq 1 = 128 * h) (ek0 : ok 0 = j0) (ek1 : ok 1 = 128 * h)
  (hM : ∀ j i, j < m → i < n → (M j i ↔ b + (j0 + j) ≤ q0 + i))
include eq0 eq1 ek0 ek1

include hM in
/-- The tile's weight is the block's. -/
theorem weight_eq (j : Fin m) (i : Fin n) : weight M (View.ld s.x2 (Rect.unit (s := S8192x256) oq ![n, 128] iq)) (View.ld s.x4 (Rect.unit (s := S512x256) ok ![m, 128] ik)) j i
    = wt b s h (j0 + j.val) (q0 + i.val) := by
  unfold weight wt lg
  refine if_congr (hM _ _ j.isLt i.isLt) (congrArg Ideal.exp (Finset.sum_congr rfl fun x _ => ?_)) rfl
  rw [← eq0, ← eq1, ← ek0]
  refine congrArg₂ (· * ·) ?_ (rd_ld s.x2 iq i x)
  rw [eq1, ← ek1]
  exact rd_ld s.x4 ik j x

/-- The tile's product is the block's. -/
theorem prod_eq (j : Fin m) (i : Fin n) : prod (View.ld s.x3 (Rect.unit (s := S8192x256) oq ![n, 128] iq)) (View.ld s.x5 (Rect.unit (s := S512x256) ok ![m, 128] ik)) j i
    = gd s h (j0 + j.val) (q0 + i.val) := by
  unfold prod gd
  refine Finset.sum_congr rfl fun x _ => ?_
  rw [← eq0, ← eq1, ← ek0]
  refine congrArg₂ (· * ·) ?_ (rd_ld s.x3 iq i x)
  rw [eq1, ← ek1]
  exact rd_ld s.x5 ik j x

include hM in
/-- A tile's stores add the tile's terms. -/
theorem upd_step {pV pK : Rows n .bf16 → Rows n .bf16 → Rows m .bf16 → Rows m .bf16 → Rows m .f32 → Rows m .f32}
    {pQ : Rows n .bf16 → Rows n .bf16 → Rows m .bf16 → Rows m .bf16 → Rows n .f32 → Rows n .f32} (T : Tile n m M pV pK pQ) :
    Upd b h q0 n j0 m (step pV pK pQ oq ok iq ik s) s where
  same := ⟨rfl, rfl, rfl, rfl⟩
  val := fun h' j l hh hj hl => by
    refine (rd_put s.x13 ok ik _ j (128 * h' + l)).trans ?_
    by_cases hc : h' = h ∧ j0 ≤ j ∧ j < j0 + m
    · obtain ⟨rfl, hj0, hj1⟩ := hc
      rw [if_pos (by omega), if_pos ⟨rfl, hj0, hj1⟩, rd_in _ _ _ (show j - ok 0 < m by omega) (show 128 * h' + l - ok 1 < 128 by omega)]
      refine (T.val _ _ _ _ _ ⟨j - ok 0, by omega⟩ ⟨128 * h' + l - ok 1, by omega⟩).trans ?_
      refine congrArg₂ (· + ·) ((rd_ld s.x13 ik _ _).trans ?_) ?_
      · exact congrArg₂ (rd s.x13) (show ok 0 + (j - ok 0) = j by omega) (show ok 1 + (128 * h' + l - ok 1) = 128 * h' + l by omega)
      · rw [Finset.sum_range]
        refine Finset.sum_congr rfl fun i _ => congrArg₂ (· * ·) ?_ ?_
        · rw [weight_eq b s h' iq ik eq0 eq1 ek0 ek1 hM]
          exact congrArg (fun x => wt b s h' x (q0 + i.val)) (show j0 + (j - ok 0) = j by omega)
        · refine (rd_ld s.x3 iq _ _).trans ?_
          exact congrArg₂ (rd s.x3) (show oq 0 + i.val = q0 + i.val by omega) (show oq 1 + (128 * h' + l - ok 1) = 128 * h' + l by omega)
    · rw [if_neg (by omega), if_neg hc, add_zero]
  key := fun h' j l hh hj hl => by
    refine (rd_put s.x12 ok ik _ j (128 * h' + l)).trans ?_
    by_cases hc : h' = h ∧ j0 ≤ j ∧ j < j0 + m
    · obtain ⟨rfl, hj0, hj1⟩ := hc
      rw [if_pos (by omega), if_pos ⟨rfl, hj0, hj1⟩, rd_in _ _ _ (show j - ok 0 < m by omega) (show 128 * h' + l - ok 1 < 128 by omega)]
      refine (T.key _ _ _ _ _ ⟨j - ok 0, by omega⟩ ⟨128 * h' + l - ok 1, by omega⟩).trans ?_
      refine congrArg₂ (· + ·) ((rd_ld s.x12 ik _ _).trans ?_) ?_
      · exact congrArg₂ (rd s.x12) (show ok 0 + (j - ok 0) = j by omega) (show ok 1 + (128 * h' + l - ok 1) = 128 * h' + l by omega)
      · rw [Finset.sum_range]
        refine Finset.sum_congr rfl fun i _ => congrArg₂ (· * ·) ?_ ?_
        · rw [weight_eq b s h' iq ik eq0 eq1 ek0 ek1 hM, prod_eq s h' iq ik eq0 eq1 ek0 ek1]
          exact congrArg (fun x => wt b s h' x (q0 + i.val) * gd s h' x (q0 + i.val)) (show j0 + (j - ok 0) = j by omega)
        · refine (rd_ld s.x2 iq _ _).trans ?_
          exact congrArg₂ (rd s.x2) (show oq 0 + i.val = q0 + i.val by omega) (show oq 1 + (128 * h' + l - ok 1) = 128 * h' + l by omega)
    · rw [if_neg (by omega), if_neg hc, add_zero]
  qry := fun h' q l hh hq hl => by
    refine (rd_put s.x11 oq iq _ q (128 * h' + l)).trans ?_
    by_cases hc : h' = h ∧ q0 ≤ q ∧ q < q0 + n
    · obtain ⟨rfl, hq0, hq1⟩ := hc
      rw [if_pos (by omega), if_pos ⟨rfl, hq0, hq1⟩, rd_in _ _ _ (show q - oq 0 < n by omega) (show 128 * h' + l - oq 1 < 128 by omega)]
      refine (T.qry _ _ _ _ _ ⟨q - oq 0, by omega⟩ ⟨128 * h' + l - oq 1, by omega⟩).trans ?_
      refine congrArg₂ (· + ·) ((rd_ld s.x11 iq _ _).trans ?_) ?_
      · exact congrArg₂ (rd s.x11) (show oq 0 + (q - oq 0) = q by omega) (show oq 1 + (128 * h' + l - oq 1) = 128 * h' + l by omega)
      · rw [Finset.sum_range]
        refine Finset.sum_congr rfl fun j _ => congrArg₂ (· * ·) ?_ ?_
        · rw [weight_eq b s h' iq ik eq0 eq1 ek0 ek1 hM, prod_eq s h' iq ik eq0 eq1 ek0 ek1]
          exact congrArg (fun x => wt b s h' (j0 + j.val) x * gd s h' (j0 + j.val) x) (show q0 + (q - oq 0) = q by omega)
        · refine (rd_ld s.x4 ik _ _).trans ?_
          exact congrArg₂ (rd s.x4) (show ok 0 + j.val = j0 + j.val by omega) (show ok 1 + (128 * h' + l - oq 1) = 128 * h' + l by omega)
    · rw [if_neg (by omega), if_neg hc, add_zero]
end

end Cert.Proof.Acc

end
-- ==== Proof.Fold.lean ====
/-
  A grid point's tiles, folded: after all tiles of a block of keys the values' and the keys' accumulators hold the sums
  of the block's terms over all queries, and the queries' accumulator has the sum over the block's keys added.
-/
module

public import proofs.«01_k».proof.Proof.Acc

@[expose] public section

set_option maxRecDepth 16384

noncomputable section

namespace Cert.Proof.Acc

open Cert.KernelIdeal Cert.KernelIdeal.Gen Cert.Proof.Attn Cert.Proof.Pay
open Idealize.ShloMosaic

section Same
variable {u s : St Ideal} (e : SameIns u s) (b h : ℕ)
include e

theorem lg_same (j q : ℕ) : lg u h j q = lg s h j q := by unfold lg; rw [e.i2, e.i4]
theorem wt_same (j q : ℕ) : wt b u h j q = wt b s h j q := by unfold wt; rw [lg_same e]
theorem gd_same (j q : ℕ) : gd u h j q = gd s h j q := by unfold gd; rw [e.i3, e.i5]
theorem tV_same (j l q : ℕ) : tV b u h j l q = tV b s h j l q := by unfold tV; rw [wt_same e, e.i3]
theorem tK_same (j l q : ℕ) : tK b u h j l q = tK b s h j l q := by unfold tK; rw [wt_same e, gd_same e, e.i2]
theorem tQ_same (q l j : ℕ) : tQ b u h q l j = tQ b s h q l j := by unfold tQ; rw [wt_same e, gd_same e, e.i4]

end Same

section Zero
variable (b : ℕ) (s : St Ideal) (h : ℕ)

theorem wt_zero {j q : ℕ} (hq : q < b + j) : wt b s h j q = 0 := if_neg (by omega)
theorem tV_zero {j q : ℕ} (l : ℕ) (hq : q < b + j) : tV b s h j l q = 0 := by unfold tV; rw [wt_zero b s h hq, zero_mul]
theorem tK_zero {j q : ℕ} (l : ℕ) (hq : q < b + j) : tK b s h j l q = 0 := by unfold tK; rw [wt_zero b s h hq, zero_mul, zero_mul]
theorem tQ_zero {j q : ℕ} (l : ℕ) (hq : q < b + j) : tQ b s h q l j = 0 := by unfold tQ; rw [wt_zero b s h hq, zero_mul, zero_mul]

end Zero

/-- A tile of both heads. -/
structure Upd2 (b q0 n j0 m : ℕ) (u' u : St Ideal) : Prop where
  same : SameIns u' u
  val : ∀ h j l, h < 2 → j < 512 → l < 128 → rd u'.x13 j (128 * h + l)
    = rd u.x13 j (128 * h + l) + if j0 ≤ j ∧ j < j0 + m then ∑ i ∈ Finset.range n, tV b u h j l (q0 + i) else 0
  key : ∀ h j l, h < 2 → j < 512 → l < 128 → rd u'.x12 j (128 * h + l)
    = rd u.x12 j (128 * h + l) + if j0 ≤ j ∧ j < j0 + m then ∑ i ∈ Finset.range n, tK b u h j l (q0 + i) else 0
  qry : ∀ h q l, h < 2 → q < 8192 → l < 128 → rd u'.x11 q (128 * h + l)
    = rd u.x11 q (128 * h + l) + if q0 ≤ q ∧ q < q0 + n then ∑ j ∈ Finset.range m, tQ b u h q l (j0 + j) else 0

/-- The two heads' tiles, one after the other. -/
theorem upd2 {b q0 n j0 m : ℕ} {u₂ u₁ u : St Ideal} (h₀ : Upd b 0 q0 n j0 m u₁ u) (h₁ : Upd b 1 q0 n j0 m u₂ u₁) : Upd2 b q0 n j0 m u₂ u where
  same := h₁.same.trans h₀.same
  val := fun h j l hh hj hl => by
    rw [h₁.val h j l hh hj hl, h₀.val h j l hh hj hl]
    simp only [tV_same h₀.same]
    rcases (by omega : h = 0 ∨ h = 1) with rfl | rfl <;> simp
  key := fun h j l hh hj hl => by
    rw [h₁.key h j l hh hj hl, h₀.key h j l hh hj hl]
    simp only [tK_same h₀.same]
    rcases (by omega : h = 0 ∨ h = 1) with rfl | rfl <;> simp
  qry := fun h q l hh hq hl => by
    rw [h₁.qry h q l hh hq hl, h₀.qry h q l hh hq hl]
    simp only [tQ_same h₀.same]
    rcases (by omega : h = 0 ∨ h = 1) with rfl | rfl <;> simp

/-- The block's accumulators once the queries below `A` are done; `w` is the queries' accumulator the block starts from. -/
structure Inv (b : ℕ) (s : St Ideal) (w : Vec Ideal S8192x256 .f32) (A : ℕ) (u : St Ideal) : Prop where
  same : SameIns u s
  val : ∀ h j l, h < 2 → j < 512 → l < 128 → rd u.x13 j (128 * h + l) = ∑ q ∈ Finset.range A, tV b s h j l q
  key : ∀ h j l, h < 2 → j < 512 → l < 128 → rd u.x12 j (128 * h + l) = ∑ q ∈ Finset.range A, tK b s h j l q
  qry : ∀ h q l, h < 2 → q < 8192 → l < 128 → rd u.x11 q (128 * h + l)
    = rd w q (128 * h + l) + if q < A then ∑ j ∈ Finset.range 512, tQ b s h q l j else 0

variable {b A n : ℕ} {s u u₁ u₂ : St Ideal} {w : Vec Ideal S8192x256 .f32}

/-- A tile of all the block's keys takes the next `n` queries. -/
theorem inv_full (I : Inv b s w A u) (U : Upd2 b A n 0 512 u₁ u) : Inv b s w (A + n) u₁ where
  same := U.same.trans I.same
  val := fun h j l hh hj hl => by
    rw [U.val h j l hh hj hl, I.val h j l hh hj hl, if_pos (by omega), Finset.sum_range_add]
    simp only [tV_same I.same]
  key := fun h j l hh hj hl => by
    rw [U.key h j l hh hj hl, I.key h j l hh hj hl, if_pos (by omega), Finset.sum_range_add]
    simp only [tK_same I.same]
  qry := fun h q l hh hq hl => by
    rw [U.qry h q l hh hq hl, I.qry h q l hh hq hl, add_assoc]
    simp only [tQ_same I.same, Nat.zero_add]
    refine congrArg (_ + ·) ?_
    by_cases h1 : q < A
    · rw [if_pos h1, if_neg (by omega), if_pos (by omega), add_zero]
    · by_cases h2 : q < A + n
      · rw [if_neg h1, if_pos (by omega), if_pos (by omega), zero_add]
      · rw [if_neg h1, if_neg (by omega), if_neg (by omega), zero_add]

/-- A sum over a block of rows whose first half is zero. -/
theorem sum_upper {f : ℕ → EReal} (hf : ∀ i, i < 256 → f i = 0) : ∑ i ∈ Finset.range 512, f i = ∑ i ∈ Finset.range 256, f (256 + i) := by
  rw [show (512 : ℕ) = 256 + 256 from rfl, Finset.sum_range_add, Finset.sum_eq_zero fun i hi => hf i (Finset.mem_range.mp hi), zero_add]

/-- A sum over a block of rows whose second half is zero. -/
theorem sum_lower {f : ℕ → EReal} (hf : ∀ i, 256 ≤ i → i < 512 → f i = 0) : ∑ i ∈ Finset.range 512, f i = ∑ i ∈ Finset.range 256, f i := by
  rw [show (512 : ℕ) = 256 + 256 from rfl, Finset.sum_range_add,
    Finset.sum_eq_zero (s := Finset.range 256) (f := fun i => f (256 + i)) fun i hi => hf _ (by omega) (by have := Finset.mem_range.mp hi; omega), add_zero]

/-- The diagonal block's two tiles take the block's own queries. -/
theorem inv_diag (I : Inv b s w b u) (U₁ : Upd2 b b 512 0 256 u₁ u) (U₂ : Upd2 b (b + 256) 256 256 256 u₂ u₁) : Inv b s w (b + 512) u₂ where
  same := U₂.same.trans (U₁.same.trans I.same)
  val := fun h j l hh hj hl => by
    rw [U₂.val h j l hh hj hl, U₁.val h j l hh hj hl, I.val h j l hh hj hl, Finset.sum_range_add, add_assoc]
    simp only [tV_same (U₁.same.trans I.same), tV_same I.same]
    refine congrArg (_ + ·) ?_
    by_cases h1 : j < 256
    · rw [if_pos (by omega), if_neg (by omega), add_zero]
    · rw [if_neg (by omega), if_pos (by omega), zero_add, sum_upper fun i hi => tV_zero b s h l (by omega)]
      exact Finset.sum_congr rfl fun i _ => congrArg _ (by omega)
  key := fun h j l hh hj hl => by
    rw [U₂.key h j l hh hj hl, U₁.key h j l hh hj hl, I.key h j l hh hj hl, Finset.sum_range_add, add_assoc]
    simp only [tK_same (U₁.same.trans I.same), tK_same I.same]
    refine congrArg (_ + ·) ?_
    by_cases h1 : j < 256
    · rw [if_pos (by omega), if_neg (by omega), add_zero]
    · rw [if_neg (by omega), if_pos (by omega), zero_add, sum_upper fun i hi => tK_zero b s h l (by omega)]
      exact Finset.sum_congr rfl fun i _ => congrArg _ (by omega)
  qry := fun h q l hh hq hl => by
    rw [U₂.qry h q l hh hq hl, U₁.qry h q l hh hq hl, I.qry h q l hh hq hl, add_assoc, add_assoc]
    simp only [tQ_same (U₁.same.trans I.same), tQ_same I.same, Nat.zero_add]
    refine congrArg (_ + ·) ?_
    by_cases h1 : q < b
    · rw [if_pos h1, if_neg (by omega), if_neg (by omega), if_pos (by omega), add_zero, add_zero]
    · by_cases h2 : q < b + 512
      · rw [if_neg h1, if_pos (by omega), if_pos h2, zero_add]
        by_cases h3 : q < b + 256
        · rw [if_neg (by omega), add_zero, sum_lower fun i hi _ => tQ_zero b s h l (by omega)]
        · rw [if_pos (by omega), show (512 : ℕ) = 256 + 256 from rfl, Finset.sum_range_add]
      · rw [if_neg h1, if_neg (by omega), if_neg (by omega), if_neg h2, add_zero, zero_add]

/-- A property carried along a run over `Fin n`. -/
theorem foldl_inv {S : Type} : ∀ (n : ℕ) (f : Fin n → S → S) (P : ℕ → S → Prop) (s : S), P 0 s → (∀ t s, P t.val s → P (t.val + 1) (f t s)) →
    P n ((List.finRange n).foldl (fun s t => f t s) s)
  | 0, _, _, _, h0, _ => by simpa using h0
  | n + 1, f, P, s, h0, hs => by
    rw [List.finRange_succ, List.foldl_cons, List.foldl_map]
    exact foldl_inv n (fun t => f t.succ) (fun k => P (k + 1)) (f 0 s) (hs 0 s h0) fun t s h => hs t.succ s h

theorem k0_off7_eq : ∀ (i : grid0.Coords) (t : Fin (k0_t1_loop i).trips), k0_off7 i t = ![512 * ((i 1).val + 1 + (15 - (i 1).val) % 2 + 2 * t.val), 0] := by decide +kernel
theorem k0_off8_eq : ∀ (i : grid0.Coords) (t : Fin (k0_t1_loop i).trips), k0_off8 i t = ![512 * ((i 1).val + 1 + (15 - (i 1).val) % 2 + 2 * t.val), 128] := by decide +kernel
/-- The number of double tiles. -/
theorem trips_eq : ∀ i : grid0.Coords, (k0_t1_loop i).trips = (15 - (i 1).val) / 2 := by decide +kernel
/-- Whether there is a single tile. -/
theorem cond2_iff : ∀ i : grid0.Coords, k0_cond2 i = 1#1 ↔ (15 - (i 1).val) % 2 = 1 := by decide +kernel
/-- Whether the block is the pair's first. -/
theorem cond1_iff : ∀ i : grid0.Coords, cond1 i = 1#1 ↔ (i 1).val = 0 := by decide +kernel
/-- Whether the block is the pair's last. -/
theorem cond3_iff : ∀ i : grid0.Coords, k0_cond3 i = 1#1 ↔ (i 1).val = 15 := by decide +kernel

/-- The block's first row. -/
def base (i : grid0.Coords) : ℕ := 512 * (i 1).val

section Tiles
variable (i : grid0.Coords) (u : St Ideal)

/-- The upper half of the diagonal block. -/
theorem diag₁ : Upd2 (base i) (base i) 512 0 256 (a1Qs i (a1Ks i (a1Vs i (a0Qs i (a0Ks i (a0Vs i u)))))) u := by
  have h₀ : Upd (base i) 0 (base i) 512 0 256 (a0Qs i (a0Ks i (a0Vs i u))) u :=
    upd_step (base i) u 0 (q0 := (base i)) (j0 := 0) (k0_off1_inb i) inb_S512x256_S256x128_0_0 (congrFun (k0_off1_eq i) 0) (congrFun (k0_off1_eq i) 1) rfl rfl
      (fun j t _ _ => by unfold base; omega) a0_tile
  have h₁ : ∀ v, Upd (base i) 1 (base i) 512 0 256 (a1Qs i (a1Ks i (a1Vs i v))) v := fun v =>
    upd_step (base i) v 1 (q0 := (base i)) (j0 := 0) (k0_off2_inb i) inb_S512x256_S256x128_0_128 (congrFun (k0_off2_eq i) 0) (congrFun (k0_off2_eq i) 1) rfl rfl
      (fun j t _ _ => by unfold base; omega) a1_tile
  exact upd2 h₀ (h₁ _)

/-- The lower half of the diagonal block. -/
theorem diag₂ : Upd2 (base i) (base i + 256) 256 256 256 (b1Qs i (b1Ks i (b1Vs i (b0Qs i (b0Ks i (b0Vs i u)))))) u := by
  have h₀ : Upd (base i) 0 (base i + 256) 256 256 256 (b0Qs i (b0Ks i (b0Vs i u))) u :=
    upd_step (base i) u 0 (q0 := (base i + 256)) (j0 := 256) (k0_off3_inb i) inb_S512x256_S256x128_256_0 (congrFun (k0_off3_eq i) 0) (congrFun (k0_off3_eq i) 1) rfl rfl
      (fun j t _ _ => by unfold base; omega) b0_tile
  have h₁ : ∀ v, Upd (base i) 1 (base i + 256) 256 256 256 (b1Qs i (b1Ks i (b1Vs i v))) v := fun v =>
    upd_step (base i) v 1 (q0 := (base i + 256)) (j0 := 256) (k0_off4_inb i) inb_S512x256_S256x128_256_128 (congrFun (k0_off4_eq i) 0) (congrFun (k0_off4_eq i) 1) rfl rfl
      (fun j t _ _ => by unfold base; omega) b1_tile
  exact upd2 h₀ (h₁ _)

/-- The single tile. -/
theorem single_upd (h2 : k0_cond2 i = 1#1) : Upd2 (base i) (base i + 512) 512 0 512 (single i u) u := by
  unfold single
  rw [dif_pos h2]
  have h₀ : Upd (base i) 0 (base i + 512) 512 0 512 (o0Qs i h2 (o0Ks i h2 (o0Vs i h2 u))) u :=
    upd_step (base i) u 0 (q0 := (base i + 512)) (j0 := 0) (k0_off5_inb i h2) inb_S512x256_S512x128_0_0 (congrFun (k0_off5_eq i) 0) (congrFun (k0_off5_eq i) 1) rfl rfl
      (fun j t _ _ => by unfold base; simp; omega) o0_tile
  have h₁ : ∀ v, Upd (base i) 1 (base i + 512) 512 0 512 (o1Qs i h2 (o1Ks i h2 (o1Vs i h2 v))) v := fun v =>
    upd_step (base i) v 1 (q0 := (base i + 512)) (j0 := 0) (k0_off6_inb i h2) inb_S512x256_S512x128_0_128 (congrFun (k0_off6_eq i) 0) (congrFun (k0_off6_eq i) 1) rfl rfl
      (fun j t _ _ => by unfold base; simp; omega) o1_tile
  exact upd2 h₀ (h₁ _)

/-- A double tile. -/
theorem trip_upd (t : Fin (k0_t1_loop i).trips) : Upd2 (base i) (512 * ((i 1).val + 1 + (15 - (i 1).val) % 2 + 2 * t.val)) 1024 0 512 (trip i t u) u := by
  unfold trip
  have h₀ : Upd (base i) 0 (512 * ((i 1).val + 1 + (15 - (i 1).val) % 2 + 2 * t.val)) 1024 0 512 (t0Qs i t (t0Ks i t (t0Vs i t u))) u :=
    upd_step (base i) u 0 (q0 := (512 * ((i 1).val + 1 + (15 - (i 1).val) % 2 + 2 * t.val))) (j0 := 0) (k0_off7_inb i t) inb_S512x256_S512x128_0_0 (congrFun (k0_off7_eq i t) 0) (congrFun (k0_off7_eq i t) 1) rfl rfl
      (fun j x _ _ => by unfold base; simp; omega) t0_tile
  have h₁ : ∀ v, Upd (base i) 1 (512 * ((i 1).val + 1 + (15 - (i 1).val) % 2 + 2 * t.val)) 1024 0 512 (t1Qs i t (t1Ks i t (t1Vs i t v))) v := fun v =>
    upd_step (base i) v 1 (q0 := (512 * ((i 1).val + 1 + (15 - (i 1).val) % 2 + 2 * t.val))) (j0 := 0) (k0_off8_inb i t) inb_S512x256_S512x128_0_128 (congrFun (k0_off8_eq i t) 0) (congrFun (k0_off8_eq i t) 1) rfl rfl
      (fun j x _ _ => by unfold base; simp; omega) t1_tile
  exact upd2 h₀ (h₁ _)

/-- The queries' accumulator the block starts from. -/
def carried : Vec Ideal S8192x256 .f32 := if (i 1).val = 0 then fun _ => (0 : EReal) else u.x11

theorem start_inv : Inv (base i) u (carried i u) (base i) (start i u) := by
  have e51 : VecWindow.put u.x11 ![0, 0] S8192x256.size (k0_pay51 (F := Ideal)) = fun _ => (0 : EReal) := by
    funext y
    unfold VecWindow.put
    rw [dif_pos fun a => by have := (y a).isLt; match a with | ⟨0, _⟩ => exact ⟨Nat.zero_le _, by simpa using this⟩ | ⟨1, _⟩ => exact ⟨Nat.zero_le _, by simpa using this⟩]
    pointwise [k0_pay51]
  have e52 : VecWindow.put u.x12 ![0, 0] S512x256.size (k0_pay52 (F := Ideal)) = fun _ => (0 : EReal) := by
    funext y
    unfold VecWindow.put
    rw [dif_pos fun a => by have := (y a).isLt; match a with | ⟨0, _⟩ => exact ⟨Nat.zero_le _, by simpa using this⟩ | ⟨1, _⟩ => exact ⟨Nat.zero_le _, by simpa using this⟩]
    pointwise [k0_pay52]
  have e53 : VecWindow.put u.x13 ![0, 0] S512x256.size (k0_pay53 (F := Ideal)) = fun _ => (0 : EReal) := by
    funext y
    unfold VecWindow.put
    rw [dif_pos fun a => by have := (y a).isLt; match a with | ⟨0, _⟩ => exact ⟨Nat.zero_le _, by simpa using this⟩ | ⟨1, _⟩ => exact ⟨Nat.zero_le _, by simpa using this⟩]
    pointwise [k0_pay53]
  have z : ∀ {R C : ℕ} (r c : ℕ), rd (R := R) (C := C) (fun _ => 0) r c = 0 := fun r c => by unfold rd; split <;> rfl
  refine ⟨same_start i u, fun h j l hh hj hl => ?_, fun h j l hh hj hl => ?_, fun h q l hh hq hl => ?_⟩
  · rw [Finset.sum_eq_zero fun q hq => tV_zero _ u h l (by have := Finset.mem_range.mp hq; omega)]
    have e : (start i u).x13 = fun _ => (0 : EReal) := by unfold start zeroKV zeroQ; split <;> exact e53
    rw [e]; exact z _ _
  · rw [Finset.sum_eq_zero fun q hq => tK_zero _ u h l (by have := Finset.mem_range.mp hq; omega)]
    have e : (start i u).x12 = fun _ => (0 : EReal) := by unfold start zeroKV zeroQ; split <;> exact e52
    rw [e]; exact z _ _
  · have e : (start i u).x11 = carried i u := by
      unfold start zeroKV zeroQ carried
      by_cases h0 : (i 1).val = 0
      · rw [if_pos ((cond1_iff i).mpr h0), if_pos h0]; exact e51
      · rw [if_neg (fun h => h0 ((cond1_iff i).mp h)), if_neg h0]
    rw [e]
    by_cases h1 : q < base i
    · rw [if_pos h1, Finset.sum_eq_zero fun j _ => tQ_zero _ u h l (by omega), add_zero]
    · rw [if_neg h1, add_zero]

/-- What a block's tiles leave in the accumulators. -/
theorem tiles_inv : Inv (base i) u (carried i u) 8192 (tiles i u) := by
  have hk : (i 1).val < 16 := (i 1).isLt
  have h1 : Inv (base i) u (carried i u) (base i + 512) (diag i (start i u)) := by
    unfold diag
    exact inv_diag (start_inv i u) (diag₁ i _) (diag₂ i _)
  have h2 : Inv (base i) u (carried i u) (512 * ((i 1).val + 1 + (15 - (i 1).val) % 2)) (single i (diag i (start i u))) := by
    by_cases hc : k0_cond2 i = 1#1
    · have := (cond2_iff i).mp hc
      have I := inv_full h1 (single_upd i _ hc)
      rwa [show base i + 512 + 512 = 512 * ((i 1).val + 1 + (15 - (i 1).val) % 2) by unfold base; omega] at I
    · have := mt (cond2_iff i).mpr hc
      have e : single i (diag i (start i u)) = diag i (start i u) := by unfold single; rw [dif_neg hc]
      rw [e]
      rwa [show base i + 512 = 512 * ((i 1).val + 1 + (15 - (i 1).val) % 2) by unfold base; omega] at h1
  unfold tiles loop
  have h3 := foldl_inv _ (fun t s => trip i t s) (fun k v => Inv (base i) u (carried i u) (512 * ((i 1).val + 1 + (15 - (i 1).val) % 2 + 2 * k)) v) _ h2 fun t v I => by
    have := inv_full I (trip_upd i v t)
    rwa [show 512 * ((i 1).val + 1 + (15 - (i 1).val) % 2 + 2 * t.val) + 1024 = 512 * ((i 1).val + 1 + (15 - (i 1).val) % 2 + 2 * (t.val + 1)) by omega] at this
  rwa [show 512 * ((i 1).val + 1 + (15 - (i 1).val) % 2 + 2 * (k0_t1_loop i).trips) = 8192 by rw [trips_eq]; omega] at h3

end Tiles

end Cert.Proof.Acc

end
-- ==== Proof.Spec.lean ====
/-
  The gradients of the forgetting attention as real numbers: what the kernel and the reference both compute where every
  argument is finite. Arrays are read at a row and a column given as numbers.
-/
module

public import Idealize.ShloMosaic.Lib.IdealHost
public import Idealize.ShloMosaic.Lib.Pointwise
public import Idealize.ShloMosaic.Lib.Pipeline.ValueKit

@[expose] public section

noncomputable section

namespace Cert.Proof.Spec

open Idealize.ShloMosaic

/-- The five arguments: queries, keys, values, the cotangent of the output, and the cumulated log gates. -/
structure Reals where
  Q : ℕ → ℕ → ℝ
  K : ℕ → ℕ → ℝ
  W : ℕ → ℕ → ℝ
  D : ℕ → ℕ → ℝ
  C : ℕ → ℕ → ℝ

/-- An array of extended reals holds these real numbers. -/
def Holds {n m : ℕ} (x : (⟨2, ![n, m]⟩ : Shape).Idx → EReal) (X : ℕ → ℕ → ℝ) : Prop :=
  ∀ (r : Fin n) (l : Fin m), x (ix2 r l) = ((X r.val l.val : ℝ) : EReal)

variable (R : Reals)

/-- The logit of query `i` and key `j` in head `h`. -/
def score (h i j : ℕ) : ℝ :=
  (∑ d : Fin 64, R.Q i (64 * h + d.val) * R.K j (64 * h + d.val)) * 0.125 + R.C i h - R.C j h

/-- The sum of the exponentials of a query's logits, over the keys not after it. -/
def mass (h i : ℕ) : ℝ := ∑ j : Fin 8192, if j.val ≤ i then Real.exp (score R h i j.val) else 0

/-- The attention probabilities. -/
def prob (h i j : ℕ) : ℝ := if j ≤ i then Real.exp (score R h i j) / mass R h i else 0

/-- The gradient at a probability. -/
def grad (h i j : ℕ) : ℝ := ∑ d : Fin 64, R.D i (64 * h + d.val) * R.W j (64 * h + d.val)

/-- A query's mean of that gradient under its probabilities. -/
def delta (h i : ℕ) : ℝ := ∑ j : Fin 8192, prob R h i j.val * grad R h i j.val

/-- The gradient at a logit. -/
def slope (h i j : ℕ) : ℝ := prob R h i j * (grad R h i j - delta R h i)

def dQ (h i l : ℕ) : ℝ := (∑ j : Fin 8192, slope R h i j.val * R.K j.val l) * 0.125
def dK (h j l : ℕ) : ℝ := ∑ i : Fin 8192, slope R h i.val j * (R.Q i.val l * 0.125)
def dW (h j l : ℕ) : ℝ := ∑ i : Fin 8192, prob R h i.val j * R.D i.val l
def dCq (h i : ℕ) : ℝ := ∑ j : Fin 8192, slope R h i j.val
def dCk (h j : ℕ) : ℝ := -∑ i : Fin 8192, slope R h i.val j

theorem mass_pos (h i : ℕ) (hi : i < 8192) : 0 < mass R h i := by
  refine Finset.sum_pos' (fun j _ => ?_) ⟨⟨i, hi⟩, Finset.mem_univ _, ?_⟩
  · split
    · exact (Real.exp_pos _).le
    · exact le_rfl
  · rw [if_pos (le_refl i)]
    exact Real.exp_pos _

/-- A probability from logits shifted by any number. -/
theorem prob_shift (h i j : ℕ) (hi : i < 8192) (μ : ℝ) :
    (if j ≤ i then Real.exp (score R h i j - μ) else 0) /
      (∑ j : Fin 8192, if j.val ≤ i then Real.exp (score R h i j.val - μ) else 0) = prob R h i j := by
  have hs : (∑ j : Fin 8192, if j.val ≤ i then Real.exp (score R h i j.val - μ) else 0) = mass R h i / Real.exp μ := by
    rw [mass, Finset.sum_div]
    refine Finset.sum_congr rfl fun j _ => ?_
    split
    · exact Real.exp_sub _ _
    · exact (zero_div _).symm
  have hm := (mass_pos R h i hi).ne'
  rw [hs, prob]
  split
  · rw [Real.exp_sub]
    field_simp
  · exact zero_div _

/-- The same probability as one exponential: the logit less the logarithm of the sum. -/
theorem prob_exp (h i j : ℕ) (hi : i < 8192) (μ : ℝ) :
    (if j ≤ i then Real.exp (score R h i j -
        (μ + Real.log (∑ j : Fin 8192, if j.val ≤ i then Real.exp (score R h i j.val - μ) else 0))) else 0) = prob R h i j := by
  have hs : 0 < ∑ j : Fin 8192, if j.val ≤ i then Real.exp (score R h i j.val - μ) else 0 := by
    refine Finset.sum_pos' (fun j _ => ?_) ⟨⟨i, hi⟩, Finset.mem_univ _, ?_⟩
    · split
      · exact (Real.exp_pos _).le
      · exact le_rfl
    · rw [if_pos (le_refl i)]
      exact Real.exp_pos _
  rw [← prob_shift R h i j hi μ]
  split
  · rw [← sub_sub, Real.exp_sub, Real.exp_log hs]
  · exact (zero_div _).symm

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Proof.Spec
-- ==== Proof.Soft.lean ====
/-
  The attention's probabilities as the host program of the reference (and of the kernel) composes them: masked logits,
  their row maximum, exponentials, row sums and quotients. Each composition is named, read at an index, and found to be
  a real number of `Spec` where the arguments are finite.
-/
module

public import proofs.«01_k».proof.Proof.Gen.ReferenceIdeal.Run
public import proofs.«01_k».proof.Proof.Spec

@[expose] public section

set_option maxRecDepth 16384

noncomputable section

namespace Cert.Proof.Soft

open Cert.ReferenceIdeal Cert.ReferenceIdeal.Gen Cert.Proof.Spec
open Idealize.ShloMosaic

abbrev Wide := FVec Ideal S8192x512 .f32
abbrev Gate := FVec Ideal S8192x8 .f32
abbrev Sq := FVec Ideal S8x8192x8192 .f32
abbrev Rows := FVec Ideal S8x8192 .f32

/-- An array over head, query and key holds these real numbers. -/
def Holds3 {n m k : ℕ} (x : (⟨3, ![n, m, k]⟩ : Shape).Idx → EReal) (X : ℕ → ℕ → ℕ → ℝ) : Prop :=
  ∀ (h : Fin n) (i : Fin m) (j : Fin k), x (ix3 h i j) = ((X h.val i.val j.val : ℝ) : EReal)

/-- The constant one eighth. -/
theorem eighth : Ideal.ofBits .f32 0x3E000000#32 = ((0.125 : ℝ) : EReal) := by
  simp [Ideal.ofBits, Ideal.ieee]
  rw [← EReal.coe_mul]
  norm_num

/-- The constant minus infinity. -/
theorem low : Ideal.ofBits .f32 0xFF800000#32 = ⊥ := by
  simp [Ideal.ofBits, Ideal.ieee]

/-- The mask's bit chooses by the order of the positions. -/
theorem select_le {α : Type} (i j : Fin 8192) (x y : α) :
    Scalar.select (IntOp.cmpi .sge (BitVec.ofNat 32 i.val) (BitVec.ofNat 32 j.val)) x y = if j.val ≤ i.val then x else y := by
  have e : ∀ x : ℕ, x < 8192 → (BitVec.ofNat 32 x).toInt = (x : ℤ) := fun x hx => by
    rw [BitVec.toInt_eq_toNat_of_lt (by rw [BitVec.toNat_ofNat]; omega), BitVec.toNat_ofNat]; omega
  have hb : IntOp.cmpi CmpIPredicate.sge (BitVec.ofNat 32 i.val) (BitVec.ofNat 32 j.val) = if j.val ≤ i.val then 1#1 else 0#1 := by
    simp only [IntOp.cmpi, BitVec.sle, e _ i.isLt, e _ j.isLt]
    by_cases h : j.val ≤ i.val
    · simp [h]
    · simp [h]
  rw [hb]
  by_cases h : j.val ≤ i.val
  · rw [if_pos h, if_pos h]; rfl
  · rw [if_neg h, if_neg h]; rfl

/-- The heads split apart. -/
def heads (x : Wide) : FVec Ideal S8192x8x64 .f32 := shapeCast S8192x8x64 x shapeCasts_S8192x512_S8192x8x64

theorem heads_apply (x : Wide) (r : Fin 8192) (h : Fin 8) (d : Fin 64) :
    heads x (ix3 r h d) = x (ix2 r ⟨64 * h.val + d.val, by omega⟩) := by
  pointwise [heads]
  simp only [mul_comm]

def keep : IVec S8x8192x8192 1 := (broadcastInDim S8x8192x8192 ![1, 2] bcast_S8192x8192_S8x8192x8192_1_2 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))

def logits (q k : Wide) (c : Gate) : Sq := (subf (addf (mulf (Host.dotGeneral dot_S8192x8x64_S8192x8x64_S8x8192x8192_2_2_0_0_1_1 none (heads q) (heads k)) (broadcastInDim S8x8192x8192 ![] bcast_S_S8x8192x8192 (constant S_ .f32 0x3E000000#32))) (broadcastInDim S8x8192x8192 ![0, 1, 2] bcast_S8x8192x1_S8x8192x8192_0_1_2 (broadcastInDim S8x8192x1 ![0, 1] bcast_S8x8192_S8x8192x1_0_1 (transpose S8x8192 [1, 0] c transposes_S8192x8_S8x8192_1_0)))) (broadcastInDim S8x8192x8192 ![0, 1, 2] bcast_S8x1x8192_S8x8192x8192_0_1_2 (broadcastInDim S8x1x8192 ![0, 2] bcast_S8x8192_S8x1x8192_0_2 (transpose S8x8192 [1, 0] c transposes_S8192x8_S8x8192_1_0))))

variable {q k v d : Wide} {c : Gate} (R : Reals)

theorem logits_holds (hq : Holds q R.Q) (hk : Holds k R.K) (hc : Holds c R.C) : Holds3 (logits q k c) (score R) := by
  intro h i j
  pointwise [logits]
  simp only [heads_apply, eighth, hq _ _, hk _ _, hc _ _, score, ← EReal.coe_mul, ← coe_sum, ← EReal.coe_add, ← EReal.coe_sub]

def masked (s : Sq) : Sq := select keep s (broadcastInDim S8x8192x8192 ![] bcast_S_S8x8192x8192 (id (constant S_ .f32 0xFF800000#32)))

theorem masked_apply (s : Sq) (h : Fin 8) (i j : Fin 8192) :
    masked s (ix3 h i j) = if j.val ≤ i.val then s (ix3 h i j) else ⊥ := by
  pointwise [masked, keep]
  rw [select_le]
  exact if_congr Iff.rfl rfl low

/-- The row maximum of a stack of matrices, as a fold. -/
theorem reduce_max {a b n : ℕ} {u : Shape} (x : FVec Ideal ⟨3, ![a, b, n]⟩ .f32) (w : BitVec 32)
    (hr : (⟨3, ![a, b, n]⟩ : Shape).ReducesTo [2] ⟨2, ![a, b]⟩) (hu : 0 < u.numel) (h : Fin a) (i : Fin b) :
    Host.reduce FloatOps.maximumf x (constant u .f32 w) hr hu (ix2 h i) =
      (Finset.univ : Finset (Fin n)).fold (max : EReal → EReal → EReal) (Ideal.ofBits .f32 w) fun j => x (ix3 h i j) := by
  refine (Host.reduce_eq_fold (max : EReal → EReal → EReal) (x : (⟨3, ![a, b, n]⟩ : Shape).Idx → EReal)
    (constant (F := Ideal) u .f32 w : u.Idx → EReal) hr hu (ix2 h i)).trans ?_
  rw [Shape.ReducesTo.fold_fiber_r3_a2 hr]
  rfl

def peak (s : Sq) : Rows := (Host.reduce FloatOps.maximumf s (constant S_ .f32 0xFF800000#32) reducesTo_S8x8192x8192_S8x8192_d2 h_S_)

theorem peak_eq (s : Sq) : peak s = Host.reduce (s := ⟨3, ![8, 8192, 8192]⟩) (t := ⟨2, ![8, 8192]⟩) (axes := [2]) FloatOps.maximumf s
    (constant S_ .f32 0xFF800000#32) reducesTo_S8x8192x8192_S8x8192_d2 h_S_ := rfl

theorem peak_apply (s : Sq) (h : Fin 8) (i : Fin 8192) :
    peak s (ix2 h i) = (Finset.univ : Finset (Fin 8192)).fold (max : EReal → EReal → EReal) (Ideal.ofBits .f32 0xFF800000#32)
      fun j => s (ix3 h i j) :=
  (congrFun (peak_eq s) (ix2 h i)).trans (reduce_max (a := 8) (b := 8192) (n := 8192) (u := S_) s 0xFF800000#32
    reducesTo_S8x8192x8192_S8x8192_d2 h_S_ h i)

theorem low_lt : Ideal.ofBits .f32 0xFF800000#32 < ⊤ := low ▸ bot_lt_top

/-- The row maxima, held above minus infinity. -/
def above (p : Rows) : Rows := maximumf (broadcastInDim S8x8192 ![] bcast_S_S8x8192 (constant S_ .f32 0xFF800000#32)) p

theorem above_apply (p : Rows) (h : Fin 8) (i : Fin 8192) : above p (ix2 h i) = p (ix2 h i) := by
  pointwise [above]
  rw [low]
  exact max_eq_right bot_le

def top (s : Sq) : Rows := above (peak s)

theorem top_apply (s : Sq) (h : Fin 8) (i : Fin 8192) : top s (ix2 h i) = peak s (ix2 h i) := above_apply (peak s) h i

/-- The maximum of a masked row of real logits is a real number. -/
theorem peak_real {s : Sq} {S : ℕ → ℕ → ℕ → ℝ} (hs : Holds3 s S) (h : Fin 8) (i : Fin 8192) :
    ∃ μ : ℝ, peak (masked s) (ix2 h i) = (μ : EReal) := by
  have hlt : peak (masked s) (ix2 h i) < ⊤ := by
    rw [peak_apply, Finset.fold_max_lt]
    refine ⟨low_lt, fun j _ => ?_⟩
    rw [masked_apply]
    split
    · rw [hs]
      exact EReal.coe_lt_top _
    · exact bot_lt_top
  have hgt : ⊥ < peak (masked s) (ix2 h i) := by
    rw [peak_apply, Finset.lt_fold_max]
    refine Or.inr ⟨i, Finset.mem_univ _, ?_⟩
    rw [masked_apply, if_pos le_rfl, hs]
    exact EReal.bot_lt_coe _
  exact ⟨_, (EReal.coe_toReal hlt.ne hgt.ne').symm⟩

/-- A number per head and query, repeated for every key. -/
def rows (x : Rows) : Sq := (broadcastInDim S8x8192x8192 ![0, 1, 2] bcast_S8x8192x1_S8x8192x8192_0_1_2 (broadcastInDim S8x8192x1 ![0, 1] bcast_S8x8192_S8x8192x1_0_1 x))

def expo (s : Sq) (m : Rows) : Sq := Host.exp (subf (masked s) (rows m))

theorem expo_apply (s : Sq) (m : Rows) (h : Fin 8) (i j : Fin 8192) :
    expo s m (ix3 h i j) = Ideal.exp (masked s (ix3 h i j) - m (ix2 h i)) := by
  pointwise [expo, rows]

theorem expo_holds {s : Sq} {S : ℕ → ℕ → ℕ → ℝ} (hs : Holds3 s S) {m : Rows} {M : ℕ → ℕ → ℝ} (hm : Holds m M) :
    Holds3 (expo s m) fun h i j => if j ≤ i then Real.exp (S h i j - M h i) else 0 := by
  intro h i j
  rw [expo_apply, masked_apply, hm h i]
  dsimp only
  split
  · rw [hs h i j, ← EReal.coe_sub]
    rfl
  · rfl

def tot (e : Sq) : Rows := (Host.reduceAdd e (constant S_ .f32 0x00000000#32) reducesTo_S8x8192x8192_S8x8192_d2 h_S_)

theorem tot_holds {e : Sq} {E : ℕ → ℕ → ℕ → ℝ} (he : Holds3 e E) :
    Holds (tot e) fun h i => ∑ j : Fin 8192, E h i j.val := by
  intro h i
  pointwise [tot]
  simp only [he _ _ _, ← coe_sum]

def ratio (e : Sq) (l : Rows) : Sq := Host.divf e (rows l)

theorem ratio_holds {e : Sq} {E : ℕ → ℕ → ℕ → ℝ} (he : Holds3 e E) {l : Rows} {L : ℕ → ℕ → ℝ} (hl : Holds l L)
    (h0 : ∀ h i, i < 8192 → L h i ≠ 0) : Holds3 (ratio e l) fun h i j => E h i j / L h i := by
  intro h i j
  pointwise [ratio, rows]
  rw [he h i j, hl h i, Ideal.div_coe (h0 _ _ i.isLt), ← EReal.coe_mul, mul_one_div]

end Cert.Proof.Soft
-- ==== Proof.Stacks.lean ====
/-
  What the host program hands the kernel: each head's sixty-four lanes of data, and beside them sixty-four lanes of terms
  (three parts of the gates, of the logarithms of the sums, of the means). The stacks of terms are read lane by lane.
-/
module

public import proofs.«01_k».proof.Proof.Gen.KernelIdeal.Frame
public import proofs.«01_k».proof.Proof.Soft
public import Idealize.ShloMosaic.Lib.StableHlo.RunRead

@[expose] public section

set_option maxRecDepth 16384

noncomputable section

namespace Cert.Proof.Stacks

open Cert.KernelIdeal Cert.KernelIdeal.Gen Cert.Proof.Spec Cert.Proof.Soft
open Idealize.ShloMosaic Idealize.ShloMosaic.TcCoe

/-- The host operations before the call. -/
abbrev line : List (HloOp τ sig (Elt Ideal)) := List.flatten [hostOps0, hostOps0_1, hostOps0_2]

abbrev Terms := Fin 16 → FVec Ideal S8192x8 .f32

/-- An array over rows and heads, as one lane of a stack. -/
def piece (g : FVec Ideal S8192x8 .f32) : FVec Ideal S8192x8x1 .f32 := broadcastInDim S8192x8x1 ![0, 1] bcast_S8192x8_S8192x8x1_0_1 g

theorem piece_apply (g : FVec Ideal S8192x8 .f32) (r : Fin 8192) (h : Fin 8) (z : Fin 1) : piece g (ix3 r h z) = g (ix2 r h) := by
  pointwise [piece]

/-- Sixteen lanes joined, read at a lane. -/
theorem join16 (f : Terms) (hc) (r : Fin 8192) (h : Fin 8) (x : Fin 16) :
    concatenate S8192x8x16 2 (List.ofFn fun i : Fin 16 => ⟨S8192x8x1, piece (f i)⟩) hc (ix3 r h x) = f x (ix2 r h) := by
  rw [concatenate_ofFn_unit_apply 2 (fun i : Fin 16 => piece (f i)) hc rfl rfl (ix3 r h x) x rfl (ix3 r h 0) ?_]
  · exact piece_apply _ r h 0
  · intro b hb
    match b with
    | ⟨0, _⟩ => rfl
    | ⟨1, _⟩ => rfl
    | ⟨2, _⟩ => exact absurd rfl hb

/-- The same, the lanes given one by one. -/
theorem stack16 (f : Terms) {u0 u1 u2 u3 u4 u5 u6 u7 u8 u9 u10 u11 u12 u13 u14 u15 : S8192x8x1.Idx → EReal}
    (e0 : u0 = piece (f 0)) (e1 : u1 = piece (f 1)) (e2 : u2 = piece (f 2)) (e3 : u3 = piece (f 3)) (e4 : u4 = piece (f 4))
    (e5 : u5 = piece (f 5)) (e6 : u6 = piece (f 6)) (e7 : u7 = piece (f 7)) (e8 : u8 = piece (f 8)) (e9 : u9 = piece (f 9))
    (e10 : u10 = piece (f 10)) (e11 : u11 = piece (f 11)) (e12 : u12 = piece (f 12)) (e13 : u13 = piece (f 13))
    (e14 : u14 = piece (f 14)) (e15 : u15 = piece (f 15)) (hc) (r : Fin 8192) (h : Fin 8) (x : Fin 16) :
    concatenate S8192x8x16 2 [⟨S8192x8x1, u0⟩, ⟨S8192x8x1, u1⟩, ⟨S8192x8x1, u2⟩, ⟨S8192x8x1, u3⟩, ⟨S8192x8x1, u4⟩, ⟨S8192x8x1, u5⟩,
      ⟨S8192x8x1, u6⟩, ⟨S8192x8x1, u7⟩, ⟨S8192x8x1, u8⟩, ⟨S8192x8x1, u9⟩, ⟨S8192x8x1, u10⟩, ⟨S8192x8x1, u11⟩, ⟨S8192x8x1, u12⟩,
      ⟨S8192x8x1, u13⟩, ⟨S8192x8x1, u14⟩, ⟨S8192x8x1, u15⟩] hc (ix3 r h x) = f x (ix2 r h) := by
  subst e0 e1 e2 e3 e4 e5 e6 e7 e8 e9 e10 e11 e12 e13 e14 e15
  exact join16 f hc r h x

theorem after_append (a b : List (HloOp τ sig (Elt Ideal))) (W : Valuation τ sig (Elt Ideal)) :
    StableHlo.after (a ++ b) W = StableHlo.after b (StableHlo.after a W) := by
  induction a generalizing W with
  | nil => rfl
  | cons x xs ih => exact ih _

/-- The operations that build the four arguments out of the parts. -/
abbrev back : List (HloOp τ sig (Elt Ideal)) := line.drop 86

/-- Four joined stacks, the last three of one array. -/
theorem four {A0 A1 A2 A3 : S8192x8x16.Idx → EReal} (f : Terms) (z : FVec Ideal S8192x8 .f32) (r : Fin 8192) (h : Fin 8)
    (e0 : ∀ x, A0 (ix3 r h x) = f x (ix2 r h)) (e1 : ∀ x, A1 (ix3 r h x) = z (ix2 r h)) (e2 : ∀ x, A2 (ix3 r h x) = z (ix2 r h))
    (e3 : ∀ x, A3 (ix3 r h x) = z (ix2 r h)) (hc) (x : Fin 64) :
    concatenate S8192x8x64 2 [⟨S8192x8x16, A0⟩, ⟨S8192x8x16, A1⟩, ⟨S8192x8x16, A2⟩, ⟨S8192x8x16, A3⟩] hc (ix3 r h x) =
      if hx : x.val < 16 then f ⟨x.val, hx⟩ (ix2 r h) else z (ix2 r h) := by
  have hlt : x.val / 16 < 4 := by omega
  have key : concatenate S8192x8x64 2 (List.ofFn fun i : Fin 4 => ⟨S8192x8x16, (![A0, A1, A2, A3] : Fin 4 → S8192x8x16.Idx → EReal) i⟩) hc (ix3 r h x) =
      (![A0, A1, A2, A3] : Fin 4 → S8192x8x16.Idx → EReal) ⟨x.val / 16, hlt⟩ (ix3 r h ⟨x.val % 16, Nat.mod_lt _ (by norm_num : 0 < 16)⟩) := by
    refine concatenate_ofFn_apply 2 (fun i => (![A0, A1, A2, A3] : Fin 4 → S8192x8x16.Idx → EReal) i) hc rfl 16 rfl (ix3 r h x) ⟨x.val / 16, hlt⟩ rfl (ix3 r h ⟨x.val % 16, Nat.mod_lt _ (by norm_num : 0 < 16)⟩) rfl ?_
    intro b hb
    match b with
    | ⟨0, _⟩ => rfl
    | ⟨1, _⟩ => rfl
    | ⟨2, _⟩ => exact absurd rfl hb
  refine key.trans ?_
  split
  next hx =>
    have : (⟨x.val / 16, hlt⟩ : Fin 4) = 0 := Fin.ext (Nat.div_eq_of_lt hx)
    rw [this]
    refine (e0 _).trans ?_
    congr 2
    exact Nat.mod_eq_of_lt hx
  next hx =>
    rcases (by omega : x.val / 16 = 1 ∨ x.val / 16 = 2 ∨ x.val / 16 = 3) with e | e | e
    · rw [show (⟨x.val / 16, hlt⟩ : Fin 4) = 1 from Fin.ext e]
      exact e1 _
    · rw [show (⟨x.val / 16, hlt⟩ : Fin 4) = 2 from Fin.ext e]
      exact e2 _
    · rw [show (⟨x.val / 16, hlt⟩ : Fin 4) = 3 from Fin.ext e]
      exact e3 _

/-- Each head's data and terms side by side, as one array of rows. -/
def word (x : FVec Ideal S8192x512 .f32) (a : FVec Ideal S8192x8x64 .f32) : FVec Ideal S8192x1024 .bf16 :=
  truncf .bf16 (shapeCast S8192x1024 (concatenate S8192x8x128 2
    [⟨S8192x8x64, shapeCast S8192x8x64 x shapeCasts_S8192x512_S8192x8x64⟩, ⟨S8192x8x64, a⟩] concatenates_S8192x8x64_S8192x8x64_S8192x8x128_d2)
    shapeCasts_S8192x8x128_S8192x1024) bitsLt_bf16_f32

theorem word_apply (x : FVec Ideal S8192x512 .f32) (a : FVec Ideal S8192x8x64 .f32) (r : Fin 8192) (h : Fin 8) (l : Fin 128) :
    word x a (ix2 r ⟨128 * h.val + l.val, by omega⟩) =
      if hl : l.val < 64 then x (ix2 r ⟨64 * h.val + l.val, by omega⟩) else a (ix3 r h ⟨l.val - 64, by omega⟩) := by
  pointwise [word]
  simp only [mul_comm]

variable (V0 : Valuation τ sig (Elt Ideal))

/-- What a buffer holds when the call starts. -/
@[irreducible] def at0 (b : Ref sig .tc) := StableHlo.after line V0 (Proc.devRef .tc b)

/-- What the parts are built into, from any contents of the buffers. -/
abbrev out (V1 : Valuation τ sig (Elt Ideal)) (b : Ref sig .tc) := StableHlo.after back V1 (Proc.devRef .tc b)

theorem at0_eq (b : Ref sig .tc) : at0 V0 b = out (StableHlo.upto line V0 86) b := by
  unfold at0 out
  conv_lhs => rw [← List.take_append_drop 86 line]
  exact congrFun (after_append _ _ _) _

section
variable (V1 : Valuation τ sig (Elt Ideal))

theorem queries_terms (r : Fin 8192) (h : Fin 8) (x : Fin 64) : out V1 main_v145 (ix3 r h x) =
    if hx : x.val < 16 then (![out V1 main_v48, out V1 main_v49, out V1 main_v50, out V1 main_v39, out V1 main_v39, out V1 main_v39, out V1 main_v59, out V1 main_v60, out V1 main_v61, out V1 main_v76, out V1 main_v76, out V1 main_v76, out V1 main_v76, out V1 main_v76, out V1 main_v76, out V1 main_v76] : Terms) ⟨x.val, hx⟩ (ix2 r h)
      else out V1 main_v76 (ix2 r h) := by
  after_reads_simp
  refine four _ _ r h (fun x => (congrFun (StableHlo.nary_result' ..) _).trans (stack16 _ ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x)) _ x
  all_goals
    after_reads_simp
    refine (StableHlo.unary_result' ..).trans (congrArg piece ?_)
    after_reads_simp <;> rfl

theorem keys_terms (r : Fin 8192) (h : Fin 8) (x : Fin 64) : out V1 main_v222 (ix3 r h x) =
    if hx : x.val < 16 then (![out V1 main_v39, out V1 main_v39, out V1 main_v39, out V1 main_v149, out V1 main_v150, out V1 main_v151, out V1 main_v39, out V1 main_v39, out V1 main_v39, out V1 main_v153, out V1 main_v153, out V1 main_v153, out V1 main_v153, out V1 main_v153, out V1 main_v153, out V1 main_v153] : Terms) ⟨x.val, hx⟩ (ix2 r h)
      else out V1 main_v153 (ix2 r h) := by
  after_reads_simp
  refine four _ _ r h (fun x => (congrFun (StableHlo.nary_result' ..) _).trans (stack16 _ ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x)) _ x
  all_goals
    after_reads_simp
    refine (StableHlo.unary_result' ..).trans (congrArg piece ?_)
    after_reads_simp <;> rfl

theorem values_terms (r : Fin 8192) (h : Fin 8) (x : Fin 64) : out V1 main_v296 (ix3 r h x) =
    if hx : x.val < 16 then (![out V1 main_v39, out V1 main_v39, out V1 main_v39, out V1 main_v227, out V1 main_v227, out V1 main_v227, out V1 main_v227, out V1 main_v227, out V1 main_v227, out V1 main_v227, out V1 main_v227, out V1 main_v227, out V1 main_v227, out V1 main_v227, out V1 main_v227, out V1 main_v227] : Terms) ⟨x.val, hx⟩ (ix2 r h)
      else out V1 main_v227 (ix2 r h) := by
  after_reads_simp
  refine four _ _ r h (fun x => (congrFun (StableHlo.nary_result' ..) _).trans (stack16 _ ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x)) _ x
  all_goals
    after_reads_simp
    refine (StableHlo.unary_result' ..).trans (congrArg piece ?_)
    after_reads_simp <;> rfl

theorem cotangents_terms (r : Fin 8192) (h : Fin 8) (x : Fin 64) : out V1 main_v370 (ix3 r h x) =
    if hx : x.val < 16 then (![out V1 main_v70, out V1 main_v71, out V1 main_v72, out V1 main_v301, out V1 main_v301, out V1 main_v301, out V1 main_v301, out V1 main_v301, out V1 main_v301, out V1 main_v301, out V1 main_v301, out V1 main_v301, out V1 main_v301, out V1 main_v301, out V1 main_v301, out V1 main_v301] : Terms) ⟨x.val, hx⟩ (ix2 r h)
      else out V1 main_v301 (ix2 r h) := by
  after_reads_simp
  refine four _ _ r h (fun x => (congrFun (StableHlo.nary_result' ..) _).trans (stack16 _ ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x))
    (fun x => (congrFun (StableHlo.nary_result' ..) _).trans (stack16 (fun _ => _) ?_ ?_ ?_ ?_ ?_ ?_ ?_ ?_ ?_ ?_ ?_ ?_ ?_ ?_ ?_ ?_ _ r h x)) _ x
  all_goals
    after_reads_simp
    refine (StableHlo.unary_result' ..).trans (congrArg piece ?_)
    after_reads_simp <;> rfl

theorem cut (k : ℕ) (b : Ref sig .tc) :
    out V1 b = StableHlo.after (back.drop k) (StableHlo.upto back V1 k) (Proc.devRef .tc b) := by
  unfold out
  conv_lhs => rw [← List.take_append_drop k back]
  exact congrFun (after_append _ _ _) _

/-- A word of lanes from its two halves. -/
def halves (x a : FVec Ideal S8192x8x64 .f32) : FVec Ideal S8192x1024 .bf16 :=
  truncf .bf16 (shapeCast S8192x1024 (concatenate S8192x8x128 2
    [⟨S8192x8x64, x⟩, ⟨S8192x8x64, a⟩] concatenates_S8192x8x64_S8192x8x64_S8192x8x128_d2)
    shapeCasts_S8192x8x128_S8192x1024) bitsLt_bf16_f32

theorem queries_word : out V1 main_v148 = word (out V1 main_v74) (out V1 main_v145) := by
  have e : StableHlo.upto back V1 72 (Proc.devRef .tc main_v75) =
      shapeCast S8192x8x64 (StableHlo.upto back V1 72 (Proc.devRef .tc main_v74)) shapeCasts_S8192x512_S8192x8x64 := by
    after_reads_simp
    rfl
  rw [cut V1 72 main_v148, cut V1 72 main_v74, cut V1 72 main_v145]
  generalize StableHlo.upto back V1 72 = V2 at e ⊢
  have o : StableHlo.after (back.drop 72) V2 (Proc.devRef .tc main_v148) =
      halves (V2 (Proc.devRef .tc main_v75)) (V2 (Proc.devRef .tc main_v145)) := by
    after_reads_simp
    rfl
  rw [o, e]
  after_reads_simp
  rfl

theorem keys_word : out V1 main_v225 = word (out V1 main_arg1) (out V1 main_v222) := by
  have e : StableHlo.upto back V1 150 (Proc.devRef .tc main_v152) =
      shapeCast S8192x8x64 (StableHlo.upto back V1 150 (Proc.devRef .tc main_arg1)) shapeCasts_S8192x512_S8192x8x64 := by
    after_reads_simp
    rfl
  rw [cut V1 150 main_v225, cut V1 150 main_arg1, cut V1 150 main_v222]
  generalize StableHlo.upto back V1 150 = V2 at e ⊢
  have o : StableHlo.after (back.drop 150) V2 (Proc.devRef .tc main_v225) =
      halves (V2 (Proc.devRef .tc main_v152)) (V2 (Proc.devRef .tc main_v222)) := by
    after_reads_simp
    rfl
  rw [o, e]
  after_reads_simp
  rfl

theorem values_word : out V1 main_v299 = word (out V1 main_arg2) (out V1 main_v296) := by
  have e : StableHlo.upto back V1 225 (Proc.devRef .tc main_v226) =
      shapeCast S8192x8x64 (StableHlo.upto back V1 225 (Proc.devRef .tc main_arg2)) shapeCasts_S8192x512_S8192x8x64 := by
    after_reads_simp
    rfl
  rw [cut V1 225 main_v299, cut V1 225 main_arg2, cut V1 225 main_v296]
  generalize StableHlo.upto back V1 225 = V2 at e ⊢
  have o : StableHlo.after (back.drop 225) V2 (Proc.devRef .tc main_v299) =
      halves (V2 (Proc.devRef .tc main_v226)) (V2 (Proc.devRef .tc main_v296)) := by
    after_reads_simp
    rfl
  rw [o, e]
  after_reads_simp
  rfl

theorem cotangents_word : out V1 main_v373 = word (out V1 main_arg4) (out V1 main_v370) := by
  have e : StableHlo.upto back V1 300 (Proc.devRef .tc main_v300) =
      shapeCast S8192x8x64 (StableHlo.upto back V1 300 (Proc.devRef .tc main_arg4)) shapeCasts_S8192x512_S8192x8x64 := by
    after_reads_simp
    rfl
  rw [cut V1 300 main_v373, cut V1 300 main_arg4, cut V1 300 main_v370]
  generalize StableHlo.upto back V1 300 = V2 at e ⊢
  have o : StableHlo.after (back.drop 300) V2 (Proc.devRef .tc main_v373) =
      halves (V2 (Proc.devRef .tc main_v300)) (V2 (Proc.devRef .tc main_v370)) := by
    after_reads_simp
    rfl
  rw [o, e]
  after_reads_simp
  rfl

end

theorem at_queries (r : Fin 8192) (h : Fin 8) (l : Fin 128) : at0 V0 main_v148 (ix2 r ⟨128 * h.val + l.val, by omega⟩) =
    if hl : l.val < 64 then at0 V0 main_v74 (ix2 r ⟨64 * h.val + l.val, by omega⟩) else
    if hx : l.val - 64 < 16 then (![at0 V0 main_v48, at0 V0 main_v49, at0 V0 main_v50, at0 V0 main_v39, at0 V0 main_v39, at0 V0 main_v39, at0 V0 main_v59, at0 V0 main_v60, at0 V0 main_v61, at0 V0 main_v76, at0 V0 main_v76, at0 V0 main_v76, at0 V0 main_v76, at0 V0 main_v76, at0 V0 main_v76, at0 V0 main_v76] : Terms) ⟨l.val - 64, hx⟩ (ix2 r h)
      else at0 V0 main_v76 (ix2 r h) := by
  simp only [at0_eq]
  rw [queries_word]
  refine (word_apply _ _ r h l).trans ?_
  split
  · rfl
  · exact queries_terms _ r h ⟨l.val - 64, by omega⟩

theorem at_keys (r : Fin 8192) (h : Fin 8) (l : Fin 128) : at0 V0 main_v225 (ix2 r ⟨128 * h.val + l.val, by omega⟩) =
    if hl : l.val < 64 then at0 V0 main_arg1 (ix2 r ⟨64 * h.val + l.val, by omega⟩) else
    if hx : l.val - 64 < 16 then (![at0 V0 main_v39, at0 V0 main_v39, at0 V0 main_v39, at0 V0 main_v149, at0 V0 main_v150, at0 V0 main_v151, at0 V0 main_v39, at0 V0 main_v39, at0 V0 main_v39, at0 V0 main_v153, at0 V0 main_v153, at0 V0 main_v153, at0 V0 main_v153, at0 V0 main_v153, at0 V0 main_v153, at0 V0 main_v153] : Terms) ⟨l.val - 64, hx⟩ (ix2 r h)
      else at0 V0 main_v153 (ix2 r h) := by
  simp only [at0_eq]
  rw [keys_word]
  refine (word_apply _ _ r h l).trans ?_
  split
  · rfl
  · exact keys_terms _ r h ⟨l.val - 64, by omega⟩

theorem at_values (r : Fin 8192) (h : Fin 8) (l : Fin 128) : at0 V0 main_v299 (ix2 r ⟨128 * h.val + l.val, by omega⟩) =
    if hl : l.val < 64 then at0 V0 main_arg2 (ix2 r ⟨64 * h.val + l.val, by omega⟩) else
    if hx : l.val - 64 < 16 then (![at0 V0 main_v39, at0 V0 main_v39, at0 V0 main_v39, at0 V0 main_v227, at0 V0 main_v227, at0 V0 main_v227, at0 V0 main_v227, at0 V0 main_v227, at0 V0 main_v227, at0 V0 main_v227, at0 V0 main_v227, at0 V0 main_v227, at0 V0 main_v227, at0 V0 main_v227, at0 V0 main_v227, at0 V0 main_v227] : Terms) ⟨l.val - 64, hx⟩ (ix2 r h)
      else at0 V0 main_v227 (ix2 r h) := by
  simp only [at0_eq]
  rw [values_word]
  refine (word_apply _ _ r h l).trans ?_
  split
  · rfl
  · exact values_terms _ r h ⟨l.val - 64, by omega⟩

theorem at_cotangents (r : Fin 8192) (h : Fin 8) (l : Fin 128) : at0 V0 main_v373 (ix2 r ⟨128 * h.val + l.val, by omega⟩) =
    if hl : l.val < 64 then at0 V0 main_arg4 (ix2 r ⟨64 * h.val + l.val, by omega⟩) else
    if hx : l.val - 64 < 16 then (![at0 V0 main_v70, at0 V0 main_v71, at0 V0 main_v72, at0 V0 main_v301, at0 V0 main_v301, at0 V0 main_v301, at0 V0 main_v301, at0 V0 main_v301, at0 V0 main_v301, at0 V0 main_v301, at0 V0 main_v301, at0 V0 main_v301, at0 V0 main_v301, at0 V0 main_v301, at0 V0 main_v301, at0 V0 main_v301] : Terms) ⟨l.val - 64, hx⟩ (ix2 r h)
      else at0 V0 main_v301 (ix2 r h) := by
  simp only [at0_eq]
  rw [cotangents_word]
  refine (word_apply _ _ r h l).trans ?_
  split
  · rfl
  · exact cotangents_terms _ r h ⟨l.val - 64, by omega⟩

end Cert.Proof.Stacks
-- ==== Proof.Ref.lean ====
/-
  The reference's backward pass read at an index: the gradients that `jax.vjp` composes from the probabilities, as the
  real numbers of `Spec`.
-/
module

public import proofs.«01_k».proof.Proof.Soft

@[expose] public section

set_option maxRecDepth 16384

noncomputable section

namespace Cert.Proof.Soft

open Cert.ReferenceIdeal Cert.ReferenceIdeal.Gen Cert.Proof.Spec
open Idealize.ShloMosaic

variable {q k v d : Wide} {c : Gate} (R : Reals)

/-- The gradients at the probabilities. -/
def gradT (d v : Wide) : Sq := Host.dotGeneral dot_S8x64x8192_S8192x8x64_S8x8192x8192_1_2_2_0_0_1 none (transpose S8x64x8192 [1, 2, 0] (heads d) transposes_S8192x8x64_S8x64x8192_1_2_0) (heads v)

theorem gradT_holds (hd : Holds d R.D) (hv : Holds v R.W) : Holds3 (gradT d v) (grad R) := by
  intro h i j
  pointwise [gradT]
  simp only [heads_apply, hd _ _, hv _ _, grad, ← EReal.coe_mul, ← coe_sum]

def col (l : Rows) : FVec Ideal S8x8192x1 .f32 := broadcastInDim S8x8192x1 ![0, 1] bcast_S8x8192_S8x8192x1_0_1 l
def invSq (l : Rows) : FVec Ideal S8x8192x1 .f32 := Host.divf (broadcastInDim S8x8192x1 ![] bcast_S_S8x8192x1 (constant S_ .f32 0x3F800000#32)) (mulf (col l) (col l))
def part (g e : Sq) (l : Rows) : Sq := mulf (mulf g (broadcastInDim S8x8192x8192 ![0, 1, 2] bcast_S8x8192x1_S8x8192x8192_0_1_2 (invSq l))) e

theorem part_holds {g e : Sq} {l : Rows} {G E : ℕ → ℕ → ℕ → ℝ} {L : ℕ → ℕ → ℝ} (hg : Holds3 g G) (he : Holds3 e E) (hl : Holds l L)
    (h0 : ∀ h i, i < 8192 → L h i ≠ 0) : Holds3 (part g e l) fun h i j => G h i j * (1 / (L h i * L h i)) * E h i j := by
  intro h i j
  pointwise [part, invSq, col]
  rw [hg h i j, he h i j, hl h i, ← EReal.coe_mul, Ideal.div_coe (mul_ne_zero (h0 _ _ i.isLt) (h0 _ _ i.isLt))]
  simp only [Ideal.ofBits_one_f32, one_mul, ← EReal.coe_mul]

/-- A sum over an axis of one entry. -/
def unitSum (x : Rows) : Rows := Host.reduceAdd (Host.negf (shapeCast S8x8192x1 x shapeCasts_S8x8192_S8x8192x1)) (constant S_ .f32 0x00000000#32) reducesTo_S8x8192x1_S8x8192_d2 h_S_

theorem unitSum_apply (x : Rows) (h : Fin 8) (i : Fin 8192) : unitSum x (ix2 h i) = -x (ix2 h i) := by
  pointwise [unitSum]
  exact Fin.sum_univ_one _

def spread (x : Rows) : Sq := broadcastInDim S8x8192x8192 ![0, 1] bcast_S8x8192_S8x8192x8192_0_1 x

/-- The gradients at the logits. -/
def slopeT (g e : Sq) (l : Rows) : Sq :=
  select keep (mulf (addf (Host.divf g (rows l)) (spread (unitSum (tot (part g e l))))) e)
    (broadcastInDim S8x8192x8192 ![] bcast_S_S8x8192x8192 (constant S_ .f32 0x00000000#32))

theorem slopeT_holds {g e : Sq} {l : Rows} {G E : ℕ → ℕ → ℕ → ℝ} {L : ℕ → ℕ → ℝ} (hg : Holds3 g G) (he : Holds3 e E) (hl : Holds l L)
    (h0 : ∀ h i, i < 8192 → L h i ≠ 0) : Holds3 (slopeT g e l) fun h i j =>
      if j ≤ i then (G h i j / L h i + -∑ k : Fin 8192, G h i k.val * (1 / (L h i * L h i)) * E h i k.val) * E h i j else 0 := by
  intro h i j
  have hs := tot_holds (part_holds hg he hl h0) h i
  pointwise [slopeT, keep, rows, spread]
  rw [select_le, unitSum_apply, hs, hg h i j, he h i j, hl h i, Ideal.div_coe (h0 _ _ i.isLt)]
  split
  · rw [← EReal.coe_mul, ← EReal.coe_neg, ← EReal.coe_add, ← EReal.coe_mul, mul_one_div]
  · rfl

def dvT (d : Wide) (p : Sq) : FVec Ideal S8192x512 .bf16 := truncf .bf16 (shapeCast S8192x512 (transpose S8192x8x64 [2, 0, 1] (Host.dotGeneral dot_S8x64x8192_S8x8192x8192_S8x64x8192_2_1_1_2_0_0 none (transpose S8x64x8192 [1, 2, 0] (heads d) transposes_S8192x8x64_S8x64x8192_1_2_0) p) transposes_S8x64x8192_S8192x8x64_2_0_1) shapeCasts_S8192x8x64_S8192x512) bitsLt_bf16_f32

theorem dvT_apply {p : Sq} {P : ℕ → ℕ → ℕ → ℝ} (hd : Holds d R.D) (hp : Holds3 p P) (r : Fin 8192) (h : Fin 8) (x : Fin 64) :
   dvT d p (ix2 r ⟨64 * h.val + x.val, by omega⟩) = ((∑ i : Fin 8192, P h.val i.val r.val * R.D i.val (64 * h.val + x.val) : ℝ) : EReal) := by
  pointwise [dvT]
  simp only [heads_apply, hd _ _, hp _ _ _, ← EReal.coe_mul, ← coe_sum, mul_comm]

def eighths (s : Sq) : Sq := mulf s (broadcastInDim S8x8192x8192 ![] bcast_S_S8x8192x8192 (constant S_ .f32 0x3E000000#32))

theorem eighths_holds {s : Sq} {S : ℕ → ℕ → ℕ → ℝ} (hs : Holds3 s S) : Holds3 (eighths s) fun h i j => S h i j * 0.125 := by
  intro h i j
  pointwise [eighths]
  rw [hs h i j, eighth, ← EReal.coe_mul]

def joined (x : FVec Ideal S8x8192x64 .f32) : FVec Ideal S8192x512 .bf16 := truncf .bf16 (shapeCast S8192x512 (transpose S8192x8x64 [1, 0, 2] x transposes_S8x8192x64_S8192x8x64_1_0_2) shapeCasts_S8192x8x64_S8192x512) bitsLt_bf16_f32

def dkT (q : Wide) (s : Sq) : FVec Ideal S8192x512 .bf16 := joined (Host.dotGeneral dot_S8x8192x8192_S8192x8x64_S8x8192x64_1_0_2_2_0_1 none s (heads q))
def dqT (k : Wide) (s : Sq) : FVec Ideal S8192x512 .bf16 := joined (Host.dotGeneral dot_S8x8192x8192_S8192x8x64_S8x8192x64_2_0_1_2_0_1 none s (heads k))

theorem dkT_apply {s : Sq} {S : ℕ → ℕ → ℕ → ℝ} (hq : Holds q R.Q) (hs : Holds3 s S) (r : Fin 8192) (h : Fin 8) (x : Fin 64) :
   dkT q s (ix2 r ⟨64 * h.val + x.val, by omega⟩) = ((∑ i : Fin 8192, S h.val i.val r.val * R.Q i.val (64 * h.val + x.val) : ℝ) : EReal) := by
  pointwise [dkT, joined]
  simp only [heads_apply, hq _ _, hs _ _ _, ← EReal.coe_mul, ← coe_sum]

theorem dqT_apply {s : Sq} {S : ℕ → ℕ → ℕ → ℝ} (hk : Holds k R.K) (hs : Holds3 s S) (r : Fin 8192) (h : Fin 8) (x : Fin 64) :
   dqT k s (ix2 r ⟨64 * h.val + x.val, by omega⟩) = ((∑ j : Fin 8192, S h.val r.val j.val * R.K j.val (64 * h.val + x.val) : ℝ) : EReal) := by
  pointwise [dqT, joined]
  simp only [heads_apply, hk _ _, hs _ _ _, ← EReal.coe_mul, ← coe_sum]

def cqT (s : Sq) : Gate := transpose S8192x8 [1, 0] (Host.reduceAdd (shapeCast S8x8192x1 (tot s) shapeCasts_S8x8192_S8x8192x1) (constant S_ .f32 0x00000000#32) reducesTo_S8x8192x1_S8x8192_d2 h_S_) transposes_S8x8192_S8192x8_1_0

theorem cqT_holds {s : Sq} {S : ℕ → ℕ → ℕ → ℝ} (hs : Holds3 s S) : Holds (cqT s) fun i h => ∑ j : Fin 8192, S h i j.val := by
  intro i h
  have := tot_holds hs h i
  pointwise [cqT]
  exact (Fin.sum_univ_one _).trans this

def sumQ (s : Sq) : Rows := Host.reduceAdd s (constant S_ .f32 0x00000000#32) reducesTo_S8x8192x8192_S8x8192_d1 h_S_

def ckT (s : Sq) : Gate := transpose S8192x8 [1, 0] (Host.reduceAdd (shapeCast S8x1x8192 (sumQ (Host.negf s)) shapeCasts_S8x8192_S8x1x8192) (constant S_ .f32 0x00000000#32) reducesTo_S8x1x8192_S8x8192_d1 h_S_) transposes_S8x8192_S8192x8_1_0

theorem sumQ_holds {s : Sq} {S : ℕ → ℕ → ℕ → ℝ} (hs : Holds3 s S) : Holds (sumQ (Host.negf s)) fun h j => -∑ i : Fin 8192, S h i.val j := by
  intro h j
  pointwise [sumQ]
  simp only [hs _ _ _, ← EReal.coe_neg, ← coe_sum, Finset.sum_neg_distrib]

theorem ckT_holds {s : Sq} {S : ℕ → ℕ → ℕ → ℝ} (hs : Holds3 s S) : Holds (ckT s) fun j h => -∑ i : Fin 8192, S h i.val j := by
  intro j h
  have := sumQ_holds hs h j
  pointwise [ckT]
  exact (Fin.sum_univ_one _).trans this

/-! ## The slabs of the gate gradients -/

def two : IVec S_ 32 := id (constantI S_ 32 2#32)
def lane : IVec S4x8192x128 32 := iotaInDim S4x8192x128 32 2
def twos : IVec S4x8192x128 32 := broadcastInDim S4x8192x128 ![] bcast_S_S4x8192x128 two

/-- Half of a lane's number, rounded down. -/
def half : IVec S4x8192x128 32 :=
  select (andi (cmpi .ne (signi lane) (broadcastInDim S4x8192x128 ![] bcast_S_S4x8192x128 (signi two))) (cmpi .ne (Host.remsi lane twos) (broadcastInDim S4x8192x128 ![] bcast_S_S4x8192x128 (constantI S_ 32 0#32)))) (subi (Host.divsi lane twos) (broadcastInDim S4x8192x128 ![] bcast_S_S4x8192x128 (constantI S_ 32 1#32))) (Host.divsi lane twos)

def padded (x : Gate) : FVec Ideal S8192x128 .f32 := pad S8192x128 ![0, 0] ![0, 120] ![0, 0] x (sitofp (F := Ideal) .f32 (constantI S_ 32 0#32)) pads_S8192x8_S8192x128_000_01200 h_S_

def slab (x : Gate) : FVec Ideal S4x8192x128 .f32 :=
  select (cmpi .eq half (iotaInDim S4x8192x128 32 0)) (broadcastInDim S4x8192x128 ![0, 1, 2] bcast_S1x8192x128_S4x8192x128_0_1_2 (broadcastInDim S1x8192x128 ![1, 2] bcast_S8192x128_S1x8192x128_1_2 (padded x))) (broadcastInDim S4x8192x128 ![] bcast_S_S4x8192x128 (id (constant S_ .f32 0x00000000#32)))

/-- Rounding down half of a lane's number, compared with a pair's number. -/
theorem half_bit : ∀ (p : Fin 4) (l : Fin 128),
    IntOp.cmpi CmpIPredicate.eq
      (Scalar.select
        (IntOp.andi
          (IntOp.cmpi CmpIPredicate.ne
            (if BitVec.ofNat 32 l.val = 0 then (0 : BitVec 32) else if (BitVec.ofNat 32 l.val).msb = true then -1 else 1)
            (if 2#32 = 0 then (0 : BitVec 32) else if (2#32).msb = true then -1 else 1))
          (IntOp.cmpi CmpIPredicate.ne (IntOp.remsi ArithUnit.host (BitVec.ofNat 32 l.val) 2#32) 0#32))
        (IntOp.subi (IntOp.divsi ArithUnit.host (BitVec.ofNat 32 l.val) 2#32) 1#32)
        (IntOp.divsi ArithUnit.host (BitVec.ofNat 32 l.val) 2#32))
      (BitVec.ofNat 32 p.val) = if l.val / 2 = p.val then 1#1 else 0#1 := by
  decide +kernel

theorem slab_apply (x : Gate) (p : Fin 4) (r : Fin 8192) (l : Fin 128) :
    slab x (ix3 p r l) = if h : l.val / 2 = p.val then x (ix2 r ⟨l.val, by omega⟩) else 0 := by
  pointwise [slab, half, lane, twos, two, padded]
  refine (congrArg (fun b => Scalar.select b _ _) (half_bit p l)).trans ?_
  by_cases h : l.val / 2 = p.val
  · rw [if_pos h, dif_pos h]
    exact dif_pos (by omega)
  · rw [if_neg h, dif_neg h]
    exact Ideal.ofBits_zero_f32

/-! ## The results -/

variable (R : Reals)

def maxT (q k : Wide) (c : Gate) : Rows := top (masked (logits q k c))
def expT (q k : Wide) (c : Gate) : Sq := expo (logits q k c) (maxT q k c)
def sumT (q k : Wide) (c : Gate) : Rows := tot (expT q k c)
def probT (q k : Wide) (c : Gate) : Sq := ratio (expT q k c) (sumT q k c)
def backT (q k v d : Wide) (c : Gate) : Sq := slopeT (gradT d v) (expT q k c) (sumT q k c)

theorem maxT_holds (hq : Holds q R.Q) (hk : Holds k R.K) (hc : Holds c R.C) : ∃ M : ℕ → ℕ → ℝ, Holds (maxT q k c) M := by
  choose μ hμ using peak_real (logits_holds R hq hk hc)
  refine ⟨fun h i => if hh : h < 8 ∧ i < 8192 then μ ⟨h, hh.1⟩ ⟨i, hh.2⟩ else 0, fun h i => ?_⟩
  dsimp only
  rw [dif_pos ⟨h.isLt, i.isLt⟩, ← hμ]
  exact top_apply _ h i

theorem shifted_pos (h i : ℕ) (hi : i < 8192) (μ : ℝ) :
    (∑ j : Fin 8192, if j.val ≤ i then Real.exp (score R h i j.val - μ) else 0) ≠ 0 := by
  refine (Finset.sum_pos' (fun j _ => ?_) ⟨⟨i, hi⟩, Finset.mem_univ _, ?_⟩).ne'
  · split
    · exact (Real.exp_pos _).le
    · exact le_rfl
  · rw [if_pos (le_refl i)]
    exact Real.exp_pos _

theorem probT_holds (hq : Holds q R.Q) (hk : Holds k R.K) (hc : Holds c R.C) : Holds3 (probT q k c) (prob R) := by
  obtain ⟨M, hM⟩ := maxT_holds R hq hk hc
  have he := expo_holds (logits_holds R hq hk hc) hM
  intro h i j
  refine (ratio_holds he (tot_holds he) (fun h i hi => shifted_pos R h i hi _) h i j).trans ?_
  exact congrArg _ (prob_shift R h.val i.val j.val i.isLt _)

theorem backT_holds (hq : Holds q R.Q) (hk : Holds k R.K) (hv : Holds v R.W) (hd : Holds d R.D) (hc : Holds c R.C) :
    Holds3 (backT q k v d c) (slope R) := by
  obtain ⟨M, hM⟩ := maxT_holds R hq hk hc
  have he := expo_holds (logits_holds R hq hk hc) hM
  intro h i j
  refine (slopeT_holds (gradT_holds R hd hv) he (tot_holds he) (fun h i hi => shifted_pos R h i hi _) h i j).trans ?_
  refine congrArg _ ?_
  have hp := fun j => prob_shift R h.val i.val j i.isLt (M h.val i.val)
  have hn := shifted_pos R h.val i.val i.isLt (M h.val i.val)
  dsimp only
  generalize (∑ j : Fin 8192, if j.val ≤ i.val then Real.exp (score R h.val i.val j.val - M h.val i.val) else 0) = L at hp hn ⊢
  rw [Spec.slope, delta, ← hp j.val]
  have hsum : ∑ k : Fin 8192, grad R h i k * (1 / (L * L)) * (if k.val ≤ i.val then Real.exp (score R h i k - M h i) else 0) =
      (∑ k : Fin 8192, prob R h i k * grad R h i k) / L := by
    rw [Finset.sum_div]
    refine Finset.sum_congr rfl fun k _ => ?_
    rw [← hp k.val]
    field_simp
  rw [hsum]
  split
  · field_simp
    ring
  · rw [zero_div, zero_mul]

variable (m : (ℓ : Loc nD τ sig) → Buf (Elt Ideal) ℓ) (a : Dev nD)

theorem out0_eq : Value.res_out0 m a = dqT (m ((a.tc : Thread nD τ).loc main_arg1)) (eighths (backT (m ((a.tc : Thread nD τ).loc main_arg0)) (m ((a.tc : Thread nD τ).loc main_arg1)) (m ((a.tc : Thread nD τ).loc main_arg2)) (m ((a.tc : Thread nD τ).loc main_arg4)) (m ((a.tc : Thread nD τ).loc main_arg3)))) := rfl
theorem out1_eq : Value.res_out1 m a = dkT (m ((a.tc : Thread nD τ).loc main_arg0)) (eighths (backT (m ((a.tc : Thread nD τ).loc main_arg0)) (m ((a.tc : Thread nD τ).loc main_arg1)) (m ((a.tc : Thread nD τ).loc main_arg2)) (m ((a.tc : Thread nD τ).loc main_arg4)) (m ((a.tc : Thread nD τ).loc main_arg3)))) := rfl
theorem out2_eq : Value.res_out2 m a = dvT (m ((a.tc : Thread nD τ).loc main_arg4)) (probT (m ((a.tc : Thread nD τ).loc main_arg0)) (m ((a.tc : Thread nD τ).loc main_arg1)) (m ((a.tc : Thread nD τ).loc main_arg3))) := rfl
theorem out3_eq : Value.res_out3 m a = slab (cqT (backT (m ((a.tc : Thread nD τ).loc main_arg0)) (m ((a.tc : Thread nD τ).loc main_arg1)) (m ((a.tc : Thread nD τ).loc main_arg2)) (m ((a.tc : Thread nD τ).loc main_arg4)) (m ((a.tc : Thread nD τ).loc main_arg3)))) := rfl
theorem out4_eq : Value.res_out4 m a = slab (ckT (backT (m ((a.tc : Thread nD τ).loc main_arg0)) (m ((a.tc : Thread nD τ).loc main_arg1)) (m ((a.tc : Thread nD τ).loc main_arg2)) (m ((a.tc : Thread nD τ).loc main_arg4)) (m ((a.tc : Thread nD τ).loc main_arg3)))) := rfl

end Cert.Proof.Soft
-- ==== Proof.Args.lean ====
/-
  What the host program hands the kernel, as real numbers: each head's sixty-four lanes of data and, beside them, the
  lanes of terms whose products add the gates, the logarithms of the sums and the means to the dot products.
-/
module

public import proofs.«01_k».proof.Proof.Stacks
public import proofs.«01_k».proof.Proof.Ref

@[expose] public section

set_option maxRecDepth 16384

noncomputable section

namespace Cert.Proof.Args

open Cert.KernelIdeal Cert.KernelIdeal.Gen Cert.Proof.Spec Cert.Proof.Soft Cert.Proof.Stacks
open Idealize.ShloMosaic Idealize.ShloMosaic.TcCoe

/-! ## Three parts of a number -/

def hi (x : Gate) : Gate := extf .f32 (truncf .bf16 x bitsLt_bf16_f32) bitsLt_bf16_f32
def mid (x : Gate) : Gate := hi (subf x (hi x))
def lo (x : Gate) : Gate := hi (subf (subf x (hi x)) (hi (subf x (hi x))))

theorem hi_holds {x : Gate} {X : ℕ → ℕ → ℝ} (hx : Holds x X) : Holds (hi x) X := by
  intro r h
  pointwise [hi]
  exact hx r h

theorem mid_holds {x : Gate} {X : ℕ → ℕ → ℝ} (hx : Holds x X) : Holds (mid x) fun _ _ => 0 := by
  intro r h
  pointwise [mid, hi]
  rw [hx r h, ← EReal.coe_sub, sub_self]

theorem lo_holds {x : Gate} {X : ℕ → ℕ → ℝ} (hx : Holds x X) : Holds (lo x) fun _ _ => 0 := by
  intro r h
  pointwise [lo, hi]
  rw [hx r h, ← EReal.coe_sub, sub_self, ← EReal.coe_sub, sub_self]

/-! ## The logarithms of the sums and the means -/

def lseT (m l : Rows) : Gate :=
  transpose S8192x8 [1, 0] (shapeCast S8x8192 (addf (broadcastInDim S8x8192x1 ![0, 1] bcast_S8x8192_S8x8192x1_0_1 m)
    (Host.log (broadcastInDim S8x8192x1 ![0, 1] bcast_S8x8192_S8x8192x1_0_1 l))) shapeCasts_S8x8192x1_S8x8192) transposes_S8x8192_S8192x8_1_0

theorem lseT_holds {m l : Rows} {M L : ℕ → ℕ → ℝ} (hm : Holds m M) (hl : Holds l L) (h0 : ∀ h i, i < 8192 → 0 < L h i) :
    Holds (lseT m l) fun i h => M h i + Real.log (L h i) := by
  intro i h
  pointwise [lseT]
  rw [hm h i, hl h i, Ideal.log_coe, if_neg (not_le.2 (h0 _ _ i.isLt)), ← EReal.coe_add]

def meanT (v d : Wide) (p : Sq) : Gate :=
  Host.reduceAdd (mulf (transpose S8192x8x64 [2, 0, 1] (Host.dotGeneral dot_S8192x8x64_S8x8192x8192_S8x64x8192_0_2_2_1_1_0 none (heads v) p)
    transposes_S8x64x8192_S8192x8x64_2_0_1) (heads d)) (constant S_ .f32 0x00000000#32) reducesTo_S8192x8x64_S8192x8_d2 h_S_

variable (R : Reals) {q k v d : Wide} {c : Gate}

theorem meanT_holds {p : Sq} (hv : Holds v R.W) (hd : Holds d R.D) (hp : Holds3 p (prob R)) :
    Holds (meanT v d p) fun i h => delta R h i := by
  intro i h
  pointwise [meanT]
  simp only [heads_apply, hd _ _, hv _ _, hp _ _ _, ← EReal.coe_mul, ← coe_sum]
  congr 1
  simp only [delta, grad, Finset.mul_sum, Finset.sum_mul]
  rw [Finset.sum_comm]
  refine Finset.sum_congr rfl fun j _ => Finset.sum_congr rfl fun x _ => ?_
  ring

def pk (q k : Wide) (c : Gate) : Rows := peak (masked (logits q k c))
def ex (q k : Wide) (c : Gate) : Sq := expo (logits q k c) (pk q k c)

variable (V0 : Valuation τ sig (Elt Ideal))

abbrev qA : Wide := V0 (Proc.devRef .tc main_arg0)
abbrev kA : Wide := V0 (Proc.devRef .tc main_arg1)
abbrev vA : Wide := V0 (Proc.devRef .tc main_arg2)
abbrev cA : Gate := V0 (Proc.devRef .tc main_arg3)
abbrev dA : Wide := V0 (Proc.devRef .tc main_arg4)

theorem at_v36 : at0 V0 main_v36 = lseT (pk (qA V0) (kA V0) (cA V0)) (tot (ex (qA V0) (kA V0) (cA V0))) := by
  unfold at0
  after_reads_simp
  rfl

theorem at_v38 : at0 V0 main_v38 = meanT (vA V0) (dA V0) (ratio (ex (qA V0) (kA V0) (cA V0)) (tot (ex (qA V0) (kA V0) (cA V0)))) := by
  unfold at0
  after_reads_simp
  rfl

def neg (x : Gate) : Gate := Host.negf x

theorem neg_holds {x : Gate} {X : ℕ → ℕ → ℝ} (hx : Holds x X) : Holds (neg x) fun r h => -X r h := by
  intro r h
  pointwise [neg]
  rw [hx r h, ← EReal.coe_neg]

theorem at_neg : at0 V0 main_v51 = neg (at0 V0 main_v36) ∧ at0 V0 main_v62 = neg (at0 V0 main_v38) ∧
    at0 V0 main_v149 = neg (at0 V0 main_v48) ∧ at0 V0 main_v150 = neg (at0 V0 main_v49) ∧ at0 V0 main_v151 = neg (at0 V0 main_v50) := by
  refine ⟨?_, ?_, ?_, ?_, ?_⟩ <;> (unfold at0; after_reads_simp; rfl)

theorem at_c : at0 V0 main_v48 = hi (cA V0) ∧ at0 V0 main_v49 = mid (cA V0) ∧ at0 V0 main_v50 = lo (cA V0) := by
  refine ⟨?_, ?_, ?_⟩ <;> (unfold at0; after_reads_simp; rfl)

theorem at_l : at0 V0 main_v59 = hi (at0 V0 main_v51) ∧ at0 V0 main_v60 = mid (at0 V0 main_v51) ∧ at0 V0 main_v61 = lo (at0 V0 main_v51) := by
  refine ⟨?_, ?_, ?_⟩ <;> (unfold at0; after_reads_simp; rfl)

theorem at_d : at0 V0 main_v70 = hi (at0 V0 main_v62) ∧ at0 V0 main_v71 = mid (at0 V0 main_v62) ∧ at0 V0 main_v72 = lo (at0 V0 main_v62) := by
  refine ⟨?_, ?_, ?_⟩ <;> (unfold at0; after_reads_simp; rfl)

theorem at_one : Holds (at0 V0 main_v39) fun _ _ => 1 := by
  intro r h
  unfold at0
  after_reads_simp
  pointwise []
  exact EReal.coe_one.symm

def zeros : Gate := broadcastInDim S8192x8 ![] bcast_S_S8192x8 (constant S_ .f32 0x00000000#32)

theorem zeros_holds : Holds zeros fun _ _ => 0 := by
  intro r h
  pointwise [zeros]
  exact EReal.coe_zero.symm

theorem at_zero : at0 V0 main_v76 = zeros ∧ at0 V0 main_v153 = zeros ∧ at0 V0 main_v227 = zeros ∧ at0 V0 main_v301 = zeros := by
  refine ⟨?_, ?_, ?_, ?_⟩ <;> (unfold at0; after_reads_simp; rfl)

theorem at_q (hq : Holds (qA V0) R.Q) : Holds (at0 V0 main_v74) fun r l => R.Q r l * 0.125 := by
  intro r l
  unfold at0
  after_reads_simp
  pointwise []
  rw [eighth, EReal.coe_mul]
  exact congrArg (· * _) (hq r l)

theorem at_args : at0 V0 main_arg1 = kA V0 ∧ at0 V0 main_arg2 = vA V0 ∧ at0 V0 main_arg4 = dA V0 := by
  refine ⟨?_, ?_, ?_⟩ <;> (unfold at0; after_reads_simp)

end Cert.Proof.Args
-- ==== Proof.Lanes.lean ====
/-
  The lanes of a head as real numbers: sixty-four of data, then the terms. The dot product of a key's lanes and a query's
  is the logit less the logarithm of the query's sum, that of a value's lanes and a cotangent's the gradient less its mean.
-/
module

public import proofs.«01_k».proof.Proof.Args

@[expose] public section

set_option maxRecDepth 16384

noncomputable section

namespace Cert.Proof.Lanes

open Cert.KernelIdeal Cert.KernelIdeal.Gen Cert.Proof.Spec Cert.Proof.Soft Cert.Proof.Stacks Cert.Proof.Args
open Idealize.ShloMosaic Idealize.ShloMosaic.TcCoe

/-- Sixty-four lanes of data, then terms. -/
def lane (X f : ℕ → ℝ) (x : ℕ) : ℝ := if x < 64 then X x else f (x - 64)

def qTerm (c l : ℝ) : ℕ → ℝ
  | 0 => c | 1 => 0 | 2 => 0 | 3 => 1 | 4 => 1 | 5 => 1 | 6 => -l | _ => 0
def kTerm (c : ℝ) : ℕ → ℝ
  | 0 => 1 | 1 => 1 | 2 => 1 | 3 => -c | 4 => 0 | 5 => 0 | 6 => 1 | 7 => 1 | 8 => 1 | _ => 0
def vTerm : ℕ → ℝ
  | 0 => 1 | 1 => 1 | 2 => 1 | _ => 0
def dTerm (d : ℝ) : ℕ → ℝ
  | 0 => -d | _ => 0

theorem lane_dot (X Y f g : ℕ → ℝ) (hg : ∀ x, g (9 + x) = 0) : ∑ x : Fin 128, lane Y g x.val * lane X f x.val =
    ∑ x : Fin 64, X x.val * Y x.val + ∑ x ∈ Finset.range 9, g x * f x := by
  rw [Fin.sum_univ_eq_sum_range (fun x => lane Y g x * lane X f x) 128, Fin.sum_univ_eq_sum_range (fun x => X x * Y x) 64,
    Finset.sum_range_add _ 64 64]
  refine congrArg₂ (· + ·) (Finset.sum_congr rfl fun x hx => ?_) ?_
  · rw [Finset.mem_range] at hx
    rw [lane, lane, if_pos hx, if_pos hx, mul_comm]
  · have e : ∀ x, lane Y g (64 + x) * lane X f (64 + x) = g x * f x := fun x => by
      rw [lane, lane, if_neg (by omega), if_neg (by omega), Nat.add_sub_cancel_left]
    rw [Finset.sum_congr rfl fun x _ => e x, Finset.sum_range_add _ 9 55, add_eq_left]
    exact Finset.sum_eq_zero fun x _ => by rw [hg, zero_mul]

variable (R : Reals) (L : ℕ → ℕ → ℝ)

def qL (h i : ℕ) : ℕ → ℝ := lane (fun x => R.Q i (64 * h + x) * 0.125) (qTerm (R.C i h) (L i h))
def kL (h j : ℕ) : ℕ → ℝ := lane (fun x => R.K j (64 * h + x)) (kTerm (R.C j h))
def vL (h j : ℕ) : ℕ → ℝ := lane (fun x => R.W j (64 * h + x)) vTerm
def dL (h i : ℕ) : ℕ → ℝ := lane (fun x => R.D i (64 * h + x)) (dTerm (delta R h i))

theorem kq_dot (h i j : ℕ) : ∑ x : Fin 128, kL R h j x.val * qL R L h i x.val = score R h i j - L i h := by
  unfold kL qL
  rw [lane_dot _ _ _ _ fun x => by rw [Nat.add_comm]; rfl]
  simp only [Finset.sum_range_succ, Finset.sum_range_zero, kTerm, qTerm, score, Finset.sum_mul]
  have : ∀ x : Fin 64, R.Q i (64 * h + x.val) * 0.125 * R.K j (64 * h + x.val) = R.Q i (64 * h + x.val) * R.K j (64 * h + x.val) * 0.125 :=
    fun x => by ring
  simp only [this]
  ring

theorem vd_dot (h i j : ℕ) : ∑ x : Fin 128, vL R h j x.val * dL R h i x.val = grad R h i j - delta R h i := by
  unfold vL dL
  rw [lane_dot _ _ _ _ fun x => by rw [Nat.add_comm]; rfl]
  simp only [Finset.sum_range_succ, Finset.sum_range_zero, vTerm, dTerm, grad]
  ring

/-- An array of rows holds these lanes of each head. -/
def HoldsL (a : S8192x1024.Idx → EReal) (A : ℕ → ℕ → ℕ → ℝ) : Prop :=
  ∀ (r : Fin 8192) (h : Fin 8) (l : Fin 128), a (ix2 r ⟨128 * h.val + l.val, by omega⟩) = ((A h.val r.val l.val : ℝ) : EReal)

theorem lane_coe {z : EReal} {f : Terms} {i : S8192x8.Idx} (X g : ℕ → ℝ) (l : Fin 128) {x : l.val < 64 → EReal} (hx : ∀ hl, x hl = ((X l.val : ℝ) : EReal))
    (hf : ∀ y : Fin 16, f y i = ((g y.val : ℝ) : EReal)) (hz : z = ((0 : ℝ) : EReal)) (hg : ∀ y, g (9 + y) = 0) :
    (if hl : l.val < 64 then x hl else if hy : l.val - 64 < 16 then f ⟨l.val - 64, hy⟩ i else z) = ((lane X g l.val : ℝ) : EReal) := by
  unfold lane
  split
  next hl => exact hx hl
  next hl =>
    split
    next hy => exact hf ⟨l.val - 64, hy⟩
    next hy => rw [hz, show l.val - 64 = 9 + (l.val - 64 - 9) by omega, hg]

/-- Sixteen terms one by one. -/
theorem lanes16 {a0 a1 a2 a3 a4 a5 a6 a7 a8 a9 a10 a11 a12 a13 a14 a15 : FVec Ideal S8192x8 .f32} {i : S8192x8.Idx} {g : ℕ → ℝ}
    (h0 : a0 i = ((g 0 : ℝ) : EReal)) (h1 : a1 i = ((g 1 : ℝ) : EReal)) (h2 : a2 i = ((g 2 : ℝ) : EReal)) (h3 : a3 i = ((g 3 : ℝ) : EReal))
    (h4 : a4 i = ((g 4 : ℝ) : EReal)) (h5 : a5 i = ((g 5 : ℝ) : EReal)) (h6 : a6 i = ((g 6 : ℝ) : EReal)) (h7 : a7 i = ((g 7 : ℝ) : EReal))
    (h8 : a8 i = ((g 8 : ℝ) : EReal)) (h9 : a9 i = ((g 9 : ℝ) : EReal)) (h10 : a10 i = ((g 10 : ℝ) : EReal)) (h11 : a11 i = ((g 11 : ℝ) : EReal))
    (h12 : a12 i = ((g 12 : ℝ) : EReal)) (h13 : a13 i = ((g 13 : ℝ) : EReal)) (h14 : a14 i = ((g 14 : ℝ) : EReal)) (h15 : a15 i = ((g 15 : ℝ) : EReal))
    (y : Fin 16) : (![a0, a1, a2, a3, a4, a5, a6, a7, a8, a9, a10, a11, a12, a13, a14, a15] : Terms) y i = ((g y.val : ℝ) : EReal) := by
  fin_cases y
  exacts [h0, h1, h2, h3, h4, h5, h6, h7, h8, h9, h10, h11, h12, h13, h14, h15]

variable (V0 : Valuation τ sig (Elt Ideal))

/-- The inputs hold these real numbers. -/
structure Inputs : Prop where
  q : Holds (qA V0) R.Q
  k : Holds (kA V0) R.K
  v : Holds (vA V0) R.W
  c : Holds (cA V0) R.C
  d : Holds (dA V0) R.D

variable {V0} {R}

theorem pk_holds (H : Inputs R V0) : ∃ M : ℕ → ℕ → ℝ, Holds (pk (qA V0) (kA V0) (cA V0)) M := by
  obtain ⟨M, hM⟩ := maxT_holds R H.q H.k H.c
  exact ⟨M, fun h i => (top_apply _ h i).symm.trans (hM h i)⟩

/-- The logarithms of the sums: subtracted from the logits they leave the probabilities' logarithms. -/
structure Lse (R : Reals) (L : ℕ → ℕ → ℝ) : Prop where
  prob : ∀ h i j, i < 8192 → (if j ≤ i then Real.exp (score R h i j - L i h) else 0) = prob R h i j

theorem shifted_sum_pos (M : ℕ → ℕ → ℝ) (h i : ℕ) (hi : i < 8192) :
    0 < ∑ j : Fin 8192, if j.val ≤ i then Real.exp (score R h i j.val - M h i) else 0 :=
  lt_of_le_of_ne (Finset.sum_nonneg fun j _ => by split; exacts [(Real.exp_pos _).le, le_rfl]) (shifted_pos R h i hi _).symm

def lse (R : Reals) (M : ℕ → ℕ → ℝ) (i h : ℕ) : ℝ :=
  M h i + Real.log (∑ j : Fin 8192, if j.val ≤ i then Real.exp (score R h i j.val - M h i) else 0)

theorem lseT_expo {s : Sq} {m : Rows} {M : ℕ → ℕ → ℝ} (hs : Holds3 s (score R)) (hm : Holds m M) :
    Holds (lseT m (tot (expo s m))) (lse R M) :=
  lseT_holds hm (tot_holds (expo_holds hs hm)) (shifted_sum_pos M)

theorem meanT_expo {s : Sq} {m : Rows} {v d : Wide} {M : ℕ → ℕ → ℝ} (hs : Holds3 s (score R)) (hm : Holds m M) (hv : Holds v R.W) (hd : Holds d R.D) :
    Holds (meanT v d (ratio (expo s m) (tot (expo s m)))) fun i h => delta R h i := by
  have he := expo_holds hs hm
  refine meanT_holds R hv hd fun h i j => ?_
  refine (ratio_holds he (tot_holds he) (fun h i hi => (shifted_sum_pos M h i hi).ne') h i j).trans ?_
  exact congrArg _ (prob_shift R h.val i.val j.val i.isLt _)

theorem lse_holds (H : Inputs R V0) : ∃ L : ℕ → ℕ → ℝ, Lse R L ∧ Holds (at0 V0 main_v36) L ∧ Holds (at0 V0 main_v38) fun i h => delta R h i := by
  obtain ⟨M, hM⟩ := pk_holds H
  have hs := logits_holds R H.q H.k H.c
  refine ⟨lse R M, ⟨fun h i j hi => prob_exp R h i j hi (M h i)⟩, ?_, ?_⟩
  · rw [at_v36, ex]
    generalize pk (qA V0) (kA V0) (cA V0) = m at hM ⊢
    generalize logits (qA V0) (kA V0) (cA V0) = s at hs ⊢
    exact lseT_expo hs hM
  · rw [at_v38, ex]
    generalize pk (qA V0) (kA V0) (cA V0) = m at hM ⊢
    generalize logits (qA V0) (kA V0) (cA V0) = s at hs ⊢
    exact meanT_expo hs hM H.v H.d

variable {L}

theorem queries_lanes (H : Inputs R V0) (hL : Holds (at0 V0 main_v36) L) : HoldsL (at0 V0 main_v148) (qL R L) := by
  intro r h l
  obtain ⟨c0, c1, c2⟩ := at_c V0
  obtain ⟨l0, l1, l2⟩ := at_l V0
  have hl := neg_holds hL
  rw [← (at_neg V0).1] at hl
  refine (at_queries V0 r h l).trans ?_
  rw [c0, c1, c2, l0, l1, l2, (at_zero V0).1]
  exact lane_coe (fun x => R.Q r.val (64 * h.val + x) * 0.125) (qTerm (R.C r.val h.val) (L r.val h.val)) l (fun hl => at_q R V0 H.q r ⟨64 * h.val + l.val, by omega⟩) (lanes16 (hi_holds H.c r h) (mid_holds H.c r h) (lo_holds H.c r h) (at_one V0 r h) (at_one V0 r h) (at_one V0 r h) (hi_holds hl r h) (mid_holds hl r h) (lo_holds hl r h) (zeros_holds r h) (zeros_holds r h) (zeros_holds r h) (zeros_holds r h) (zeros_holds r h) (zeros_holds r h) (zeros_holds r h)) (zeros_holds r h) (fun y => by rw [Nat.add_comm]; rfl)

theorem neg_zero_holds {x : Gate} (hx : Holds x fun _ _ => 0) : Holds (neg x) fun _ _ => 0 := fun r h =>
  (neg_holds hx r h).trans (congrArg _ neg_zero)

theorem keys_lanes (H : Inputs R V0) : HoldsL (at0 V0 main_v225) (kL R) := by
  intro r h l
  obtain ⟨c0, c1, c2⟩ := at_c V0
  obtain ⟨-, -, n0, n1, n2⟩ := at_neg V0
  refine (at_keys V0 r h l).trans ?_
  rw [n0, n1, n2, c0, c1, c2, (at_zero V0).2.1, (at_args V0).1]
  exact lane_coe (fun x => R.K r.val (64 * h.val + x)) (kTerm (R.C r.val h.val)) l (fun hl => H.k r ⟨64 * h.val + l.val, by omega⟩) (lanes16 (at_one V0 r h) (at_one V0 r h) (at_one V0 r h) (neg_holds (hi_holds H.c) r h) (neg_zero_holds (mid_holds H.c) r h) (neg_zero_holds (lo_holds H.c) r h) (at_one V0 r h) (at_one V0 r h) (at_one V0 r h) (zeros_holds r h) (zeros_holds r h) (zeros_holds r h) (zeros_holds r h) (zeros_holds r h) (zeros_holds r h) (zeros_holds r h)) (zeros_holds r h) (fun y => by rw [Nat.add_comm]; rfl)

theorem values_lanes (H : Inputs R V0) : HoldsL (at0 V0 main_v299) (vL R) := by
  intro r h l
  refine (at_values V0 r h l).trans ?_
  rw [(at_zero V0).2.2.1, (at_args V0).2.1]
  exact lane_coe (fun x => R.W r.val (64 * h.val + x)) (vTerm) l (fun hl => H.v r ⟨64 * h.val + l.val, by omega⟩) (lanes16 (at_one V0 r h) (at_one V0 r h) (at_one V0 r h) (zeros_holds r h) (zeros_holds r h) (zeros_holds r h) (zeros_holds r h) (zeros_holds r h) (zeros_holds r h) (zeros_holds r h) (zeros_holds r h) (zeros_holds r h) (zeros_holds r h) (zeros_holds r h) (zeros_holds r h) (zeros_holds r h)) (zeros_holds r h) (fun y => by rw [Nat.add_comm]; rfl)

theorem cotangents_lanes (H : Inputs R V0) (hD : Holds (at0 V0 main_v38) fun i h => delta R h i) : HoldsL (at0 V0 main_v373) (dL R) := by
  intro r h l
  obtain ⟨d0, d1, d2⟩ := at_d V0
  have hd := neg_holds hD
  rw [← (at_neg V0).2.1] at hd
  refine (at_cotangents V0 r h l).trans ?_
  rw [d0, d1, d2, (at_zero V0).2.2.2, (at_args V0).2.2]
  exact lane_coe (fun x => R.D r.val (64 * h.val + x)) (dTerm (delta R h.val r.val)) l (fun hl => H.d r ⟨64 * h.val + l.val, by omega⟩) (lanes16 (hi_holds hd r h) (mid_holds hd r h) (lo_holds hd r h) (zeros_holds r h) (zeros_holds r h) (zeros_holds r h) (zeros_holds r h) (zeros_holds r h) (zeros_holds r h) (zeros_holds r h) (zeros_holds r h) (zeros_holds r h) (zeros_holds r h) (zeros_holds r h) (zeros_holds r h) (zeros_holds r h)) (zeros_holds r h) (fun y => by rw [Nat.add_comm]; rfl)

end Cert.Proof.Lanes
-- ==== Proof.Point.lean ====
/-
  A grid point on real lanes: the accumulators the tiles leave, as sums of the probabilities' and the slopes' terms.
-/
module

public import proofs.«01_k».proof.Proof.Fold
public import proofs.«01_k».proof.Proof.Lanes

@[expose] public section

set_option maxRecDepth 16384

noncomputable section

namespace Cert.Proof.Point

open Cert.KernelIdeal Cert.KernelIdeal.Gen Cert.Proof.Attn Cert.Proof.Acc Cert.Proof.Spec Cert.Proof.Lanes
open Idealize.ShloMosaic

/-- The state's inputs at a grid point hold these lanes: head pair `p`, keys from `b`. -/
structure Blocks (R : Reals) (L : ℕ → ℕ → ℝ) (p b : ℕ) (s : St Ideal) : Prop where
  q : ∀ h i l, h < 2 → i < 8192 → l < 128 → rd s.x2 i (128 * h + l) = ((qL R L (2 * p + h) i l : ℝ) : EReal)
  d : ∀ h i l, h < 2 → i < 8192 → l < 128 → rd s.x3 i (128 * h + l) = ((dL R (2 * p + h) i l : ℝ) : EReal)
  k : ∀ h j l, h < 2 → j < 512 → l < 128 → rd s.x4 j (128 * h + l) = ((kL R (2 * p + h) (b + j) l : ℝ) : EReal)
  v : ∀ h j l, h < 2 → j < 512 → l < 128 → rd s.x5 j (128 * h + l) = ((vL R (2 * p + h) (b + j) l : ℝ) : EReal)

variable {R : Reals} {L : ℕ → ℕ → ℝ} (hL : Lse R L) {p b : ℕ} {s : St Ideal} (B : Blocks R L p b s)
  {h j l q : ℕ} (hh : h < 2) (hj : j < 512) (hl : l < 128) (hq : q < 8192)

include B hh hj hq

theorem lg_eq : lg s h j q = ((score R (2 * p + h) q (b + j) - L q (2 * p + h) : ℝ) : EReal) := by
  unfold lg
  rw [← kq_dot R L, coe_sum]
  refine Finset.sum_congr rfl fun x _ => ?_
  rw [B.k h j x.val hh hj x.isLt, B.q h q x.val hh hq x.isLt, ← EReal.coe_mul]

theorem gd_eq : gd s h j q = ((grad R (2 * p + h) q (b + j) - delta R (2 * p + h) q : ℝ) : EReal) := by
  unfold gd
  rw [← vd_dot R, coe_sum]
  refine Finset.sum_congr rfl fun x _ => ?_
  rw [B.v h j x.val hh hj x.isLt, B.d h q x.val hh hq x.isLt, ← EReal.coe_mul]

include hL

theorem wt_eq : wt b s h j q = ((prob R (2 * p + h) q (b + j) : ℝ) : EReal) := by
  rw [wt, lg_eq B hh hj hq, ← hL.prob (2 * p + h) q (b + j) hq]
  split
  · exact Ideal.exp_coe _
  · exact EReal.coe_zero.symm

theorem sl_eq : wt b s h j q * gd s h j q = ((Spec.slope R (2 * p + h) q (b + j) : ℝ) : EReal) := by
  rw [wt_eq hL B hh hj hq, gd_eq B hh hj hq, ← EReal.coe_mul]
  rfl

include hl

theorem tV_eq : tV b s h j l q = ((prob R (2 * p + h) q (b + j) * dL R (2 * p + h) q l : ℝ) : EReal) := by
  rw [tV, wt_eq hL B hh hj hq, B.d h q l hh hq hl, EReal.coe_mul]

theorem tK_eq : tK b s h j l q = ((Spec.slope R (2 * p + h) q (b + j) * qL R L (2 * p + h) q l : ℝ) : EReal) := by
  rw [tK, sl_eq hL B hh hj hq, B.q h q l hh hq hl, EReal.coe_mul]

theorem tQ_eq : tQ b s h q l j = ((Spec.slope R (2 * p + h) q (b + j) * kL R (2 * p + h) (b + j) l : ℝ) : EReal) := by
  rw [tQ, sl_eq hL B hh hj hq, B.k h j l hh hj hl, EReal.coe_mul]

omit hq

/-- What the values' accumulator holds after the tiles. -/
theorem val_eq {w : Vec Ideal S8192x256 .f32} {u : St Ideal} (I : Inv b s w 8192 u) :
    rd u.x13 j (128 * h + l) = ((∑ i : Fin 8192, prob R (2 * p + h) i.val (b + j) * dL R (2 * p + h) i.val l : ℝ) : EReal) := by
  rw [I.val h j l hh hj hl, Fin.sum_univ_eq_sum_range (fun i => prob R (2 * p + h) i (b + j) * dL R (2 * p + h) i l) 8192, coe_sum]
  exact Finset.sum_congr rfl fun i hi => tV_eq hL B hh hj hl (Finset.mem_range.1 hi)

/-- What the keys' accumulator holds after the tiles. -/
theorem key_eq {w : Vec Ideal S8192x256 .f32} {u : St Ideal} (I : Inv b s w 8192 u) :
    rd u.x12 j (128 * h + l) = ((∑ i : Fin 8192, Spec.slope R (2 * p + h) i.val (b + j) * qL R L (2 * p + h) i.val l : ℝ) : EReal) := by
  rw [I.key h j l hh hj hl, Fin.sum_univ_eq_sum_range (fun i => Spec.slope R (2 * p + h) i (b + j) * qL R L (2 * p + h) i l) 8192, coe_sum]
  exact Finset.sum_congr rfl fun i hi => tK_eq hL B hh hj hl (Finset.mem_range.1 hi)

omit hj
include hq

/-- What the queries' accumulator holds after the tiles. -/
theorem qry_eq {w : Vec Ideal S8192x256 .f32} {u : St Ideal} (I : Inv b s w 8192 u) {W : ℝ} (hw : rd w q (128 * h + l) = (W : EReal)) :
    rd u.x11 q (128 * h + l) = ((W + ∑ j ∈ Finset.range 512, Spec.slope R (2 * p + h) q (b + j) * kL R (2 * p + h) (b + j) l : ℝ) : EReal) := by
  rw [I.qry h q l hh hq hl, if_pos hq, hw, EReal.coe_add, coe_sum]
  exact congrArg _ (Finset.sum_congr rfl fun j hj => tQ_eq hL B hh (Finset.mem_range.1 hj) hl hq)

end Cert.Proof.Point
-- ==== Proof.Grid.lean ====
/-
  The grid: what the windows bring to a point, and the queries' accumulator carried from one block of keys to the next.
-/
module

public import proofs.«01_k».proof.Proof.Point

@[expose] public section

set_option maxRecDepth 16384

noncomputable section

namespace Cert.Proof.Grid

open Cert.KernelIdeal Cert.KernelIdeal.Gen Cert.Proof.Attn Cert.Proof.Acc Cert.Proof.Spec Cert.Proof.Lanes Cert.Proof.Stacks Cert.Proof.Point
open Idealize.ShloMosaic Idealize.ShloMosaic.TcCoe

theorem coords0 : ∀ t : Fin cfg0.N, (grid0.coords t 0).val = t.val / 16 := (by decide +kernel : ∀ t : Fin grid0.N, _)
theorem coords1 : ∀ t : Fin cfg0.N, (grid0.coords t 1).val = t.val % 16 := (by decide +kernel : ∀ t : Fin grid0.N, _)

theorem idx_in : ∀ t : Fin cfg0.N, win0_0.index t = ![0, t.val / 16] ∧ win0_1.index t = ![0, t.val / 16] ∧
    win0_2.index t = ![t.val % 16, t.val / 16] ∧ win0_3.index t = ![t.val % 16, t.val / 16] := (by decide +kernel : ∀ t : Fin grid0.N, _)

theorem idx_out : ∀ t : Fin cfg0.N, win0_4.index t = ![0, t.val / 16] ∧ win0_5.index t = ![t.val % 16, t.val / 16] ∧
    win0_6.index t = ![t.val % 16, t.val / 16] ∧ win0_7.index t = ![t.val / 16, 0, 0] ∧ win0_8.index t = ![t.val / 16, t.val % 16, 0] :=
  (by decide +kernel : ∀ t : Fin grid0.N, _)

variable (m : (ℓ : Loc nD τ sig) → Buf (Elt Ideal) ℓ) (c : Dev nD)

theorem lt64 (t : Fin cfg0.N) : t.val < 64 := t.isLt.trans_eq N_0

theorem iblk0 (t : Fin cfg0.N) (i : Fin 8192) (y : Fin 256) :
    iblk m c 0 t (ix2 i y) = V m c main_v148 (ix2 i ⟨256 * (t.val / 16) + y.val, by have := lt64 t; omega⟩) := by
  obtain ⟨e, -⟩ := idx_in t
  blk_ext [iblk, e]

theorem iblk1 (t : Fin cfg0.N) (i : Fin 8192) (y : Fin 256) :
    iblk m c 1 t (ix2 i y) = V m c main_v373 (ix2 i ⟨256 * (t.val / 16) + y.val, by have := lt64 t; omega⟩) := by
  obtain ⟨-, e, -⟩ := idx_in t
  blk_ext [iblk, e]

theorem iblk2 (t : Fin cfg0.N) (i : Fin 512) (y : Fin 256) :
    iblk m c 2 t (ix2 i y) = V m c main_v225 (ix2 ⟨512 * (t.val % 16) + i.val, by omega⟩ ⟨256 * (t.val / 16) + y.val, by have := lt64 t; omega⟩) := by
  obtain ⟨-, -, e, -⟩ := idx_in t
  blk_ext [iblk, e]

theorem iblk3 (t : Fin cfg0.N) (i : Fin 512) (y : Fin 256) :
    iblk m c 3 t (ix2 i y) = V m c main_v299 (ix2 ⟨512 * (t.val % 16) + i.val, by omega⟩ ⟨256 * (t.val / 16) + y.val, by have := lt64 t; omega⟩) := by
  obtain ⟨-, -, -, e⟩ := idx_in t
  blk_ext [iblk, e]

/-- The four arguments hold their lanes. -/
structure Arrays (R : Reals) (L : ℕ → ℕ → ℝ) : Prop where
  q : HoldsL (V m c main_v148) (qL R L)
  d : HoldsL (V m c main_v373) (dL R)
  k : HoldsL (V m c main_v225) (kL R)
  v : HoldsL (V m c main_v299) (vL R)

theorem V_eq (b : Ref sig .tc) : V m c b = at0 (fun b => m (c, b)) b := by
  unfold at0
  rfl

theorem arrays {R : Reals} (H : Inputs R fun b => m (c, b)) : ∃ L, Lse R L ∧ Arrays m c R L := by
  obtain ⟨L, hL, h36, h38⟩ := lse_holds H
  refine ⟨L, hL, ?_, ?_, ?_, ?_⟩
  · rw [V_eq]
    exact queries_lanes H h36
  · rw [V_eq]
    exact cotangents_lanes H h38
  · rw [V_eq]
    exact keys_lanes H
  · rw [V_eq]
    exact values_lanes H

variable {m c} {R : Reals} {L : ℕ → ℕ → ℝ} (A : Arrays m c R L)
include A

theorem blocks {t : Fin cfg0.N} {s : St Ideal} (I : Ins m c t s) : Blocks R L (t.val / 16) (512 * (t.val % 16)) s := by
  have ht := lt64 t
  have e : ∀ h l, h < 2 → l < 128 → 256 * (t.val / 16) + (128 * h + l) = 128 * (2 * (t.val / 16) + h) + l := fun h l _ _ => by omega
  refine ⟨fun h i l hh hi hl => ?_, fun h i l hh hi hl => ?_, fun h j l hh hj hl => ?_, fun h j l hh hj hl => ?_⟩
  · rw [I.i2, rd_in _ _ _ hi (by omega)]
    refine (iblk0 m c t ⟨i, hi⟩ ⟨128 * h + l, by omega⟩).trans ?_
    simp only [e h l hh hl]
    exact A.q ⟨i, hi⟩ ⟨2 * (t.val / 16) + h, by omega⟩ ⟨l, hl⟩
  · rw [I.i3, rd_in _ _ _ hi (by omega)]
    refine (iblk1 m c t ⟨i, hi⟩ ⟨128 * h + l, by omega⟩).trans ?_
    simp only [e h l hh hl]
    exact A.d ⟨i, hi⟩ ⟨2 * (t.val / 16) + h, by omega⟩ ⟨l, hl⟩
  · rw [I.i4, rd_in _ _ _ hj (by omega)]
    refine (iblk2 m c t ⟨j, hj⟩ ⟨128 * h + l, by omega⟩).trans ?_
    simp only [e h l hh hl]
    exact A.k ⟨512 * (t.val % 16) + j, by omega⟩ ⟨2 * (t.val / 16) + h, by omega⟩ ⟨l, hl⟩
  · rw [I.i5, rd_in _ _ _ hj (by omega)]
    refine (iblk3 m c t ⟨j, hj⟩ ⟨128 * h + l, by omega⟩).trans ?_
    simp only [e h l hh hl]
    exact A.v ⟨512 * (t.val % 16) + j, by omega⟩ ⟨2 * (t.val / 16) + h, by omega⟩ ⟨l, hl⟩

/-- The queries' sums over the keys before `n`. -/
def upTo (R : Reals) (H q l n : ℕ) : ℝ := ∑ k ∈ Finset.range n, Spec.slope R H q k * kL R H k l

variable (hL : Lse R L)
include hL

theorem qry_point {t : Fin cfg0.N} {s : St Ideal} (I : Ins m c t s)
    (hc : t.val % 16 ≠ 0 → ∀ h q l, h < 2 → q < 8192 → l < 128 →
      rd s.x11 q (128 * h + l) = ((upTo R (2 * (t.val / 16) + h) q l (512 * (t.val % 16)) : ℝ) : EReal))
    {h q l : ℕ} (hh : h < 2) (hq : q < 8192) (hl : l < 128) :
    rd (tiles (grid0.coords t) s).x11 q (128 * h + l) = ((upTo R (2 * (t.val / 16) + h) q l (512 * (t.val % 16 + 1)) : ℝ) : EReal) := by
  have J := tiles_inv (grid0.coords t) s
  have eb : base (grid0.coords t) = 512 * (t.val % 16) := by rw [base, coords1]
  rw [eb] at J
  have hw : rd (carried (grid0.coords t) s) q (128 * h + l) = ((upTo R (2 * (t.val / 16) + h) q l (512 * (t.val % 16)) : ℝ) : EReal) := by
    unfold carried
    rw [coords1]
    split
    next h0 =>
      rw [rd_in _ _ _ hq (by omega), h0, upTo, mul_zero, Finset.sum_range_zero]
      exact EReal.coe_zero.symm
    next h0 => exact hc h0 h q l hh hq hl
  rw [qry_eq hL (blocks A I) hh hl hq J hw, upTo, upTo, mul_add, mul_one, Finset.sum_range_add]

theorem carry_holds : ∀ (n : ℕ) (x : Vec Ideal S8192x256 .f32), Carry m c (n + 1) x → ∀ h q l, h < 2 → q < 8192 → l < 128 →
    rd x q (128 * h + l) = ((upTo R (2 * (n / 16) + h) q l (512 * (n % 16 + 1)) : ℝ) : EReal) := by
  intro n
  induction n with
  | zero =>
    rintro x ⟨hn, s, I, -, rfl⟩ h q l hh hq hl
    unfold point
    rw [(out_keeps _ _).2]
    exact qry_point A hL I (fun h0 => absurd rfl h0) hh hq hl
  | succ n ih =>
    rintro x ⟨hn, s, I, hs, rfl⟩ h q l hh hq hl
    unfold point
    rw [(out_keeps _ _).2]
    refine qry_point A hL I (fun h0 h q l hh hq hl => ?_) hh hq hl
    have h0' : (n + 1) % 16 ≠ 0 := h0
    have := ih s.x11 hs h q l hh hq hl
    rw [show n / 16 = (n + 1) / 16 by omega, show n % 16 + 1 = (n + 1) % 16 by omega] at this
    exact this

/-- What the queries' accumulator holds after a point's tiles. -/
theorem qry_reach {t : Fin cfg0.N} {s : St Ideal} (G : Reach m c t s) {h q l : ℕ} (hh : h < 2) (hq : q < 8192) (hl : l < 128) :
    rd (tiles (grid0.coords t) s).x11 q (128 * h + l) = ((upTo R (2 * (t.val / 16) + h) q l (512 * (t.val % 16 + 1)) : ℝ) : EReal) := by
  refine qry_point A hL G.ins (fun h0 h q l hh hq hl => ?_) hh hq hl
  have hs := G.carry
  obtain ⟨n, hn⟩ : ∃ n, t.val = n + 1 := ⟨t.val - 1, by omega⟩
  rw [hn] at hs h0 ⊢
  have := carry_holds A hL n s.x11 hs h q l hh hq hl
  rw [show n / 16 = (n + 1) / 16 by omega, show n % 16 + 1 = (n + 1) % 16 by omega] at this
  exact this

theorem inv_reach {t : Fin cfg0.N} {s : St Ideal} (G : Reach m c t s) :
    Inv (512 * (t.val % 16)) s (carried (grid0.coords t) s) 8192 (tiles (grid0.coords t) s) := by
  have J := tiles_inv (grid0.coords t) s
  rwa [base, coords1] at J

end Cert.Proof.Grid
-- ==== Proof.Outs.lean ====
/-
  The output blocks read at an index: two heads' halves side by side, and a gate's column among the lanes of its pair.
-/
module

public import proofs.«01_k».proof.Proof.Acc

@[expose] public section

set_option maxRecDepth 16384

noncomputable section

namespace Cert.Proof.Outs

open Cert.KernelIdeal Cert.KernelIdeal.Gen Cert.Proof.Attn Cert.Proof.Acc
open Idealize.ShloMosaic

theorem minus_one : Ideal.ofBits .f32 0xBF800000#32 = -1 := by
  simp [Ideal.ofBits, Ideal.ieee]
  rw [← EReal.coe_mul, ← EReal.coe_one]
  norm_num

theorem half_bit : ∀ z : Fin 128, IntOp.cmpi .slt (BitVec.ofNat 32 z.val) 64#32 = if z.val < 64 then 1#1 else 0#1 := by decide +kernel
theorem even_bit : ∀ (p : Fin 4) (z : Fin 128), IntOp.cmpi .eq (BitVec.ofNat 32 z.val) (Scalar.muli 2#32 (BitVec.ofNat 32 p.val)) =
    if z.val = 2 * p.val then 1#1 else 0#1 := by decide +kernel
theorem odd_bit : ∀ (p : Fin 4) (z : Fin 128), IntOp.cmpi .eq (BitVec.ofNat 32 z.val) (Scalar.addi (Scalar.muli 2#32 (BitVec.ofNat 32 p.val)) 1#32) =
    if z.val = 2 * p.val + 1 then 1#1 else 0#1 := by decide +kernel

theorem select_bit {α : Type} (P : Prop) [Decidable P] (x y : α) : Scalar.select (if P then 1#1 else 0#1) x y = if P then x else y := by
  split <;> rfl

/-- The columns of the two heads' data, at a lane of the block written back. -/
theorem halves {R : ℕ} (X : (⟨2, ![R, 256]⟩ : Shape).Idx → EReal) (j : Fin R) (z : Fin 128) :
    (if z.val < 64 then X (ix2 j ⟨z.val, by omega⟩) else X (ix2 j ⟨128 + (z.val + 128 - 64) % 128, by omega⟩)) =
      rd X j.val (128 * (z.val / 64) + z.val % 64) := by
  have hz := z.isLt
  rw [rd_in X _ _ j.isLt (by omega)]
  split
  next h =>
    exact congrArg (fun y => X (ix2 j y)) (Fin.ext (by dsimp only; omega))
  next h =>
    exact congrArg (fun y => X (ix2 j y)) (Fin.ext (by dsimp only; omega))

theorem pay93_apply (X : S512x256.Idx → EReal) (j : Fin 512) (z : Fin 128) :
    k0_pay93 (F := Ideal) X (ix2 j z) = rd X j.val (128 * (z.val / 64) + z.val % 64) := by
  pointwise [k0_pay93]
  rw [half_bit, select_bit]
  exact halves X j z

theorem pay92_apply (X : S512x256.Idx → EReal) (j : Fin 512) (z : Fin 128) :
    k0_pay92 (F := Ideal) X (iota .tc S512x128 32 [1] iota_S512x128_d1_w32) (ix2 j z) = rd X j.val (128 * (z.val / 64) + z.val % 64) := by
  pointwise [k0_pay92]
  rw [half_bit, select_bit]
  exact halves X j z

theorem pay2_apply (X : S8192x256.Idx → EReal) (i : Fin 8192) (z : Fin 128) :
    k0_pay2 (F := Ideal) X (ix2 i z) = rd X i.val (128 * (z.val / 64) + z.val % 64) * Ideal.ofBits .f32 0x3E000000#32 := by
  pointwise [k0_pay2]
  rw [half_bit, select_bit]
  exact congrArg (· * _) (halves X i z)

/-- A gate's column `k` of either head, at the two lanes of the pair. -/
theorem column {R : ℕ} (X : (⟨2, ![R, 256]⟩ : Shape).Idx → EReal) (f : EReal → EReal) (p : Fin 4) (j : Fin R) (z : Fin 128) (k : ℕ) (hk : k < 128) :
    (if z.val = 2 * p.val then f (X (ix2 j ⟨k, by omega⟩)) else if z.val = 2 * p.val + 1 then f (X (ix2 j ⟨128 + k, by omega⟩)) else 0) =
      if z.val / 2 = p.val then f (rd X j.val (128 * (z.val % 2) + k)) else 0 := by
  rw [rd_in X _ _ j.isLt (by omega)]
  split
  next h =>
    rw [if_pos (by omega)]
    exact congrArg (fun y => f (X (ix2 j y))) (Fin.ext (by dsimp only; omega))
  next h =>
    split
    next h' =>
      rw [if_pos (by omega)]
      exact congrArg (fun y => f (X (ix2 j y))) (Fin.ext (by dsimp only; omega))
    next h' => rw [if_neg (by omega)]

theorem pay94_apply (X : S512x256.Idx → EReal) (p : Fin 4) (j : Fin 512) (z : Fin 128) :
    k0_pay1 (k0_pay94 (F := Ideal) (BitVec.ofNat 32 p.val) X) (ix3 0 j z) = if z.val / 2 = p.val then -rd X j.val (128 * (z.val % 2) + 67) else 0 := by
  pointwise [k0_pay94, k0_pay1]
  rw [even_bit, odd_bit, select_bit, select_bit, minus_one, neg_one_mul, neg_one_mul]
  exact column X (- ·) p j z 67 (by norm_num)

theorem pay3_apply (X : S8192x256.Idx → EReal) (p : Fin 4) (i : Fin 8192) (z : Fin 128) :
    k0_pay3 (F := Ideal) (Scalar.muli 2#32 (BitVec.ofNat 32 p.val)) X (ix3 0 i z) = if z.val / 2 = p.val then rd X i.val (128 * (z.val % 2) + 64) else 0 := by
  pointwise [k0_pay3]
  rw [even_bit, odd_bit, select_bit, select_bit]
  exact column X id p i z 64 (by norm_num)

/-- A store of a whole block leaves the block stored. -/
theorem put_whole {s : Shape} {α : Type} (X w : s.Idx → α) (off : Fin s.rank → ℕ) (h : ∀ a, off a = 0) : VecWindow.put X off s.size w = w := by
  funext y
  unfold VecWindow.put
  rw [dif_pos fun a => by have := (y a).isLt; rw [h a]; omega]
  congr 1
  funext a
  exact Fin.ext (by simp [h a])

section
variable (i : grid0.Coords) (s : St Ideal)

theorem out_x7 : (point i s).x7 = k0_pay92 (F := Ideal) (tiles i s).x12 (iota .tc S512x128 32 [1] iota_S512x128_d1_w32) := by
  have : (point i s).x7 = (outKV' (tiles i s)).x7 := by
    unfold point outQ outKV
    split <;> rfl
  rw [this]
  unfold outKV'
  dsimp only
  rw [put_whole _ _ _ (by decide), View.ld_unit_lit _ _ (by decide)]

theorem out_x8 : (point i s).x8 = k0_pay93 (F := Ideal) (tiles i s).x13 := by
  have : (point i s).x8 = (outKV' (tiles i s)).x8 := by
    unfold point outQ outKV
    split <;> rfl
  rw [this]
  unfold outKV'
  dsimp only
  rw [put_whole _ _ _ (by decide), View.ld_unit_lit _ _ (by decide)]

theorem out_x10 : (point i s).x10 = k0_pay1 (k0_pay94 (F := Ideal) (BitVec.ofNat 32 (i 0).val) (tiles i s).x12) := by
  have : (point i s).x10 = (outKV i (tiles i s)).x10 := by
    unfold point outQ
    split <;> rfl
  rw [this]
  unfold outKV outKV'
  dsimp only
  rw [put_whole _ _ _ (by decide), View.ld_unit_lit _ _ (by decide)]

theorem out_x6 (h : k0_cond3 i = 1#1) : (point i s).x6 = k0_pay2 (F := Ideal) (tiles i s).x11 := by
  unfold point outQ
  rw [if_pos h]
  unfold outKV outKV'
  dsimp only
  rw [put_whole _ _ _ (by decide), View.ld_unit_lit _ _ (by decide)]

theorem out_x9 (h : k0_cond3 i = 1#1) : (point i s).x9 = k0_pay3 (F := Ideal) (Scalar.muli 2#32 (BitVec.ofNat 32 (i 0).val)) (tiles i s).x11 := by
  unfold point outQ
  rw [if_pos h]
  unfold outKV outKV'
  dsimp only
  rw [put_whole _ _ _ (by decide), View.ld_unit_lit _ _ (by decide)]

end

end Cert.Proof.Outs
-- ==== Proof.Arr.lean ====
/-
  The arrays the call leaves: each block written back is the block of the gradients that it stands for, and the blocks
  tile the arrays.
-/
module

public import proofs.«01_k».proof.Proof.Grid
public import proofs.«01_k».proof.Proof.Outs
public import Idealize.ShloMosaic.Lib.Pipeline.ArrRel

@[expose] public section

set_option maxRecDepth 16384

noncomputable section

namespace Cert.Proof.Arr

open Cert.KernelIdeal Cert.KernelIdeal.Gen Cert.Proof.Attn Cert.Proof.Acc Cert.Proof.Spec Cert.Proof.Lanes Cert.Proof.Point Cert.Proof.Grid Cert.Proof.Outs
open Idealize.ShloMosaic Idealize.ShloMosaic.TcCoe
open Idealize.SL Idealize.SL.Sem Idealize.ShloMosaic.Pipeline

/-- A gradient of `q`, `k` or `v` as an array: the column names the head. -/
def wide (f : ℕ → ℕ → ℕ → ℝ) : S8192x512.Idx → EReal := fun y => ((f ((y 1).val / 64) (y 0).val (y 1).val : ℝ) : EReal)

/-- A gradient of the gates as an array: each pair of heads' slab holds the pair's two lanes. -/
def slabs (f : ℕ → ℕ → ℝ) : S4x8192x128.Idx → EReal := fun y => if (y 2).val / 2 = (y 0).val then ((f (y 2).val (y 1).val : ℝ) : EReal) else 0

theorem slabs_apply (f : ℕ → ℕ → ℝ) (p : Fin 4) (r : Fin 8192) (z : Fin 128) :
    slabs f (ix3 p r z) = if z.val / 2 = p.val then ((f z.val r.val : ℝ) : EReal) else 0 := rfl

variable {m : (ℓ : Loc nD τ sig) → Buf (Elt Ideal) ℓ} {c : Dev nD} {R : Reals} {L : ℕ → ℕ → ℝ} (A : Arrays m c R L) (hL : Lse R L)
  {t : Fin cfg0.N} {s : St Ideal} (G : Reach m c t s)
include A hL G

theorem point7 (j : Fin 512) (z : Fin 128) : (point (grid0.coords t) s).x7 (ix2 j z) =
    wide (dK R) (ix2 ⟨512 * (t.val % 16) + j.val, by omega⟩ ⟨128 * (t.val / 16) + z.val, by have := lt64 t; omega⟩) := by
  rw [out_x7, pay92_apply, key_eq hL (blocks A G.ins) (h := z.val / 64) (by omega) j.isLt (by omega) (inv_reach A hL G)]
  have e1 : (128 * (t.val / 16) + z.val) / 64 = 2 * (t.val / 16) + z.val / 64 := by omega
  have e2 : 64 * (2 * (t.val / 16) + z.val / 64) + z.val % 64 = 128 * (t.val / 16) + z.val := by omega
  simp only [wide, dK, ix2_0, ix2_1, e1]
  refine congrArg _ (Finset.sum_congr rfl fun i _ => ?_)
  rw [qL, lane, if_pos (Nat.mod_lt _ (by norm_num)), e2]

theorem point8 (j : Fin 512) (z : Fin 128) : (point (grid0.coords t) s).x8 (ix2 j z) =
    wide (dW R) (ix2 ⟨512 * (t.val % 16) + j.val, by omega⟩ ⟨128 * (t.val / 16) + z.val, by have := lt64 t; omega⟩) := by
  rw [out_x8, pay93_apply, val_eq hL (blocks A G.ins) (h := z.val / 64) (by omega) j.isLt (by omega) (inv_reach A hL G)]
  have e1 : (128 * (t.val / 16) + z.val) / 64 = 2 * (t.val / 16) + z.val / 64 := by omega
  have e2 : 64 * (2 * (t.val / 16) + z.val / 64) + z.val % 64 = 128 * (t.val / 16) + z.val := by omega
  simp only [wide, dW, ix2_0, ix2_1, e1]
  refine congrArg _ (Finset.sum_congr rfl fun i _ => ?_)
  rw [dL, lane, if_pos (Nat.mod_lt _ (by norm_num)), e2]

theorem point10 (j : Fin 512) (z : Fin 128) : (point (grid0.coords t) s).x10 (ix3 0 j z) =
    slabs (dCk R) (ix3 ⟨t.val / 16, by have := lt64 t; omega⟩ ⟨512 * (t.val % 16) + j.val, by omega⟩ z) := by
  have e := pay94_apply (tiles (grid0.coords t) s).x12 (grid0.coords t 0) j z
  rw [out_x10]
  refine e.trans ?_
  rw [coords0]
  rw [slabs_apply]
  dsimp only
  by_cases hz : z.val / 2 = t.val / 16
  · rw [if_pos hz, if_pos hz, key_eq hL (blocks A G.ins) (h := z.val % 2) (by omega) j.isLt (by norm_num) (inv_reach A hL G),
      show 2 * (t.val / 16) + z.val % 2 = z.val by omega, ← EReal.coe_neg]
    refine congrArg (fun x : ℝ => ((-x : ℝ) : EReal)) (Finset.sum_congr rfl fun i _ => ?_)
    exact mul_one _
  · rw [if_neg hz, if_neg hz]

omit A hL G in
theorem last (h : t.val % 16 = 15) : k0_cond3 (grid0.coords t) = 1#1 := (cond3_iff _).2 ((coords1 t).trans h)

theorem point6 (h : t.val % 16 = 15) (i : Fin 8192) (z : Fin 128) : (point (grid0.coords t) s).x6 (ix2 i z) =
    wide (dQ R) (ix2 i ⟨128 * (t.val / 16) + z.val, by have := lt64 t; omega⟩) := by
  rw [out_x6 _ _ (last h), pay2_apply, qry_reach A hL G (h := z.val / 64) (by omega) i.isLt (by omega), Soft.eighth, ← EReal.coe_mul, h]
  have e1 : (128 * (t.val / 16) + z.val) / 64 = 2 * (t.val / 16) + z.val / 64 := by omega
  have e2 : 64 * (2 * (t.val / 16) + z.val / 64) + z.val % 64 = 128 * (t.val / 16) + z.val := by omega
  simp only [wide, dQ, ix2_0, ix2_1, e1]
  refine congrArg (fun x : ℝ => ((x * 0.125 : ℝ) : EReal)) ?_
  rw [upTo, Finset.sum_range]
  refine Finset.sum_congr rfl fun k _ => ?_
  rw [kL, lane, if_pos (Nat.mod_lt _ (by norm_num)), e2]

theorem point9 (h : t.val % 16 = 15) (i : Fin 8192) (z : Fin 128) : (point (grid0.coords t) s).x9 (ix3 0 i z) =
    slabs (dCq R) (ix3 ⟨t.val / 16, by have := lt64 t; omega⟩ i z) := by
  have e := pay3_apply (tiles (grid0.coords t) s).x11 (grid0.coords t 0) i z
  rw [out_x9 _ _ (last h)]
  refine e.trans ?_
  rw [coords0]
  rw [slabs_apply]
  dsimp only
  by_cases hz : z.val / 2 = t.val / 16
  · rw [if_pos hz, if_pos hz, qry_reach A hL G (h := z.val % 2) (by omega) i.isLt (by norm_num),
      show 2 * (t.val / 16) + z.val % 2 = z.val by omega, h, upTo, Finset.sum_range]
    refine congrArg _ (Finset.sum_congr rfl fun i _ => ?_)
    exact mul_one _
  · rw [if_neg hz, if_neg hz]

omit G

variable {after : (w : Fin cfg0.W) → Fin cfg0.N → (cfg0.win w).block.Idx → Elt Ideal (cfg0.win w).elt}
  (hX : ∀ w u, (cfg0.win w).flush u = true → (rdat m c).Leaves w u (after w u))
include hX

theorem arr4 : ((rdat m c).withAfter after).arrAt 4 cfg0.N = wide (dQ R) := by
  refine ((rdat m c).withAfter after).arrAt_eq_of_covers 4 _ (by decide +kernel) fun t hf y => ?_
  obtain ⟨Y, -, s, G, e⟩ := hX 4 t hf
  obtain ⟨i, -⟩ := idx_out t
  blk_simp
  rw [RDat.withAfter_after, e]
  refine ((congrArg (point (grid0.coords t) s).x6 (eq_ix2 y)).trans (point6 A hL G ((flush0_4 t).1 hf) (y 0) (y 1))).trans (congrArg _ ?_)
  blk_ext [i]

theorem arr5 : ((rdat m c).withAfter after).arrAt 5 cfg0.N = wide (dK R) := by
  refine ((rdat m c).withAfter after).arrAt_eq_of_covers 5 _ (by decide +kernel) fun t hf y => ?_
  obtain ⟨Y, -, s, G, e⟩ := hX 5 t hf
  obtain ⟨-, i, -⟩ := idx_out t
  blk_simp
  rw [RDat.withAfter_after, e]
  refine ((congrArg (point (grid0.coords t) s).x7 (eq_ix2 y)).trans (point7 A hL G (y 0) (y 1))).trans (congrArg _ ?_)
  blk_ext [i]

theorem arr6 : ((rdat m c).withAfter after).arrAt 6 cfg0.N = wide (dW R) := by
  refine ((rdat m c).withAfter after).arrAt_eq_of_covers 6 _ (by decide +kernel) fun t hf y => ?_
  obtain ⟨Y, -, s, G, e⟩ := hX 6 t hf
  obtain ⟨-, -, i, -⟩ := idx_out t
  blk_simp
  rw [RDat.withAfter_after, e]
  refine ((congrArg (point (grid0.coords t) s).x8 (eq_ix2 y)).trans (point8 A hL G (y 0) (y 1))).trans (congrArg _ ?_)
  blk_ext [i]

theorem arr7 : ((rdat m c).withAfter after).arrAt 7 cfg0.N = slabs (dCq R) := by
  refine ((rdat m c).withAfter after).arrAt_eq_of_covers 7 _ (by decide +kernel) fun t hf y => ?_
  obtain ⟨Y, -, s, G, e⟩ := hX 7 t hf
  obtain ⟨-, -, -, i, -⟩ := idx_out t
  blk_simp
  rw [RDat.withAfter_after, e]
  have hy : y = ix3 0 (y 1) (y 2) := (eq_ix3 y).trans (congrArg (fun a => ix3 a (y 1) (y 2)) (Subsingleton.elim (α := Fin 1) _ _))
  refine ((congrArg (point (grid0.coords t) s).x9 hy).trans (point9 A hL G ((flush0_7 t).1 hf) (y 1) (y 2))).trans (congrArg _ ?_)
  blk_ext [i]

theorem arr8 : ((rdat m c).withAfter after).arrAt 8 cfg0.N = slabs (dCk R) := by
  refine ((rdat m c).withAfter after).arrAt_eq_of_covers 8 _ (by decide +kernel) fun t hf y => ?_
  obtain ⟨Y, -, s, G, e⟩ := hX 8 t hf
  obtain ⟨-, -, -, -, i⟩ := idx_out t
  blk_simp
  rw [RDat.withAfter_after, e]
  have hy : y = ix3 0 (y 1) (y 2) := (eq_ix3 y).trans (congrArg (fun a => ix3 a (y 1) (y 2)) (Subsingleton.elim (α := Fin 1) _ _))
  refine ((congrArg (point (grid0.coords t) s).x10 hy).trans (point10 A hL G (y 1) (y 2))).trans (congrArg _ ?_)
  blk_ext [i]

end Cert.Proof.Arr
-- ==== Proof.Final.lean ====
/-
  The value claim: from finite arguments the kernel's call and the reference's gradients are the same five arrays.
-/
module

public import proofs.«01_k».proof.Defs
public import proofs.«01_k».proof.Proof.Arr
public import proofs.«01_k».proof.Proof.Ref
public import proofs.«01_k».proof.Proof.Gen.KernelIdeal
public import proofs.«01_k».proof.Proof.Gen.ReferenceIdeal.Run

@[expose] public section

set_option maxRecDepth 16384

noncomputable section

namespace Cert.Proof.Final

open Cert.Proof.Spec Cert.Proof.Soft Cert.Proof.Lanes Cert.Proof.Arr
open Idealize.ShloMosaic Idealize.ShloMosaic.TcCoe
open Idealize.SL Idealize.SL.Sem Idealize.ShloMosaic.Pipeline

/-- The shape relations the precondition's program takes. -/
theorem pre_facts : Cert.Pre_finite.Facts := ⟨by decide, by decide⟩

/-- The real numbers an array holds. -/
def reals {n k : ℕ} (a : (⟨2, ![n, k]⟩ : Shape).Idx → EReal) (r l : ℕ) : ℝ :=
  if h : r < n ∧ l < k then (a (ix2 ⟨r, h.1⟩ ⟨l, h.2⟩)).toReal else 0

theorem inf_eq : Ideal.ofBits .f32 0x7F800000#32 = (⊤ : EReal) := by
  simp [Ideal.ofBits, Ideal.ieee]

/-- An array whose elements' magnitudes are below infinity holds real numbers. -/
theorem holds_of_finite {n k : ℕ} (a : FVec Ideal ⟨2, ![n, k]⟩ .f32) (hb : (⟨0, ![]⟩ : Shape).BroadcastsInDim ⟨2, ![n, k]⟩ (![] : Fin 0 → Fin 2))
    (h : cmpf .olt (Host.absf a) (broadcastInDim ⟨2, ![n, k]⟩ ![] hb (constant ⟨0, ![]⟩ .f32 0x7F800000#32)) = fun _ => 1#1) : Holds a (reals a) := by
  intro r l
  have e := congrFun h (ix2 r l)
  rw [reals, dif_pos ⟨r.isLt, l.isLt⟩]
  pointwise at e
  have lt : max (a (ix2 r l) : EReal) (-(a (ix2 r l) : EReal)) < ⊤ := by
    by_contra hn
    rw [inf_eq] at e
    exact absurd (e.symm.trans (congrArg BitVec.ofBool (decide_eq_false hn))) (by decide)
  refine (EReal.coe_toReal ?_ ?_).symm
  · exact ((le_max_left _ _).trans_lt lt).ne
  · intro hbot
    have := (le_max_right _ _).trans_lt lt
    rw [hbot] at this
    exact absurd this (by simp)

/-- A column as a head and a lane. -/
theorem split_col {x : Wide} {f : ℕ → ℕ → ℕ → ℝ}
    (H : ∀ (r : Fin 8192) (h : Fin 8) (l : Fin 64), x (ix2 r ⟨64 * h.val + l.val, by omega⟩) = ((f h.val r.val (64 * h.val + l.val) : ℝ) : EReal)) : x = wide f := by
  funext y
  have e := H (y 0) ⟨(y 1).val / 64, by have : (y 1).val < 512 := (y 1).isLt; omega⟩ ⟨(y 1).val % 64, Nat.mod_lt _ (by norm_num)⟩
  have e' : (⟨64 * ((y 1).val / 64) + (y 1).val % 64, by have : (y 1).val < 512 := (y 1).isLt; omega⟩ : Fin 512) = y 1 := Fin.ext (Nat.div_add_mod _ _)
  have e'' : 64 * ((y 1).val / 64) + (y 1).val % 64 = (y 1).val := Nat.div_add_mod _ _
  dsimp only at e
  rw [e'] at e
  rw [e''] at e
  exact (congrArg x (eq_ix2 y)).trans e

theorem slab_eq {x : Gate} {f : ℕ → ℕ → ℝ} (H : Holds x fun r h => f h r) : slab x = slabs f := by
  funext y
  refine (congrArg (slab x) (eq_ix3 y)).trans ((slab_apply x (y 0) (y 1) (y 2)).trans ?_)
  refine Eq.trans ?_ (congrArg (slabs f) (eq_ix3 y)).symm
  refine Eq.trans ?_ (slabs_apply f (y 0) (y 1) (y 2)).symm
  split
  · exact H _ _
  · rfl

section Reference

variable {R : Reals} {q k v d : Wide} {c : Gate}
  (hq : Holds q R.Q) (hk : Holds k R.K) (hv : Holds v R.W) (hd : Holds d R.D) (hc : Holds c R.C)
include hq hk hv hd hc

theorem ref0 : dqT k (eighths (backT q k v d c)) = wide (dQ R) := split_col fun r h l => by
  rw [dqT_apply R hk (eighths_holds (backT_holds R hq hk hv hd hc)), dQ, Finset.sum_mul]
  refine congrArg _ (Finset.sum_congr rfl fun j _ => ?_)
  ring

theorem ref1 : dkT q (eighths (backT q k v d c)) = wide (dK R) := split_col fun r h l => by
  rw [dkT_apply R hq (eighths_holds (backT_holds R hq hk hv hd hc)), dK]
  refine congrArg _ (Finset.sum_congr rfl fun j _ => ?_)
  ring

theorem ref2 : dvT d (probT q k c) = wide (dW R) := split_col fun r h l => by
  rw [dvT_apply R hd (probT_holds R hq hk hc), dW]

theorem ref3 : slab (cqT (backT q k v d c)) = slabs (dCq R) := slab_eq (cqT_holds (backT_holds R hq hk hv hd hc))

theorem ref4 : slab (ckT (backT q k v d c)) = slabs (dCk R) := slab_eq (ckT_holds (backT_holds R hq hk hv hd hc))

end Reference

section Kernel

open Cert.KernelIdeal

variable (m : (ℓ : Loc nD τ sig) → Buf (Elt Ideal) ℓ) (c : Dev nD)

/-- The real numbers the arguments hold. -/
def args : Reals where
  Q := reals (n := 8192) (k := 512) (m (c, main_arg0))
  K := reals (n := 8192) (k := 512) (m (c, main_arg1))
  W := reals (n := 8192) (k := 512) (m (c, main_arg2))
  C := reals (n := 8192) (k := 8) (m (c, main_arg3))
  D := reals (n := 8192) (k := 512) (m (c, main_arg4))

theorem inputs (h : Cert.Pre_KernelIdeal_finite (hPre_finite := pre_facts) m) : Inputs (args m c) fun b => m (c, b) := by
  obtain ⟨h0, h1, h2, h3, h4⟩ := h c
  exact ⟨holds_of_finite _ _ h0, holds_of_finite _ _ h1, holds_of_finite _ _ h2, holds_of_finite _ _ h3, holds_of_finite _ _ h4⟩

theorem kernel_run (g : Dev nD → PrngReg) (h : Cert.Pre_KernelIdeal_finite (hPre_finite := pre_facts) m) :
    θ_run (defs (F := Ideal)) (onTc (τ := τ) (main (F := Ideal))) ⟨m, fun _ => 0, g⟩ (fun r => ∀ c : Dev nD,
      r.2.mem ((c.tc : Thread nD τ).loc main_v374_0) = wide (dQ (args m c))
      ∧ r.2.mem ((c.tc : Thread nD τ).loc main_v374_1) = wide (dK (args m c))
      ∧ r.2.mem ((c.tc : Thread nD τ).loc main_v374_2) = wide (dW (args m c))
      ∧ r.2.mem ((c.tc : Thread nD τ).loc main_v374_3) = slabs (dCq (args m c))
      ∧ r.2.mem ((c.tc : Thread nD τ).loc main_v374_4) = slabs (dCk (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r H c => by
    obtain ⟨after, hX, hA⟩ := RDat.FramePost.exists_exact H.1 c
    obtain ⟨L, hL, A⟩ := Grid.arrays m c (inputs m c h)
    exact ⟨(hA 4).trans (arr4 A hL hX), (hA 5).trans (arr5 A hL hX), (hA 6).trans (arr6 A hL hX), (hA 7).trans (arr7 A hL hX), (hA 8).trans (arr8 A hL hX),
      Attn.args_kept m H.1 c⟩) (Attn.run_main m g)

end Kernel

/-- The value claim. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  refine ⟨fun c => wide (dQ (args m c)), fun c => wide (dK (args m c)), fun c => wide (dW (args m c)), fun c => slabs (dCq (args m c)),
    fun c => slabs (dCk (args m c)), kernel_run m g hpre, ?_⟩
  refine (θ_run Cert.ReferenceIdeal.defs _ _).mono (fun r H c => ?_) (Cert.ReferenceIdeal.Value.run (F := Ideal) m' g')
  obtain ⟨r0, r1, r2, r3, r4, hk⟩ := H c
  obtain ⟨a0, a1, a2, a3, a4⟩ := hargs c
  have I := inputs m c hpre
  have q : Holds (m' ((c.tc : Thread ReferenceIdeal.nD ReferenceIdeal.τ).loc ReferenceIdeal.main_arg0)) (args m c).Q := a0 ▸ I.q
  have k : Holds (m' ((c.tc : Thread ReferenceIdeal.nD ReferenceIdeal.τ).loc ReferenceIdeal.main_arg1)) (args m c).K := a1 ▸ I.k
  have v : Holds (m' ((c.tc : Thread ReferenceIdeal.nD ReferenceIdeal.τ).loc ReferenceIdeal.main_arg2)) (args m c).W := a2 ▸ I.v
  have l : Holds (m' ((c.tc : Thread ReferenceIdeal.nD ReferenceIdeal.τ).loc ReferenceIdeal.main_arg3)) (args m c).C := a3 ▸ I.c
  have d : Holds (m' ((c.tc : Thread ReferenceIdeal.nD ReferenceIdeal.τ).loc ReferenceIdeal.main_arg4)) (args m c).D := a4 ▸ I.d
  exact ⟨r0.trans ((out0_eq m' c).trans (ref0 q k v d l)), r1.trans ((out1_eq m' c).trans (ref1 q k v d l)),
    r2.trans ((out2_eq m' c).trans (ref2 q k v d l)), r3.trans ((out3_eq m' c).trans (ref3 q k v d l)),
    r4.trans ((out4_eq m' c).trans (ref4 q k v d l)), hk⟩

end Cert.Proof.Final
-- ==== Proof.Up.lean ====
/-
  The gradient of the weights of the MLP's first product: per block of columns the kernel adds four products, over a
  quarter of the tokens each, in a buffer it carries from grid point to grid point, and writes the sum out at the fourth.
  The columns are those of the up half and then of the gate half, which the gradient that comes in holds one after the
  other as two arrays.
-/
module

public import proofs.«01_k».proof.Defs
public import proofs.«01_k».proof.Proof.Gen.KernelUpIdeal.Frame
public import proofs.«01_k».proof.Proof.Gen.ReferenceUpIdeal.Run
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof.Up

open Idealize.ShloMosaic Idealize.ShloMosaic.TcCoe Idealize.SL.Sem
open Idealize.ShloMosaic.Pipeline (Dat)
open Cert.KernelUpIdeal Cert.KernelUpIdeal.Gen

variable (m : (ℓ : Loc nD τ sig) → Buf (Elt Ideal) ℓ)

/-- The two halves of the incoming gradient, side by side. -/
abbrev halves (b : FVec Ideal Cert.ReferenceUpIdeal.S2x8192x2816 .bf16) : FVec Ideal Cert.ReferenceUpIdeal.S8192x5632 .bf16 :=
  concatenate Cert.ReferenceUpIdeal.S8192x5632 1
    [⟨Cert.ReferenceUpIdeal.S8192x2816, shapeCast _ (extractStridedSlice Cert.ReferenceUpIdeal.S1x8192x2816 ![0, 0, 0] b
        Cert.ReferenceUpIdeal.Gen.slices_S2x8192x2816_S1x8192x2816_0_0_0) Cert.ReferenceUpIdeal.Gen.shapeCasts_S1x8192x2816_S8192x2816⟩,
     ⟨Cert.ReferenceUpIdeal.S8192x2816, shapeCast _ (extractStridedSlice Cert.ReferenceUpIdeal.S1x8192x2816 ![1, 0, 0] b
        Cert.ReferenceUpIdeal.Gen.slices_S2x8192x2816_S1x8192x2816_1_0_0) Cert.ReferenceUpIdeal.Gen.shapeCasts_S1x8192x2816_S8192x2816⟩]
    Cert.ReferenceUpIdeal.Gen.concatenates_S8192x2816_S8192x2816_S8192x5632_d1

/-- The gradient the reference takes: the product over the tokens, with its two axes exchanged. -/
abbrev product (a : FVec Ideal Cert.ReferenceUpIdeal.S8192x1024 .bf16) (b : FVec Ideal Cert.ReferenceUpIdeal.S2x8192x2816 .bf16) :
    FVec Ideal Cert.ReferenceUpIdeal.S1024x5632 .f32 :=
  transpose Cert.ReferenceUpIdeal.S1024x5632 [1, 0]
    (Host.dotGeneral (F := Ideal) Cert.ReferenceUpIdeal.dot_S8192x5632_S8192x1024_S5632x1024_0_0_1_1_n_n none
      (extf .f32 (halves b) Cert.ReferenceUpIdeal.Gen.bitsLt_bf16_f32) (extf .f32 a Cert.ReferenceUpIdeal.Gen.bitsLt_bf16_f32))
    Cert.ReferenceUpIdeal.Gen.transposes_S5632x1024_S1024x5632_1_0

/-- Which block each array hands the body at a grid point. -/
theorem idx : ∀ t : Fin cfg0.N, win0_0.index t = ![t.val % 4, 0] ∧ win0_1.index t = ![t.val / 8, t.val % 4, t.val / 4 % 2]
    ∧ win0_2.index t = ![0, t.val / 4] :=
  (by decide +kernel : ∀ t : Fin grid0.N, _)

/-- One block of each operand, multiplied over its tokens. -/
abbrev part (x : Vec Ideal S2048x1024 .bf16) (y : Vec Ideal S1x2048x1408 .bf16) (j : S1024x1408.Idx) : EReal :=
  ∑ k : Fin 2048, x (ix2 k (j 0)) * y (ix3 0 k (j 1))

/-- What the first of four grid points leaves in the carried buffer. -/
theorem first (x : Vec Ideal S2048x1024 .bf16) (y : Vec Ideal S1x2048x1408 .bf16) (j) : k0_pay2 x y j = part x y j := by
  pointwise [k0_pay2, k0_pay1, part]

/-- What each later grid point adds to the carried buffer. -/
theorem later (x : Vec Ideal S2048x1024 .bf16) (y : Vec Ideal S1x2048x1408 .bf16) (a : Vec Ideal S1024x1408 .f32) (j) :
    k0_pay3 x y a j = a j + part x y j := by
  pointwise [k0_pay3, k0_pay1, part]

/-- The halves side by side, element by element. -/
theorem halves_at (b : FVec Ideal Cert.ReferenceUpIdeal.S2x8192x2816 .bf16) (r : Fin 8192) (j : Fin 5632) :
    halves b (ix2 r j) = b (ix3 ⟨j.val / 2816, by omega⟩ r ⟨j.val % 2816, by omega⟩) := by
  pointwise [halves]
  blk_point []

/-- The reference's gradient, element by element. -/
theorem product_at (a : FVec Ideal Cert.ReferenceUpIdeal.S8192x1024 .bf16) (b : FVec Ideal Cert.ReferenceUpIdeal.S2x8192x2816 .bf16) (i) :
    product a b i =
    ∑ k : Fin 8192, a (ix2 k (i 0)) * b (ix3 ⟨(i 1).val / 2816, by have h : (i 1).val < 5632 := (i 1).isLt; omega⟩ k ⟨(i 1).val % 2816, by omega⟩) := by
  have e (h : FVec Ideal Cert.ReferenceUpIdeal.S8192x5632 .bf16) : transpose Cert.ReferenceUpIdeal.S1024x5632 [1, 0]
      (Host.dotGeneral (F := Ideal) Cert.ReferenceUpIdeal.dot_S8192x5632_S8192x1024_S5632x1024_0_0_1_1_n_n none
        (extf .f32 h Cert.ReferenceUpIdeal.Gen.bitsLt_bf16_f32) (extf .f32 a Cert.ReferenceUpIdeal.Gen.bitsLt_bf16_f32))
      Cert.ReferenceUpIdeal.Gen.transposes_S5632x1024_S1024x5632_1_0 i = ∑ k : Fin 8192, h (ix2 k (i 1)) * a (ix2 k (i 0)) := by
    pointwise
  exact (e (halves b)).trans (Finset.sum_congr rfl fun k _ => (congrArg (· * a (ix2 k (i 0))) (halves_at b k (i 1))).trans (mul_comm _ _))

/-- At a grid point that writes a block out, the block is what the carried buffer holds. -/
theorem written (c : Dev nD) (t : Fin cfg0.N) (h : t.val % 4 = 3) :
    (outsAt0 m c t.val t.isLt).1 = (outsAt0 m c t.val t.isLt).2 := by
  rw [outsAt0_C m c t (by omega) (by omega) h]
  frame_out

/-- The carried buffer at the first of four grid points. -/
theorem carried_first (c : Dev nD) (t : Fin cfg0.N) (h : t.val % 4 = 0) :
    (outsAt0 m c t.val t.isLt).2 = k0_pay2 (iblk m c 0 t) (iblk m c 1 t) := by
  rw [outsAt0_A m c t h (by omega) (by omega)]
  frame_out

/-- The carried buffer at a later grid point. -/
theorem carried_later (c : Dev nD) (t : Fin cfg0.N) (h : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h' : t.val % 4 = 3
  · rw [outsAt0_C m c t h (by omega) h']
    frame_out
    rw [(Memref.isWhole_whole _).read_unread]
  · rw [outsAt0_B m c t h (by omega) h']
    frame_out
    rw [(Memref.isWhole_whole _).read_unread]

/-- The whole result after the run. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf),
    Pipeline.eq_sum_fin_of_reset_step_apply_of_flush (fun n h => (outsAt0 m c n h).2) 4 (fun _ => 0)
      (fun t j => part (iblk m c 0 t) (iblk m c 1 t) j)
      (fun t h j => by rw [carried_first m c t h, first, zero_add])
      (fun t h j => by rw [carried_later m c t h, later]) t ((flush0_2 t).mp hf) _, zero_add, product_at]
  refine Fin.sum_mul_add_congr fun s k hl => ?_
  blk_point [iblk, V, idx t, idx ⟨_, Pipeline.run_point_lt_of_flush t ((flush0_2 t).mp hf) s⟩]

/-- The kernel and the reference compute the same gradient of the first product's weights. -/
theorem algebraic : Cert.algebraic_KernelUpIdeal_ReferenceUpIdeal (hKernelUpIdeal := Cert.KernelUpIdeal.Gen.facts)
    (hReferenceUpIdeal := Cert.ReferenceUpIdeal.Gen.facts) := by
  pair_intro
  · run_from Cert.KernelUpIdeal.Gen.run_main m g
  · run_from Cert.ReferenceUpIdeal.Value.run m' g'
    exact (final m c).symm

end Cert.Proof.Up

end
-- ==== Proof.Down.lean ====
/-
  The gradient of the weights of the MLP's second product: per block of rows the kernel adds four products, over a
  quarter of the tokens each, in a buffer it carries from grid point to grid point, and writes the sum out at the fourth.
-/
module

public import proofs.«01_k».proof.Defs
public import proofs.«01_k».proof.Proof.Gen.KernelDownIdeal.Frame
public import proofs.«01_k».proof.Proof.Gen.ReferenceDownIdeal.Run
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof.Down

open Idealize.ShloMosaic Idealize.ShloMosaic.TcCoe Idealize.SL.Sem
open Idealize.ShloMosaic.Pipeline (Dat)
open Cert.KernelDownIdeal Cert.KernelDownIdeal.Gen

variable (m : (ℓ : Loc nD τ sig) → Buf (Elt Ideal) ℓ)

/-- The gradient the reference takes: the product over the tokens, with its two axes exchanged. -/
abbrev product (a : FVec Ideal Cert.ReferenceDownIdeal.S8192x2816 .bf16) (b : FVec Ideal Cert.ReferenceDownIdeal.S8192x1024 .bf16) :
    FVec Ideal Cert.ReferenceDownIdeal.S2816x1024 .f32 :=
  transpose Cert.ReferenceDownIdeal.S2816x1024 [1, 0]
    (Host.dotGeneral (F := Ideal) Cert.ReferenceDownIdeal.dot_S8192x1024_S8192x2816_S1024x2816_0_0_1_1_n_n none
      (extf .f32 b Cert.ReferenceDownIdeal.Gen.bitsLt_bf16_f32) (extf .f32 a Cert.ReferenceDownIdeal.Gen.bitsLt_bf16_f32))
    Cert.ReferenceDownIdeal.Gen.transposes_S1024x2816_S2816x1024_1_0

/-- Which block each array hands the body at a grid point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- One block of each operand, multiplied over its tokens. -/
abbrev part (x : Vec Ideal S2048x1408 .bf16) (y : Vec Ideal S2048x1024 .bf16) (j : S1408x1024.Idx) : EReal :=
  ∑ k : Fin 2048, x (ix2 k (j 0)) * y (ix2 k (j 1))

/-- What the first of four grid points leaves in the carried buffer. -/
theorem first (x : Vec Ideal S2048x1408 .bf16) (y : Vec Ideal S2048x1024 .bf16) (j) :
    k0_pay2 x y j = part x y j := by
  pointwise [k0_pay2, k0_pay1, part]

/-- What each later grid point adds to the carried buffer. -/
theorem later (x : Vec Ideal S2048x1408 .bf16) (y : Vec Ideal S2048x1024 .bf16) (a : Vec Ideal S1408x1024 .f32) (j) :
    k0_pay3 x y a j = a j + part x y j := by
  pointwise [k0_pay3, k0_pay1, part]

/-- The reference's gradient, element by element. -/
theorem product_at (a : FVec Ideal Cert.ReferenceDownIdeal.S8192x2816 .bf16) (b : FVec Ideal Cert.ReferenceDownIdeal.S8192x1024 .bf16) (i) :
    product a b i = ∑ k : Fin 8192, a (ix2 k (i 0)) * b (ix2 k (i 1)) := by
  pointwise [product]
  exact Finset.sum_congr rfl fun k _ => mul_comm _ _

/-- At a grid point that writes a block out, the block is what the carried buffer holds. -/
theorem written (c : Dev nD) (t : Fin cfg0.N) (h : t.val % 4 = 3) :
    (outsAt0 m c t.val t.isLt).1 = (outsAt0 m c t.val t.isLt).2 := by
  rw [outsAt0_C m c t (by omega) (by omega) h]
  frame_out

/-- The carried buffer at the first of four grid points. -/
theorem carried_first (c : Dev nD) (t : Fin cfg0.N) (h : t.val % 4 = 0) :
    (outsAt0 m c t.val t.isLt).2 = k0_pay2 (iblk m c 0 t) (iblk m c 1 t) := by
  rw [outsAt0_A m c t h (by omega) (by omega)]
  frame_out

/-- The carried buffer at a later grid point. -/
theorem carried_later (c : Dev nD) (t : Fin cfg0.N) (h : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h' : t.val % 4 = 3
  · rw [outsAt0_C m c t h (by omega) h']
    frame_out
    rw [(Memref.isWhole_whole _).read_unread]
  · rw [outsAt0_B m c t h (by omega) h']
    frame_out
    rw [(Memref.isWhole_whole _).read_unread]

/-- The whole result after the run. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf),
    Pipeline.eq_sum_fin_of_reset_step_apply_of_flush (fun n h => (outsAt0 m c n h).2) 4 (fun _ => 0)
      (fun t j => part (iblk m c 0 t) (iblk m c 1 t) j)
      (fun t h j => by rw [carried_first m c t h, first, zero_add])
      (fun t h j => by rw [carried_later m c t h, later]) t ((flush0_2 t).mp hf) _, zero_add, product_at]
  refine Fin.sum_mul_add_congr fun s k hl => ?_
  blk_point [iblk, V, idx t, idx ⟨_, Pipeline.run_point_lt_of_flush t ((flush0_2 t).mp hf) s⟩]

/-- The kernel and the reference compute the same gradient of the second product's weights. -/
theorem algebraic : Cert.algebraic_KernelDownIdeal_ReferenceDownIdeal (hKernelDownIdeal := Cert.KernelDownIdeal.Gen.facts)
    (hReferenceDownIdeal := Cert.ReferenceDownIdeal.Gen.facts) := by
  pair_intro
  · run_from Cert.KernelDownIdeal.Gen.run_main m g
  · run_from Cert.ReferenceDownIdeal.Value.run m' g'
    exact (final m c).symm

end Cert.Proof.Down

end
-- ==== Proof.Act.lean ====
/-
  The gradient at the MLP's gated activation: the kernel multiplies one block of the incoming gradient by one block of
  rows of the weights at every grid point, and each block of the result is written once.
-/
module

public import proofs.«01_k».proof.Defs
public import proofs.«01_k».proof.Proof.Gen.KernelActIdeal.Frame
public import proofs.«01_k».proof.Proof.Gen.ReferenceActIdeal.Run
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof.Act

open Idealize.ShloMosaic Idealize.ShloMosaic.TcCoe Idealize.SL.Sem
open Idealize.ShloMosaic.Pipeline (Dat)
open Cert.KernelActIdeal Cert.KernelActIdeal.Gen

variable (m : (ℓ : Loc nD τ sig) → Buf (Elt Ideal) ℓ)

/-- The product the reference takes: rows of the gradient against rows of the weights. -/
abbrev product (a : FVec Ideal Cert.ReferenceActIdeal.S8192x1024 .bf16) (b : FVec Ideal Cert.ReferenceActIdeal.S2816x1024 .bf16) :
    FVec Ideal Cert.ReferenceActIdeal.S8192x2816 .f32 :=
  Host.dotGeneral (F := Ideal) Cert.ReferenceActIdeal.dot_S8192x1024_S2816x1024_S8192x2816_1_1_0_0_n_n none
    (extf .f32 a Cert.ReferenceActIdeal.Gen.bitsLt_bf16_f32) (extf .f32 b Cert.ReferenceActIdeal.Gen.bitsLt_bf16_f32)

/-- Which block each array hands the body at a grid point. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- What the body stores at a grid point is the reference's product at the rows and columns of that block. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The whole result after the run. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

/-- The kernel and the reference compute the same gradient at the activation. -/
theorem algebraic : Cert.algebraic_KernelActIdeal_ReferenceActIdeal (hKernelActIdeal := Cert.KernelActIdeal.Gen.facts)
    (hReferenceActIdeal := Cert.ReferenceActIdeal.Gen.facts) := by
  pair_intro
  · run_from Cert.KernelActIdeal.Gen.run_main m g
  · run_from Cert.ReferenceActIdeal.Value.run m' g'
    exact (final m c).symm

end Cert.Proof.Act

end
-- ==== Proof.Out.lean ====
/-
  The gradient of the output projection's weights: at each of eight grid points the kernel adds to the whole result the
  product over an eighth of the tokens, the upper rows from the attention's output and the lower rows from the gated
  branch's.
-/
module

public import proofs.«01_k».proof.Defs
public import proofs.«01_k».proof.Proof.Gen.KernelOutIdeal.Frame
public import proofs.«01_k».proof.Proof.Gen.ReferenceOutIdeal.Run
public import Idealize.ShloMosaic.Lib.Pipeline.Value
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.Proof.Out

open Idealize.ShloMosaic Idealize.ShloMosaic.TcCoe Idealize.SL.Sem
open Idealize.ShloMosaic.Pipeline (Dat)
open Cert.KernelOutIdeal Cert.KernelOutIdeal.Gen

variable (m : (ℓ : Loc nD τ sig) → Buf (Elt Ideal) ℓ)

/-- The two operands the reference multiplies by, side by side. -/
abbrev sides (a b : FVec Ideal Cert.ReferenceOutIdeal.S8192x512 .bf16) : FVec Ideal Cert.ReferenceOutIdeal.S8192x1024 .bf16 :=
  concatenate Cert.ReferenceOutIdeal.S8192x1024 1 [⟨Cert.ReferenceOutIdeal.S8192x512, a⟩, ⟨Cert.ReferenceOutIdeal.S8192x512, b⟩]
    Cert.ReferenceOutIdeal.Gen.concatenates_S8192x512_S8192x512_S8192x1024_d1

/-- The gradient the reference takes: the product over the tokens, with its two axes exchanged. -/
abbrev product (a b : FVec Ideal Cert.ReferenceOutIdeal.S8192x512 .bf16) (d : FVec Ideal Cert.ReferenceOutIdeal.S8192x1024 .bf16) :
    FVec Ideal Cert.ReferenceOutIdeal.S1024x1024 .f32 :=
  transpose Cert.ReferenceOutIdeal.S1024x1024 [1, 0]
    (Host.dotGeneral (F := Ideal) Cert.ReferenceOutIdeal.dot_S8192x1024_S8192x1024_S1024x1024_0_0_1_1_n_n none
      (extf .f32 d Cert.ReferenceOutIdeal.Gen.bitsLt_bf16_f32) (extf .f32 (sides a b) Cert.ReferenceOutIdeal.Gen.bitsLt_bf16_f32))
    Cert.ReferenceOutIdeal.Gen.transposes_S1024x1024_S1024x1024_1_0

/-- Which block each array hands the body at a grid point. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- What a grid point adds: the block of tokens multiplied, the upper rows from one operand and the lower from the other. -/
def part (x y : Vec Ideal S1024x512 .bf16) (z : Vec Ideal S1024x1024 .bf16) : Vec Ideal S1024x1024 .f32 := fun j =>
  ∑ k : Fin 1024, (if h : (j 0).val < 512 then x (ix2 k ⟨(j 0).val, h⟩)
    else y (ix2 k ⟨(j 0).val - 512, by have e : (j 0).val < 1024 := (j 0).isLt; omega⟩)) * z (ix2 k (j 1))

theorem part_upper (x y : Vec Ideal S1024x512 .bf16) (z : Vec Ideal S1024x1024 .bf16) (j : S1024x1024.Idx) (i : S512x1024.Idx)
    (h0 : (j 0).val = (i 0).val) (h1 : (j 1).val = (i 1).val) : part x y z j = ∑ k : Fin 1024, x (ix2 k (i 0)) * z (ix2 k (i 1)) := by
  have e : (i 0).val < 512 := (i 0).isLt
  refine Fin.sum_fin_congr fun k => ?_
  rw [dif_pos (h0 ▸ e)]
  exact congrArg₂ (· * ·) (congrArg (fun a => x (ix2 k a)) (Fin.ext h0)) (congrArg (fun a => z (ix2 k a)) (Fin.ext h1))

theorem part_lower (x y : Vec Ideal S1024x512 .bf16) (z : Vec Ideal S1024x1024 .bf16) (j : S1024x1024.Idx) (i : S512x1024.Idx)
    (h0 : (j 0).val = 512 + (i 0).val) (h1 : (j 1).val = (i 1).val) :
    part x y z j = ∑ k : Fin 1024, y (ix2 k (i 0)) * z (ix2 k (i 1)) := by
  refine Fin.sum_fin_congr fun k => ?_
  rw [dif_neg (by omega)]
  exact congrArg₂ (· * ·) (congrArg (fun a => y (ix2 k a)) (Fin.ext (by dsimp only; omega))) (congrArg (fun a => z (ix2 k a)) (Fin.ext h1))

/-- The upper rows, element by element. -/
theorem upper (z : Vec Ideal S1024x1024 .bf16) (a : Vec Ideal S512x1024 .f32) (x : Vec Ideal S1024x512 .bf16) (i) :
    k0_pay2 z a x i = a i + ∑ k : Fin 1024, x (ix2 k (i 0)) * z (ix2 k (i 1)) := by
  pointwise [k0_pay2]

/-- The lower rows, element by element. -/
theorem lower (z : Vec Ideal S1024x1024 .bf16) (a : Vec Ideal S512x1024 .f32) (x : Vec Ideal S1024x512 .bf16) (i) :
    k0_pay3 z a x i = a i + ∑ k : Fin 1024, x (ix2 k (i 0)) * z (ix2 k (i 1)) := by
  pointwise [k0_pay3]

/-- The array the first grid point clears. -/
theorem cleared (i) : k0_pay1 (F := Ideal) i = 0 := by
  pointwise [k0_pay1]

/-- After the first grid point. -/
theorem carried_first (c : Dev nD) (t : Fin cfg0.N) (h : t.val % 8 = 0) (j) :
    outsAt0 m c t.val t.isLt j = part (iblk m c 0 t) (iblk m c 1 t) (iblk m c 2 t) j := by
  rw [outsAt0_A m c t h]
  frame_open
  simp (disch := decide) only [↓ View.readCov_skip, ↓ View.readCov_cons_toLoadRect, ↓ View.readCov_fill]
  frame_out
  refine View.canon_append_of_piecesOf (part (iblk m c 0 t) (iblk m c 1 t) (iblk m c 2 t)) [_] [_, _] ⟨?_, ?_, trivial⟩ j ?_
  · intro x
    dsimp only
    rw [lower, View.ld_apply, cleared, zero_add]
    refine (part_lower _ _ _ _ x ?_ ?_).symm <;> blk_simp
  · intro x
    dsimp only
    rw [upper, View.ld_apply, cleared, zero_add]
    refine (part_upper _ _ _ _ x ?_ ?_).symm <;> blk_simp
  · exact View.cover_of_tiledL _ ![512, 1024] rfl j

/-- After a later grid point. -/
theorem carried_later (c : Dev nD) (t : Fin cfg0.N) (h : ¬t.val % 8 = 0) (j) :
    outsAt0 m c t.val t.isLt j = outsAt0 m c (t.val - 1) (Nat.lt_of_le_of_lt (Nat.sub_le _ _) t.isLt) j
      + part (iblk m c 0 t) (iblk m c 1 t) (iblk m c 2 t) j := by
  rw [outsAt0_B m c t h]
  frame_out
  canon_tiles x h
  · rw [lower, part_lower _ _ _ j x h0 h1]
    exact congrArg (· + _) (View.ld_unit_apply_of _ _ _ _ x j (Fin.forall_fin_two.mpr ⟨h0, h1.trans (Nat.zero_add _).symm⟩))
  · rw [upper, part_upper _ _ _ j x h0 h1]
    exact congrArg (· + _) (View.ld_unit_apply_of _ _ _ _ x j
      (Fin.forall_fin_two.mpr ⟨h0.trans (Nat.zero_add _).symm, h1.trans (Nat.zero_add _).symm⟩))

/-- The operands side by side, element by element. -/
theorem sides_at (a b : FVec Ideal Cert.ReferenceOutIdeal.S8192x512 .bf16) (r : Fin 8192) (j : Fin 1024) :
    sides a b (ix2 r j) = if h : j.val < 512 then a (ix2 r ⟨j.val, h⟩) else b (ix2 r ⟨j.val - 512, by omega⟩) := by
  pointwise [sides]

/-- The reference's gradient, element by element. -/
theorem product_at (a b : FVec Ideal Cert.ReferenceOutIdeal.S8192x512 .bf16) (d : FVec Ideal Cert.ReferenceOutIdeal.S8192x1024 .bf16) (i) :
    product a b d i = ∑ k : Fin 8192, (if h : (i 0).val < 512 then a (ix2 k ⟨(i 0).val, h⟩)
      else b (ix2 k ⟨(i 0).val - 512, by have e : (i 0).val < 1024 := (i 0).isLt; omega⟩)) * d (ix2 k (i 1)) := by
  have e (s : FVec Ideal Cert.ReferenceOutIdeal.S8192x1024 .bf16) : transpose Cert.ReferenceOutIdeal.S1024x1024 [1, 0]
      (Host.dotGeneral (F := Ideal) Cert.ReferenceOutIdeal.dot_S8192x1024_S8192x1024_S1024x1024_0_0_1_1_n_n none
        (extf .f32 d Cert.ReferenceOutIdeal.Gen.bitsLt_bf16_f32) (extf .f32 s Cert.ReferenceOutIdeal.Gen.bitsLt_bf16_f32))
      Cert.ReferenceOutIdeal.Gen.transposes_S1024x1024_S1024x1024_1_0 i = ∑ k : Fin 8192, d (ix2 k (i 1)) * s (ix2 k (i 0)) := by
    pointwise
  exact (e (sides a b)).trans (Finset.sum_congr rfl fun k _ =>
    (congrArg (d (ix2 k (i 1)) * ·) (sides_at a b k (i 0))).trans (mul_comm _ _))

/-- The whole result after the run. -/
theorem final (c : Dev nD) : (dats m 0 c).arrAt 3 (cfgs 0).N = product (m ((c : Thread nD τ).loc main_arg0))
    (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => outsAt0 m c n h) 8 (fun _ => 0)
    (fun t j => part (iblk m c 0 t) (iblk m c 1 t) (iblk m c 2 t) j)
    (fun t h j => by rw [carried_first m c t h, zero_add]) (fun t h j => carried_later m c t h j) (le_of_eq N_0) t0_7 rfl j, zero_add, product_at]
  simp only [part]
  refine Fin.sum_mul_add_congr fun t k hl => ?_
  by_cases h : (j 0).val < 512
  · rw [dif_pos h, dif_pos h]
    blk_point [iblk, V, idx t]
  · rw [dif_neg h, dif_neg h]
    blk_point [iblk, V, idx t]

/-- The kernel and the reference compute the same gradient of the output projection's weights. -/
theorem algebraic : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Gen.run_main m g
  · run_from Cert.ReferenceOutIdeal.Value.run m' g'
    exact (final m c).symm

end Cert.Proof.Out

end
-- ==== Proof.In.lean ====
/-
  The gradient of the input projection's weights: at each of eight grid points the kernel adds to the whole result the
  product over an eighth of the tokens. Its columns come, in this order, from the gradients of the queries, keys and
  values, of the gated branch's inputs and of the forget gates.
-/
module

public import proofs.«01_k».proof.Defs
public import proofs.«01_k».proof.Proof.Gen.KernelInIdeal.Frame
public import proofs.«01_k».proof.Proof.Gen.ReferenceInIdeal.Run
public import Idealize.ShloMosaic.Lib.Pipeline.Value
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.Proof.In

open Idealize.ShloMosaic Idealize.ShloMosaic.TcCoe Idealize.SL.Sem
open Idealize.ShloMosaic.Pipeline (Dat)
open Cert.KernelInIdeal Cert.KernelInIdeal.Gen

variable (m : (ℓ : Loc nD τ sig) → Buf (Elt Ideal) ℓ)

/-- The five gradients side by side. -/
abbrev sides (a b c : FVec Ideal Cert.ReferenceInIdeal.S8192x512 .bf16) (d : FVec Ideal Cert.ReferenceInIdeal.S8192x1024 .bf16)
    (e : FVec Ideal Cert.ReferenceInIdeal.S8192x128 .bf16) : FVec Ideal Cert.ReferenceInIdeal.S8192x2688 .bf16 :=
  concatenate Cert.ReferenceInIdeal.S8192x2688 1 [⟨Cert.ReferenceInIdeal.S8192x512, a⟩, ⟨Cert.ReferenceInIdeal.S8192x512, b⟩,
    ⟨Cert.ReferenceInIdeal.S8192x512, c⟩, ⟨Cert.ReferenceInIdeal.S8192x1024, d⟩, ⟨Cert.ReferenceInIdeal.S8192x128, e⟩]
    Cert.ReferenceInIdeal.Gen.concatenates_S8192x512_S8192x512_S8192x512_S8192x1024_S8192x128_S8192x2688_d1

/-- The gradient the reference takes: the product over the tokens, with its two axes exchanged. -/
abbrev product (x : FVec Ideal Cert.ReferenceInIdeal.S8192x1024 .bf16) (a b c : FVec Ideal Cert.ReferenceInIdeal.S8192x512 .bf16) (d : FVec Ideal Cert.ReferenceInIdeal.S8192x1024 .bf16)
    (e : FVec Ideal Cert.ReferenceInIdeal.S8192x128 .bf16) :
    FVec Ideal Cert.ReferenceInIdeal.S1024x2688 .f32 :=
  transpose Cert.ReferenceInIdeal.S1024x2688 [1, 0]
    (Host.dotGeneral (F := Ideal) Cert.ReferenceInIdeal.dot_S8192x2688_S8192x1024_S2688x1024_0_0_1_1_n_n none
      (extf .f32 (sides a b c d e) Cert.ReferenceInIdeal.Gen.bitsLt_bf16_f32) (extf .f32 x Cert.ReferenceInIdeal.Gen.bitsLt_bf16_f32))
    Cert.ReferenceInIdeal.Gen.transposes_S2688x1024_S1024x2688_1_0

/-- Equal gradients give equal products. -/
theorem product_congr (x : FVec Ideal Cert.ReferenceInIdeal.S8192x1024 .bf16) {a a' b b' c c' : FVec Ideal Cert.ReferenceInIdeal.S8192x512 .bf16}
    {d d' : FVec Ideal Cert.ReferenceInIdeal.S8192x1024 .bf16} {e e' : FVec Ideal Cert.ReferenceInIdeal.S8192x128 .bf16} (ha : a = a')
    (hb : b = b') (hc : c = c') (hd : d = d') (he : e = e') : product x a b c d e = product x a' b' c' d' e' := by
  subst ha hb hc hd he
  rfl

/-- Which block each array hands the body at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Row `k` and column `l` of five arrays side by side. -/
def column {n : ℕ} (a b c : FVec Ideal ⟨2, ![n, 512]⟩ .bf16) (d : FVec Ideal ⟨2, ![n, 1024]⟩ .bf16) (e : FVec Ideal ⟨2, ![n, 128]⟩ .bf16)
    (k : Fin n) (l : Fin 2688) : EReal :=
  if h : l.val < 512 then a (ix2 k ⟨l.val, h⟩) else
  if h : l.val - 512 < 512 then b (ix2 k ⟨l.val - 512, h⟩) else
  if h : l.val - 512 - 512 < 512 then c (ix2 k ⟨l.val - 512 - 512, h⟩) else
  if h : l.val - 512 - 512 - 512 < 1024 then d (ix2 k ⟨l.val - 512 - 512 - 512, h⟩) else
  e (ix2 k ⟨l.val - 512 - 512 - 512 - 1024, by omega⟩)

section columns

variable {n : ℕ} (a b c : FVec Ideal ⟨2, ![n, 512]⟩ .bf16) (d : FVec Ideal ⟨2, ![n, 1024]⟩ .bf16) (e : FVec Ideal ⟨2, ![n, 128]⟩ .bf16)
  (k : Fin n) (l : Fin 2688)

theorem column_a (i : Fin 512) (h : l.val = i.val) : column a b c d e k l = a (ix2 k i) := by
  have := i.isLt
  rw [column, dif_pos (by omega)]
  exact congrArg (fun x => a (ix2 k x)) (Fin.ext (by dsimp only; omega))

theorem column_b (i : Fin 512) (h : l.val = 512 + i.val) : column a b c d e k l = b (ix2 k i) := by
  have := i.isLt
  rw [column, dif_neg (by omega), dif_pos (by omega)]
  exact congrArg (fun x => b (ix2 k x)) (Fin.ext (by dsimp only; omega))

theorem column_c (i : Fin 512) (h : l.val = 1024 + i.val) : column a b c d e k l = c (ix2 k i) := by
  have := i.isLt
  rw [column, dif_neg (by omega), dif_neg (by omega), dif_pos (by omega)]
  exact congrArg (fun x => c (ix2 k x)) (Fin.ext (by dsimp only; omega))

theorem column_d (i : Fin 1024) (h : l.val = 1536 + i.val) : column a b c d e k l = d (ix2 k i) := by
  have := i.isLt
  rw [column, dif_neg (by omega), dif_neg (by omega), dif_neg (by omega), dif_pos (by omega)]
  exact congrArg (fun x => d (ix2 k x)) (Fin.ext (by dsimp only; omega))

theorem column_e (i : Fin 128) (h : l.val = 2560 + i.val) : column a b c d e k l = e (ix2 k i) := by
  have := i.isLt
  rw [column, dif_neg (by omega), dif_neg (by omega), dif_neg (by omega), dif_neg (by omega)]
  exact congrArg (fun x => e (ix2 k x)) (Fin.ext (by dsimp only; omega))

/-- Equal rows of each array give equal elements of the whole. -/
theorem column_congr {n' : ℕ} {a' b' c' : FVec Ideal ⟨2, ![n', 512]⟩ .bf16} {d' : FVec Ideal ⟨2, ![n', 1024]⟩ .bf16}
    {e' : FVec Ideal ⟨2, ![n', 128]⟩ .bf16} {k' : Fin n'} (ha : ∀ i, a (ix2 k i) = a' (ix2 k' i)) (hb : ∀ i, b (ix2 k i) = b' (ix2 k' i))
    (hc : ∀ i, c (ix2 k i) = c' (ix2 k' i)) (hd : ∀ i, d (ix2 k i) = d' (ix2 k' i)) (he : ∀ i, e (ix2 k i) = e' (ix2 k' i)) :
    column a b c d e k l = column a' b' c' d' e' k' l := by
  unfold column
  split_ifs
  · exact ha _
  · exact hb _
  · exact hc _
  · exact hd _
  · exact he _

end columns

/-- What a grid point adds: its block of tokens, multiplied by the five blocks side by side. -/
def part (z : Vec Ideal S1024x1024 .bf16) (a b c : Vec Ideal S1024x512 .bf16) (d : Vec Ideal S1024x1024 .bf16) (e : Vec Ideal S1024x128 .bf16) :
    Vec Ideal S1024x2688 .f32 := fun j => ∑ k : Fin 1024, z (ix2 k (j 0)) * column a b c d e k (j 1)

/-- The part at a column of one of the five. -/
theorem part_at {w : ℕ} (x : FVec Ideal ⟨2, ![1024, w]⟩ .bf16) (z : Vec Ideal S1024x1024 .bf16) (a b c : Vec Ideal S1024x512 .bf16) (d : Vec Ideal S1024x1024 .bf16) (e : Vec Ideal S1024x128 .bf16)
    (j : S1024x2688.Idx) (i : (⟨2, ![1024, w]⟩ : Shape).Idx) (h0 : (j 0).val = (i 0).val)
    (h1 : ∀ k, column a b c d e k (j 1) = x (ix2 k (i 1))) :
    part z a b c d e j = ∑ k : Fin 1024, z (ix2 k (i 0)) * x (ix2 k (i 1)) :=
  Fin.sum_fin_congr fun k => congrArg₂ (· * ·) (congrArg (fun a => z (ix2 k a)) (Fin.ext h0)) (h1 k)

/-- The queries' columns, element by element. -/
theorem pay_a (z : Vec Ideal S1024x1024 .bf16) (v : Vec Ideal S1024x512 .f32) (x : Vec Ideal S1024x512 .bf16) (i) :
    k0_pay4 z v x i = v i + ∑ k : Fin 1024, z (ix2 k (i 0)) * x (ix2 k (i 1)) := by
  pointwise [k0_pay4]

/-- The keys' columns. -/
theorem pay_b (z : Vec Ideal S1024x1024 .bf16) (v : Vec Ideal S1024x512 .f32) (x : Vec Ideal S1024x512 .bf16) (i) :
    k0_pay5 z v x i = v i + ∑ k : Fin 1024, z (ix2 k (i 0)) * x (ix2 k (i 1)) := by
  pointwise [k0_pay5]

/-- The values' columns. -/
theorem pay_c (z : Vec Ideal S1024x1024 .bf16) (v : Vec Ideal S1024x512 .f32) (x : Vec Ideal S1024x512 .bf16) (i) :
    k0_pay6 z v x i = v i + ∑ k : Fin 1024, z (ix2 k (i 0)) * x (ix2 k (i 1)) := by
  pointwise [k0_pay6]

/-- The gated branch's columns. -/
theorem pay_d (z : Vec Ideal S1024x1024 .bf16) (v : Vec Ideal S1024x1024 .f32) (x : Vec Ideal S1024x1024 .bf16) (i) :
    k0_pay1 z (k0_pay7 v) x (constant S1024x1024 .f32 0x00000000#32) i = v i + ∑ k : Fin 1024, z (ix2 k (i 0)) * x (ix2 k (i 1)) := by
  pointwise [k0_pay1, k0_pay7]

/-- The forget gates' columns. -/
theorem pay_e (z : Vec Ideal S1024x1024 .bf16) (v : Vec Ideal S1024x128 .f32) (x : Vec Ideal S1024x128 .bf16) (i) :
    k0_pay2 z v x i = v i + ∑ k : Fin 1024, z (ix2 k (i 0)) * x (ix2 k (i 1)) := by
  pointwise [k0_pay2]

/-- The array the first grid point clears. -/
theorem cleared (i) : k0_pay3 (F := Ideal) i = 0 := by
  pointwise [k0_pay3]

/-- An array that a grid point finds, with the point's part added. -/
abbrev added (v : Vec Ideal S1024x2688 .f32) (z : Vec Ideal S1024x1024 .bf16) (a b c : Vec Ideal S1024x512 .bf16) (d : Vec Ideal S1024x1024 .bf16) (e : Vec Ideal S1024x128 .bf16) :
    Vec Ideal S1024x2688 .f32 := fun j => v j + part z a b c d e j

section stores

variable (v : Vec Ideal S1024x2688 .f32) (z : Vec Ideal S1024x1024 .bf16) (a b c : Vec Ideal S1024x512 .bf16)
  (d : Vec Ideal S1024x1024 .bf16) (e : Vec Ideal S1024x128 .bf16)

/-- What is stored in the queries' columns. -/
theorem store_a (x : S1024x512.Idx) :
    let r := Rect.unit (s := S1024x2688) ![0, 0] S1024x512.size inb_S1024x2688_S1024x512_0_0
    k0_pay4 z (View.ld v r) a x = added v z a b c d e (r.emb x) := by
  intro r
  rw [pay_a]
  refine congrArg₂ (· + ·) rfl (part_at _ _ _ _ _ _ _ _ x ?_ fun k => column_a _ _ _ _ _ k _ _ ?_).symm <;> blk_simp [r]

/-- What is stored in the keys' columns. -/
theorem store_b (x : S1024x512.Idx) :
    let r := Rect.unit (s := S1024x2688) ![0, 512] S1024x512.size inb_S1024x2688_S1024x512_0_512
    k0_pay5 z (View.ld v r) b x = added v z a b c d e (r.emb x) := by
  intro r
  rw [pay_b]
  refine congrArg₂ (· + ·) rfl (part_at _ _ _ _ _ _ _ _ x ?_ fun k => column_b _ _ _ _ _ k _ _ ?_).symm <;> blk_simp [r]

/-- What is stored in the values' columns. -/
theorem store_c (x : S1024x512.Idx) :
    let r := Rect.unit (s := S1024x2688) ![0, 1024] S1024x512.size inb_S1024x2688_S1024x512_0_1024
    k0_pay6 z (View.ld v r) c x = added v z a b c d e (r.emb x) := by
  intro r
  rw [pay_c]
  refine congrArg₂ (· + ·) rfl (part_at _ _ _ _ _ _ _ _ x ?_ fun k => column_c _ _ _ _ _ k _ _ ?_).symm <;> blk_simp [r]

/-- What is stored in the gated branch's columns. -/
theorem store_d (x : S1024x1024.Idx) :
    let r := Rect.unit (s := S1024x2688) ![0, 1536] S1024x1024.size inb_S1024x2688_S1024x1024_0_1536
    k0_pay1 z (k0_pay7 (View.ld v r)) d (constant S1024x1024 .f32 0x00000000#32) x = added v z a b c d e (r.emb x) := by
  intro r
  rw [pay_d]
  refine congrArg₂ (· + ·) rfl (part_at _ _ _ _ _ _ _ _ x ?_ fun k => column_d _ _ _ _ _ k _ _ ?_).symm <;> blk_simp [r]

/-- What is stored in the forget gates' columns. -/
theorem store_e (x : S1024x128.Idx) :
    let r := Rect.unit (s := S1024x2688) ![0, 2560] S1024x128.size inb_S1024x2688_S1024x128_0_2560
    k0_pay2 z (View.ld v r) e x = added v z a b c d e (r.emb x) := by
  intro r
  rw [pay_e]
  refine congrArg₂ (· + ·) rfl (part_at _ _ _ _ _ _ _ _ x ?_ fun k => column_e _ _ _ _ _ k _ _ ?_).symm <;> blk_simp [r]

end stores

/-- What grid point `t` adds. -/
abbrev term (c : Dev nD) (t : Fin cfg0.N) : Vec Ideal S1024x2688 .f32 :=
  part (iblk m c 0 t) (iblk m c 1 t) (iblk m c 2 t) (iblk m c 3 t) (iblk m c 4 t) (iblk m c 5 t)

/-- After the first grid point. -/
theorem carried_first (c : Dev nD) (t : Fin cfg0.N) (h : t.val % 8 = 0) (j) : outsAt0 m c t.val t.isLt j = term m c t j := by
  rw [outsAt0_A m c t h]
  frame_open
  simp (disch := decide) only [↓ View.readCov_skip, ↓ View.readCov_cons_toLoadRect, ↓ View.readCov_fill]
  frame_out
  refine (View.canon_append_of_piecesOf (added (k0_pay3 (F := Ideal)) (iblk m c 0 t) (iblk m c 1 t) (iblk m c 2 t) (iblk m c 3 t) (iblk m c 4 t) (iblk m c 5 t)) [_] [_, _, _, _, _]
    ⟨store_e _ _ _ _ _ _ _, store_d _ _ _ _ _ _ _, store_c _ _ _ _ _ _ _, store_b _ _ _ _ _ _ _, store_a _ _ _ _ _ _ _, trivial⟩ j
    (View.cover_of_tiledBy _ ![1024, 128] (by sl_kernel_rfl) j)).trans ?_
  rw [added, cleared, zero_add]

/-- After a later grid point. -/
theorem carried_later (c : Dev nD) (t : Fin cfg0.N) (h : ¬t.val % 8 = 0) (j) :
    outsAt0 m c t.val t.isLt j = outsAt0 m c (t.val - 1) (Nat.lt_of_le_of_lt (Nat.sub_le _ _) t.isLt) j + term m c t j := by
  rw [outsAt0_B m c t h]
  frame_out
  exact View.canon_append_of_piecesOf (added _ _ _ _ _ _ _) [] [_, _, _, _, _]
    ⟨store_e _ _ _ _ _ _ _, store_d _ _ _ _ _ _ _, store_c _ _ _ _ _ _ _, store_b _ _ _ _ _ _ _, store_a _ _ _ _ _ _ _, trivial⟩ j
    (View.cover_of_tiledBy _ ![1024, 128] (by sl_kernel_rfl) j)

/-- The five side by side, element by element. -/
theorem sides_at (a b c : FVec Ideal Cert.ReferenceInIdeal.S8192x512 .bf16) (d : FVec Ideal Cert.ReferenceInIdeal.S8192x1024 .bf16)
    (e : FVec Ideal Cert.ReferenceInIdeal.S8192x128 .bf16) (r : Fin 8192) (j : Fin 2688) :
    sides a b c d e (ix2 r j) = column a b c d e r j := by
  pointwise [sides, column]

/-- The reference's gradient, element by element. -/
theorem product_at (x : FVec Ideal Cert.ReferenceInIdeal.S8192x1024 .bf16) (a b c : FVec Ideal Cert.ReferenceInIdeal.S8192x512 .bf16) (d : FVec Ideal Cert.ReferenceInIdeal.S8192x1024 .bf16)
    (e : FVec Ideal Cert.ReferenceInIdeal.S8192x128 .bf16) (i) :
    product x a b c d e i = ∑ k : Fin 8192, x (ix2 k (i 0)) * column a b c d e k (i 1) := by
  have h (s : FVec Ideal Cert.ReferenceInIdeal.S8192x2688 .bf16) : transpose Cert.ReferenceInIdeal.S1024x2688 [1, 0]
      (Host.dotGeneral (F := Ideal) Cert.ReferenceInIdeal.dot_S8192x2688_S8192x1024_S2688x1024_0_0_1_1_n_n none
        (extf .f32 s Cert.ReferenceInIdeal.Gen.bitsLt_bf16_f32) (extf .f32 x Cert.ReferenceInIdeal.Gen.bitsLt_bf16_f32))
      Cert.ReferenceInIdeal.Gen.transposes_S2688x1024_S1024x2688_1_0 i = ∑ k : Fin 8192, s (ix2 k (i 1)) * x (ix2 k (i 0)) := by
    pointwise
  exact (h (sides a b c d e)).trans (Finset.sum_congr rfl fun k _ =>
    (congrArg (· * x (ix2 k (i 0))) (sides_at a b c d e k (i 1))).trans (mul_comm _ _))

/-- The whole result after the run. -/
theorem final (c : Dev nD) : (dats m 0 c).arrAt 6 (cfgs 0).N = product (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_after_last 6 t0_7 (by decide +kernel) _ fun j => ?_
  blk_simp
  rw [after0_6, Pipeline.eq_sum_fin_of_reset_step_apply_last (fun n h => outsAt0 m c n h) 8 (fun _ => 0) (fun t j => term m c t j)
    (fun t h j => by rw [carried_first m c t h, zero_add]) (fun t h j => carried_later m c t h j) (le_of_eq N_0) t0_7 rfl j, zero_add, product_at]
  simp only [term, part]
  refine Fin.sum_mul_add_congr fun t k hl => ?_
  refine congrArg₂ (· * ·) ?_ ?_
  · blk_ext [iblk, V, idx t]
  · refine column_congr _ _ _ _ _ _ _ ?_ ?_ ?_ ?_ ?_ <;> intro i <;> blk_point [iblk, V, idx t]

/-- The kernel and the reference compute the same gradient of the input projection's weights. -/
theorem algebraic : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Gen.run_main m g
  · run_from Cert.ReferenceInIdeal.Value.run m' g'
    obtain ⟨_, ha, hb, hc, hd, he⟩ := hagree c
    exact (product_congr _ ha hb hc hd he).trans (final m c).symm

end Cert.Proof.In

end
-- ==== Proof.X.lean ====
/-
  The gradient at the input: the incoming gradients of the input projection's five groups of columns, carried through
  the projection's weights and through the norm before it, and added to the gradient that passes by; and the gradient of
  the norm's gain.
-/
module

public import proofs.«01_k».proof.Defs
public import proofs.«01_k».proof.Proof.In
public import proofs.«01_k».proof.Proof.Gen.KernelXIdeal.Frame
public import proofs.«01_k».proof.Proof.Gen.ReferenceXIdeal.Run
public import Idealize.ShloMosaic.Lib.Pipeline.Value
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.Proof.X

open Idealize.ShloMosaic Idealize.ShloMosaic.TcCoe Idealize.SL.Sem
open Idealize.ShloMosaic.Pipeline (Dat)
open Cert.KernelXIdeal Cert.KernelXIdeal.Gen
open Cert.Proof.In (column column_a column_b column_c column_d column_e column_congr)

variable (m : (ℓ : Loc nD τ sig) → Buf (Elt Ideal) ℓ)

section row

/-- The width of a row, as both programs write it. -/
abbrev width : EReal := Ideal.ofBits .f32 0x44800000#32

/-- What the norm adds to the mean square. -/
abbrev eps : EReal := Ideal.ofBits .f32 0x358637BD#32

theorem width_eq : width = ((1024 : ℝ) : EReal) := by
  simp [width, Ideal.ofBits, Ideal.ieee, -EReal.coe_mul]
  norm_num

theorem half_eq : Ideal.ofBits .f32 0xBF000000#32 = ((-(1 / 2) : ℝ) : EReal) := by
  simp [Ideal.ofBits, Ideal.ieee, -EReal.coe_mul]
  norm_num

theorem eps_eq : ∃ e : ℝ, 0 < e ∧ eps = (e : EReal) := by
  refine ⟨_, ?_, by simp [eps, Ideal.ofBits, Ideal.ieee, -EReal.coe_mul]; rfl⟩
  norm_num

variable (x d : Fin 1024 → EReal)

/-- The mean square of a row, and what the norm adds to it. -/
abbrev square : EReal := Ideal.div (∑ k, x k * x k) width + eps

/-- A row's factor. -/
abbrev root : EReal := Ideal.rsqrt (square x)

theorem mul_self_nonneg (a : EReal) : 0 ≤ a * a := by
  induction a with
  | bot => simp
  | top => simp
  | coe r => rw [← EReal.coe_mul]; exact_mod_cast _root_.mul_self_nonneg r

/-- The factor is a real number that is not negative, and over the mean square it is its own cube. -/
theorem root_eq : ∃ r : ℝ, 0 ≤ r ∧ root x = (r : EReal) ∧ Ideal.div (root x) (square x) = ((r * r * r : ℝ) : EReal) := by
  obtain ⟨e, he, hee⟩ := eps_eq
  have h0 : 0 ≤ ∑ k, x k * x k := Finset.sum_nonneg fun k _ => mul_self_nonneg (x k)
  have hs : square x = (∑ k, x k * x k) * ((1 / 1024 : ℝ) : EReal) + (e : EReal) := by
    rw [square, width_eq, Ideal.div_coe (by norm_num), hee]
  generalize (∑ k, x k * x k) = s at h0 hs
  induction s with
  | bot => simp at h0
  | top =>
    have : square x = ⊤ := by
      rw [hs, EReal.top_mul_coe_of_pos (by norm_num), EReal.top_add_coe]
    exact ⟨0, le_rfl, by simp [root, this], by simp [root, this, Ideal.div]⟩
  | coe s =>
    have h0 : 0 ≤ s := by exact_mod_cast h0
    have hv : square x = ((s * (1 / 1024) + e : ℝ) : EReal) := by rw [hs]; push_cast; rfl
    have hp : 0 < s * (1 / 1024) + e := by positivity
    generalize s * (1 / 1024) + e = v at hv hp
    refine ⟨(Real.sqrt v)⁻¹, by positivity, ?_, ?_⟩
    · rw [root, hv, Ideal.rsqrt_coe, if_neg (by linarith), if_neg hp.ne']
    · rw [root, hv, Ideal.rsqrt_coe, if_neg (by linarith), if_neg hp.ne', Ideal.div_coe hp.ne', ← EReal.coe_mul]
      congr 1
      rw [mul_assoc, ← mul_inv, Real.mul_self_sqrt hp.le, one_div]

/-- A real factor that is not negative comes out of a sum. -/
theorem sum_mul_real {ι : Type} (s : Finset ι) (f : ι → EReal) {r : ℝ} (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

theorem add_self (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_mul, ← EReal.coe_add, mul_two]

/-- The gradient through the norm as the kernel has it, and as the chain rule gives it term by term. -/
theorem row_eq (j : Fin 1024) :
    root x * (d j - x j * root x * Ideal.div (∑ k, d k * (x k * root x)) width)
      = d j * root x + x j * Ideal.div ((∑ k, x k * d k) * (Ideal.ofBits .f32 0xBF000000#32 * Ideal.div (root x) (square x))) width
        + Ideal.div ((∑ k, x k * d k) * (Ideal.ofBits .f32 0xBF000000#32 * Ideal.div (root x) (square x))) width * x j := by
  obtain ⟨r, hr, h1, h2⟩ := root_eq x
  rw [h2, h1, half_eq, width_eq, Ideal.div_coe (by norm_num), Ideal.div_coe (by norm_num),
    mul_comm (_ * ((1 / 1024 : ℝ) : EReal)) (x j), add_assoc, add_self]
  rw [Finset.sum_congr rfl fun k _ => show d k * (x k * (r : EReal)) = x k * d k * r by ac_rfl, sum_mul_real _ _ hr]
  generalize (∑ k, x k * d k) = s
  rw [sub_eq_add_neg, EReal.left_distrib_of_nonneg_of_ne_top (by exact_mod_cast hr) (EReal.coe_ne_top r), mul_comm (r : EReal) (d j)]
  congr 1
  have l : (r : EReal) * -(x j * r * (s * r * ((1 / 1024 : ℝ) : EReal))) = x j * s * ((-(r * r * r * (1 / 1024)) : ℝ) : EReal) := by
    rw [EReal.coe_neg, mul_neg, mul_neg, EReal.coe_mul, EReal.coe_mul, EReal.coe_mul]
    congr 1
    ac_rfl
  have l' : x j * (s * (((-(1 / 2) : ℝ) : EReal) * ((r * r * r : ℝ) : EReal)) * ((1 / 1024 : ℝ) : EReal)) * ((2 : ℝ) : EReal)
      = x j * s * (((-(1 / 2)) * (r * r * r) * (1 / 1024) * 2 : ℝ) : EReal) := by
    generalize r * r * r = q
    rw [EReal.coe_mul, EReal.coe_mul, EReal.coe_mul]
    ac_rfl
  rw [l, l']
  congr 2
  ring

end row

/-- Which block each array hands the body at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

/-- A sum over the columns, group by group. -/
theorem sum_split (f : Fin 2688 → EReal) : ∑ l, f l = ∑ i : Fin 512, f ⟨i.val, by omega⟩ + ∑ i : Fin 512, f ⟨512 + i.val, by omega⟩
    + ∑ i : Fin 512, f ⟨1024 + i.val, by omega⟩ + ∑ i : Fin 1024, f ⟨1536 + i.val, by omega⟩ + ∑ i : Fin 128, f ⟨2560 + i.val, by omega⟩ := by
  rw [Fin.sum_univ_add (a := 2560) (b := 128) f]
  refine congrArg (· + _) ?_
  rw [Fin.sum_univ_add (a := 1536) (b := 1024)]
  refine congrArg (· + _) ?_
  rw [Fin.sum_univ_add (a := 1024) (b := 512)]
  refine congrArg (· + _) ?_
  rw [Fin.sum_univ_add (a := 512) (b := 512)]
  rfl

section point

variable {n : ℕ} (a b c : FVec Ideal ⟨2, ![n, 512]⟩ .bf16) (d : FVec Ideal ⟨2, ![n, 1024]⟩ .bf16) (e : FVec Ideal ⟨2, ![n, 128]⟩ .bf16)
  (w : FVec Ideal ⟨2, ![2688, 1024]⟩ .bf16) (x : FVec Ideal ⟨2, ![n, 1024]⟩ .f32) (g : FVec Ideal ⟨2, ![1, 1024]⟩ .f32)

/-- The gradient at the normed input: the five gradients side by side, through the weights. -/
def through (i : Fin n) (j : Fin 1024) : EReal := ∑ l : Fin 2688, column a b c d e i l * w (ix2 l j)

/-- A row's factor in the norm. -/
abbrev factor (i : Fin n) : EReal := root fun k => x (ix2 i k)

/-- The gradient at the input, from that at the normed input. -/
def normed (D : Fin n → Fin 1024 → EReal) (i : Fin n) (j : Fin 1024) : EReal :=
  factor x i * (D i j * g (ix2 0 j)
    - x (ix2 i j) * factor x i * Ideal.div (∑ k, D i k * g (ix2 0 k) * (x (ix2 i k) * factor x i)) width)

/-- The gradient at the gain, from that at the normed input. -/
def gained (D : Fin n → Fin 1024 → EReal) (j : Fin 1024) : EReal := ∑ i, D i j * (x (ix2 i j) * factor x i)

end point

/-- The products of a grid point, element by element. -/
theorem pay_through (a b c : Vec Ideal S512x512 .bf16) (u v w : Vec Ideal S512x1024 .bf16) (d : Vec Ideal S512x1024 .bf16) (z : Vec Ideal S1024x1024 .bf16)
    (e : Vec Ideal S512x128 .bf16) (f : Vec Ideal S128x1024 .bf16) (i) :
    k0_pay6 a u b v c w d z e f i = ∑ k : Fin 512, a (ix2 (i 0) k) * u (ix2 k (i 1)) + ∑ k : Fin 512, b (ix2 (i 0) k) * v (ix2 k (i 1))
      + ∑ k : Fin 512, c (ix2 (i 0) k) * w (ix2 k (i 1)) + ∑ k : Fin 1024, d (ix2 (i 0) k) * z (ix2 k (i 1))
      + ∑ k : Fin 128, e (ix2 (i 0) k) * f (ix2 k (i 1)) := by
  pointwise [k0_pay6]

/-- The gradient a grid point stores, element by element. -/
theorem pay_normed (D : FVec Ideal S512x1024 .f32) (x : Vec Ideal S512x1024 .f32) (g : Vec Ideal S1x1024 .f32) (r : Vec Ideal S512x1024 .f32) (i) :
    k0_pay4 D x (k0_pay7 x) k0_pay8 g r i = r i + normed x g (fun i j => D (ix2 i j)) (i 0) (i 1) := by
  pointwise [k0_pay4, k0_pay2, k0_pay1, k0_pay7, k0_pay8, normed, factor, root, square]

/-- What a grid point adds to the gain's gradient, element by element. -/
theorem pay_gained (D : FVec Ideal S512x1024 .f32) (x : Vec Ideal S512x1024 .f32) (v : Vec Ideal S1x1024 .f32) (i) :
    k0_pay3 D x (k0_pay7 x) k0_pay8 v i = v i + gained x (fun i j => D (ix2 i j)) (i 1) := by
  pointwise [k0_pay3, k0_pay2, k0_pay1, k0_pay7, k0_pay8, gained, factor, root, square]

/-- The array the first grid point clears. -/
theorem cleared (i) : k0_pay5 (F := Ideal) i = 0 := by
  pointwise [k0_pay5]

section blocks

variable (a b c : Vec Ideal S512x512 .bf16) (d : Vec Ideal S512x1024 .bf16) (e : Vec Ideal S512x128 .bf16) (w : Vec Ideal S2688x1024 .bf16)

/-- The products of a grid point, with the rows of the weights that each takes. -/
abbrev products : FVec Ideal S512x1024 .f32 :=
  k0_pay6 a (View.ld w (Rect.unit ![0, 0] ![512, 1024] inb_S2688x1024_S512x1024_0_0))
    b (View.ld w (Rect.unit ![512, 0] ![512, 1024] inb_S2688x1024_S512x1024_512_0))
    c (View.ld w (Rect.unit ![1024, 0] ![512, 1024] inb_S2688x1024_S512x1024_1024_0))
    d (View.ld w (Rect.unit ![1536, 0] ![1024, 1024] inb_S2688x1024_S1024x1024_1536_0))
    e (View.ld w (Rect.unit ![2560, 0] ![128, 1024] inb_S2688x1024_S128x1024_2560_0))

/-- A row of some of the weights' rows. -/
theorem ld_rows {n o : ℕ} (inb : ∀ a : Fin 2, (![o, 0] : Fin 2 → ℕ) a + (![n, 1024] : Fin 2 → ℕ) a ≤ S2688x1024.size a) (k : Fin n) (j : Fin 1024)
    (l : Fin 2688) (h : l.val = o + k.val) : View.ld w (Rect.unit ![o, 0] ![n, 1024] inb) (ix2 k j) = w (ix2 l j) :=
  congrArg w (Rect.emb_eq_of_coords _ _ _ (Fin.forall_fin_two.mpr
    ⟨by show l.val = o + 1 * k.val; omega, by show j.val = 0 + 1 * j.val; omega⟩))

/-- Together they are the five side by side, through the weights. -/
theorem products_at (i) : products a b c d e w i = through a b c d e w (i 0) (i 1) := by
  refine (pay_through _ _ _ _ _ _ _ _ _ _ i).trans (Eq.trans ?_ (sum_split fun l => column a b c d e (i 0) l * w (ix2 l (i 1))).symm)
  refine congrArg₂ (· + ·) (congrArg₂ (· + ·) (congrArg₂ (· + ·) (congrArg₂ (· + ·) ?_ ?_) ?_) ?_) ?_ <;>
    refine Fin.sum_fin_congr fun k => congrArg₂ (· * ·) ?_ ?_
  · exact (column_a _ _ _ _ _ _ _ _ rfl).symm
  · exact ld_rows _ _ _ _ _ (Nat.zero_add _).symm
  · exact (column_b _ _ _ _ _ _ _ _ rfl).symm
  · exact ld_rows _ _ _ _ _ rfl
  · exact (column_c _ _ _ _ _ _ _ _ rfl).symm
  · exact ld_rows _ _ _ _ _ rfl
  · exact (column_d _ _ _ _ _ _ _ _ rfl).symm
  · exact ld_rows _ _ _ _ _ rfl
  · exact (column_e _ _ _ _ _ _ _ _ rfl).symm
  · exact ld_rows _ _ _ _ _ rfl

end blocks

/-- The gradient at the normed input, of a grid point's rows. -/
abbrev inner (c : Dev nD) (t : Fin cfg0.N) : FVec Ideal S512x1024 .f32 :=
  products (iblk m c 0 t) (iblk m c 1 t) (iblk m c 2 t) (iblk m c 3 t) (iblk m c 4 t) (iblk m c 5 t)

/-- What a grid point stores of the gradient at the input. -/
theorem stored (c : Dev nD) (t : Fin cfg0.N) :
    (outsAt0 m c t.val t.isLt).1 = k0_pay4 (inner m c t) (iblk m c 6 t) (k0_pay7 (iblk m c 6 t)) k0_pay8 (iblk m c 7 t) (iblk m c 8 t) := by
  by_cases h : t.val % 16 = 0
  · rw [outsAt0_A m c t h]
    frame_out
  · rw [outsAt0_B m c t h]
    frame_out

/-- What a grid point adds to the gain's gradient, in the first of the eight rows. -/
def term (c : Dev nD) (t : Fin cfg0.N) : Vec Ideal S8x1024 .f32 := fun j =>
  if (j 0).val = 0 then gained (iblk m c 6 t) (fun i j => inner m c t (ix2 i j)) (j 1) else 0

/-- The first of the eight rows. -/
abbrev first : Rect S8x1024 := Rect.unit ![0, 0] ![1, 1024] inb_S8x1024_S1x1024_0_0

/-- A place in the first row. -/
theorem first_emb (j : S8x1024.Idx) (h : (j 0).val = 0) : first.emb (ix2 0 (j 1)) = j :=
  first.emb_eq_of_coords _ _ (Fin.forall_fin_two.mpr
    ⟨by show (j 0).val = 0 + 1 * 0; omega, by show (j 1).val = 0 + 1 * (j 1).val; omega⟩)

/-- What is stored in the first row. -/
theorem store_first (D : FVec Ideal S512x1024 .f32) (x : Vec Ideal S512x1024 .f32) (v : Vec Ideal S8x1024 .f32) (j : S8x1024.Idx)
    (h : (j 0).val = 0) : k0_pay3 D x (k0_pay7 x) k0_pay8 (View.ld v first) (ix2 0 (j 1)) = v j + gained x (fun i j => D (ix2 i j)) (j 1) := by
  rw [pay_gained]
  exact congrArg₂ (· + ·) (congrArg v (first_emb j h)) rfl

/-- A place in a later row lies off the first. -/
theorem not_first (j : S8x1024.Idx) (h : ¬(j 0).val = 0) : j ∉ first.set :=
  first.not_mem_set_of_axis j 0 0 1 rfl rfl rfl (Or.inr (by omega))

/-- After the first grid point. -/
theorem carried_first (c : Dev nD) (t : Fin cfg0.N) (h : t.val % 16 = 0) (j) : (outsAt0 m c t.val t.isLt).2 j = term m c t j := by
  rw [outsAt0_A m c t h]
  frame_open
  simp (disch := decide) only [↓ View.readCov_skip, ↓ View.readCov_cons_toLoadRect, ↓ View.readCov_fill]
  frame_out
  unfold term
  split_ifs with h0
  · refine (congrArg _ (first_emb j h0)).symm.trans ((View.canon_cons_emb first _ _ _).trans ((store_first _ _ _ j h0).trans ?_))
    rw [cleared, zero_add]
  · refine (View.canon_cons_of_not_mem _ _ (not_first j h0)).trans ?_
    rw [View.canon_unit_zero (by decide)]
    exact cleared j

/-- After a later grid point. -/
theorem carried_later (c : Dev nD) (t : Fin cfg0.N) (h : ¬t.val % 16 = 0) (j) :
    (outsAt0 m c t.val t.isLt).2 j = (outsAt0 m c (t.val - 1) (Nat.lt_of_le_of_lt (Nat.sub_le _ _) t.isLt)).2 j + term m c t j := by
  rw [outsAt0_B m c t h]
  frame_out
  unfold term
  split_ifs with h0
  · exact (View.read_writes_cons_hit _ _ first _ _ _ j (first_emb j h0)).trans (store_first _ _ _ j h0)
  · refine (View.read_writes_cons_miss _ _ _ _ j (not_first j h0)).trans ?_
    rw [View.writes_nil, (hs0_10 t).read_unread, add_zero]

end Cert.Proof.X

end
-- ==== Proof.XRef.lean ====
/-
  The reference of the gradient at the input, element by element: the chain rule through the norm, term by term, and the
  claim that the kernel computes the same.
-/
module

public import proofs.«01_k».proof.Proof.X

@[expose] public section

set_option maxRecDepth 16384

noncomputable section

namespace Cert.Proof.X

open Idealize.ShloMosaic Idealize.ShloMosaic.TcCoe Idealize.SL.Sem

section reference

open Cert.ReferenceXIdeal Cert.ReferenceXIdeal.Gen

/-- The gradient at the normed input, as the reference takes it. -/
abbrev carried (a b c : FVec Ideal S8192x512 .bf16) (d : FVec Ideal S8192x1024 .bf16)
    (e : FVec Ideal S8192x128 .bf16) (w : FVec Ideal S2688x1024 .bf16) :
    FVec Ideal S8192x1024 .f32 :=
  Host.dotGeneral dot_S8192x2688_S1024x2688_S8192x1024_1_1_0_0_n_n none
    (extf .f32 (concatenate S8192x2688 1 [⟨S8192x512, a⟩, ⟨S8192x512, b⟩,
      ⟨S8192x512, c⟩, ⟨S8192x1024, d⟩, ⟨S8192x128, e⟩]
      concatenates_S8192x512_S8192x512_S8192x512_S8192x1024_S8192x128_S8192x2688_d1) bitsLt_bf16_f32)
    (transpose S1024x2688 [1, 0] (extf .f32 w bitsLt_bf16_f32)
      transposes_S2688x1024_S1024x2688_1_0)

/-- Element by element. -/
theorem carried_at (a b c : FVec Ideal S8192x512 .bf16) (d : FVec Ideal S8192x1024 .bf16)
    (e : FVec Ideal S8192x128 .bf16) (w : FVec Ideal S2688x1024 .bf16) (i) :
    carried a b c d e w i = through a b c d e w (i 0) (i 1) := by
  have h (s : FVec Ideal S8192x2688 .bf16) : Host.dotGeneral dot_S8192x2688_S1024x2688_S8192x1024_1_1_0_0_n_n none
      (extf .f32 s bitsLt_bf16_f32)
      (transpose S1024x2688 [1, 0] (extf .f32 w bitsLt_bf16_f32)
        transposes_S2688x1024_S1024x2688_1_0) i = ∑ l : Fin 2688, s (ix2 (i 0) l) * w (ix2 l (i 1)) := by
    pointwise
  exact (h _).trans (Finset.sum_congr rfl fun l _ => congrArg (· * w (ix2 l (i 1))) (Cert.Proof.In.sides_at a b c d e (i 0) l))

/-- Every row's mean square, and what the norm adds to it. -/
def squares (x : FVec Ideal S8192x1024 .f32) : FVec Ideal S8192x1 .f32 :=
  addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

theorem squares_at (x : FVec Ideal S8192x1024 .f32) (i) : squares x i = square fun k => x (ix2 (i 0) k) := by
  pointwise [squares, square]

/-- What the change of a row's factor passes to each of the row's two uses in its mean square. -/
def share (x e : FVec Ideal S8192x1024 .f32) : FVec Ideal S8192 .f32 :=
  Host.reduceAdd (Host.divf (mulf (shapeCast _ (Host.reduceAdd (mulf x e) (constant S_ .f32 0x00000000#32) reducesTo_S8192x1024_S8192_d1 h_S_)
    shapeCasts_S8192_S8192x1) (mulf (broadcastInDim S8192x1 ![] bcast_S_S8192x1 (constant S_ .f32 0xBF000000#32))
      (Host.divf (Host.rsqrt (squares x)) (squares x)))) (broadcastInDim S8192x1 ![] bcast_S_S8192x1 (constant S_ .f32 0x44800000#32)))
    (constant S_ .f32 0x00000000#32) reducesTo_S8192x1_S8192_d1 h_S_

theorem share_at (x e : FVec Ideal S8192x1024 .f32) (i) : share x e i
    = Ideal.div ((∑ k, x (ix2 (i 0) k) * e (ix2 (i 0) k)) * (Ideal.ofBits .f32 0xBF000000#32
      * Ideal.div (factor x (i 0)) (square fun k => x (ix2 (i 0) k)))) width := by
  pointwise [share, squares_at]
  exact Fin.sum_univ_one _

/-- The gradient at the input, from that at the normed input. -/
def input (D x : FVec Ideal S8192x1024 .f32) (g : FVec Ideal S1x1024 .f32) (r : FVec Ideal S8192x1024 .f32) : FVec Ideal S8192x1024 .f32 :=
  addf r (addf (addf (mulf (mulf D (broadcastInDim S8192x1024 ![0, 1] bcast_S1x1024_S8192x1024_0_1 g))
      (broadcastInDim S8192x1024 ![0, 1] bcast_S8192x1_S8192x1024_0_1 (Host.rsqrt (squares x))))
    (mulf x (broadcastInDim S8192x1024 ![0] bcast_S8192_S8192x1024_0
      (share x (mulf D (broadcastInDim S8192x1024 ![0, 1] bcast_S1x1024_S8192x1024_0_1 g))))))
    (mulf (broadcastInDim S8192x1024 ![0] bcast_S8192_S8192x1024_0
      (share x (mulf D (broadcastInDim S8192x1024 ![0, 1] bcast_S1x1024_S8192x1024_0_1 g)))) x))

theorem input_at (D x : FVec Ideal S8192x1024 .f32) (g : FVec Ideal S1x1024 .f32) (r : FVec Ideal S8192x1024 .f32) (i) :
    input D x g r i = r i + normed x g (fun i j => D (ix2 i j)) (i 0) (i 1) := by
  have h : input D x g r i = r i + (D i * g (ix2 0 (i 1)) * factor x (i 0)
      + x i * share x (mulf D (broadcastInDim S8192x1024 ![0, 1] bcast_S1x1024_S8192x1024_0_1 g)) (ix1 (i 0))
      + share x (mulf D (broadcastInDim S8192x1024 ![0, 1] bcast_S1x1024_S8192x1024_0_1 g)) (ix1 (i 0)) * x i) := by
    pointwise [input, squares_at]
  have hs : share x (mulf D (broadcastInDim S8192x1024 ![0, 1] bcast_S1x1024_S8192x1024_0_1 g)) (ix1 (i 0))
      = Ideal.div ((∑ k, x (ix2 (i 0) k) * (D (ix2 (i 0) k) * g (ix2 0 k))) * (Ideal.ofBits .f32 0xBF000000#32
      * Ideal.div (factor x (i 0)) (square fun k => x (ix2 (i 0) k)))) width := by
    refine (share_at _ _ _).trans ?_
    pointwise
  rw [h, hs]
  refine congrArg (r i + ·) (Eq.trans ?_ (row_eq (fun k => x (ix2 (i 0) k)) (fun k => D (ix2 (i 0) k) * g (ix2 0 k)) (i 1)).symm)
  rw [show D i = D (ix2 (i 0) (i 1)) by rw [ix2_eta], show x i = x (ix2 (i 0) (i 1)) by rw [ix2_eta]]

/-- The gradient at the gain, below it seven rows of zeros. -/
def gains (D x : FVec Ideal S8192x1024 .f32) : FVec Ideal S8x1024 .f32 :=
  pad S8x1024 ![0, 0] ![7, 0] ![0, 0] (shapeCast S1x1024 (Host.reduceAdd (mulf (mulf x
    (broadcastInDim S8192x1024 ![0, 1] bcast_S8192x1_S8192x1024_0_1 (Host.rsqrt (squares x)))) D) (constant S_ .f32 0x00000000#32)
    reducesTo_S8192x1024_S1024_d0 h_S_) shapeCasts_S1024_S1x1024) (sitofp .f32 (constantI S_ 32 0#32)) pads_S1x1024_S8x1024_070_000 h_S_

theorem gains_at (D x : FVec Ideal S8192x1024 .f32) (j) :
    gains D x j = if (j 0).val = 0 then gained x (fun i j => D (ix2 i j)) (j 1) else 0 := by
  have h : gains D x j = if (j 0).val < 1 then ∑ k, x (ix2 k (j 1)) * factor x k * D (ix2 k (j 1)) else FloatOps.sitofp .f32 0#32 := by
    pointwise [gains, squares_at]
    split_ifs <;> rfl
  rw [h]
  by_cases h0 : (j 0).val = 0
  · rw [if_pos (by omega), if_pos h0]
    exact Finset.sum_congr rfl fun k _ => mul_comm _ _
  · rw [if_neg (by omega), if_neg h0]
    show (((0#32 : BitVec 32).toInt : ℝ) : EReal) = 0
    simp

end reference

section claim

open Cert.KernelXIdeal Cert.KernelXIdeal.Gen
open Cert.Proof.In (column_congr)

section congr

variable {n n' : ℕ} {a b c : FVec Ideal ⟨2, ![n, 512]⟩ .bf16} {d : FVec Ideal ⟨2, ![n, 1024]⟩ .bf16} {e : FVec Ideal ⟨2, ![n, 128]⟩ .bf16}
  {a' b' c' : FVec Ideal ⟨2, ![n', 512]⟩ .bf16} {d' : FVec Ideal ⟨2, ![n', 1024]⟩ .bf16} {e' : FVec Ideal ⟨2, ![n', 128]⟩ .bf16}
  {w w' : FVec Ideal ⟨2, ![2688, 1024]⟩ .bf16} {x : FVec Ideal ⟨2, ![n, 1024]⟩ .f32} {x' : FVec Ideal ⟨2, ![n', 1024]⟩ .f32}
  {g g' : FVec Ideal ⟨2, ![1, 1024]⟩ .f32} {i : Fin n} {i' : Fin n'}

/-- A row of the gradient at the normed input takes the same row of the five gradients. -/
theorem through_congr (ha : ∀ k, a (ix2 i k) = a' (ix2 i' k)) (hb : ∀ k, b (ix2 i k) = b' (ix2 i' k)) (hc : ∀ k, c (ix2 i k) = c' (ix2 i' k))
    (hd : ∀ k, d (ix2 i k) = d' (ix2 i' k)) (he : ∀ k, e (ix2 i k) = e' (ix2 i' k)) (hw : ∀ l j, w (ix2 l j) = w' (ix2 l j)) (j : Fin 1024) :
    through a b c d e w i j = through a' b' c' d' e' w' i' j :=
  Finset.sum_congr rfl fun l _ => congrArg₂ (· * ·) (column_congr _ _ _ _ _ _ _ ha hb hc hd he) (hw l j)

/-- A row's factor takes the row. -/
theorem factor_congr (hx : ∀ k, x (ix2 i k) = x' (ix2 i' k)) : factor x i = factor x' i' :=
  congrArg root (funext hx)

/-- A row of the gradient at the input takes the same row of the input and of the gradient at the normed input. -/
theorem normed_congr {D : Fin n → Fin 1024 → EReal} {D' : Fin n' → Fin 1024 → EReal} (hx : ∀ k, x (ix2 i k) = x' (ix2 i' k))
    (hg : ∀ k, g (ix2 0 k) = g' (ix2 0 k)) (hD : ∀ k, D i k = D' i' k) {j j' : Fin 1024} (hj : j = j') :
    normed x g D i j = normed x' g' D' i' j' := by
  simp only [hj]
  simp only [normed, factor_congr hx, hx, hg, hD]

end congr

/-- The gradient at the input: what passes by, and what comes through the norm and the weights. -/
def total (a b c : FVec Ideal S8192x512 .bf16) (d : FVec Ideal S8192x1024 .bf16) (e : FVec Ideal S8192x128 .bf16) (w : FVec Ideal S2688x1024 .bf16)
    (x : FVec Ideal S8192x1024 .f32) (g : FVec Ideal S1x1024 .f32) (r : FVec Ideal S8192x1024 .f32) : FVec Ideal S8192x1024 .f32 :=
  fun i => r i + normed x g (through a b c d e w) (i 0) (i 1)

/-- The gradient at the gain, in the first of eight rows. -/
def scale (a b c : FVec Ideal S8192x512 .bf16) (d : FVec Ideal S8192x1024 .bf16) (e : FVec Ideal S8192x128 .bf16) (w : FVec Ideal S2688x1024 .bf16)
    (x : FVec Ideal S8192x1024 .f32) : FVec Ideal S8x1024 .f32 :=
  fun j => if (j 0).val = 0 then gained x (through a b c d e w) (j 1) else 0

/-- The reference's gradient at the input, as the printed program has it. -/
theorem printed (m : (ℓ : Loc Cert.ReferenceXIdeal.nD Cert.ReferenceXIdeal.τ Cert.ReferenceXIdeal.sig) → Buf (Elt Ideal) ℓ)
    (c : Dev Cert.ReferenceXIdeal.nD) : Cert.ReferenceXIdeal.Value.res_main_v40 m c
      = input (carried (m ((c.tc : Thread _ _).loc Cert.ReferenceXIdeal.main_arg0)) (m ((c.tc : Thread _ _).loc Cert.ReferenceXIdeal.main_arg1))
        (m ((c.tc : Thread _ _).loc Cert.ReferenceXIdeal.main_arg2)) (m ((c.tc : Thread _ _).loc Cert.ReferenceXIdeal.main_arg3))
        (m ((c.tc : Thread _ _).loc Cert.ReferenceXIdeal.main_arg4)) (m ((c.tc : Thread _ _).loc Cert.ReferenceXIdeal.main_arg5)))
        (m ((c.tc : Thread _ _).loc Cert.ReferenceXIdeal.main_arg6)) (m ((c.tc : Thread _ _).loc Cert.ReferenceXIdeal.main_arg7))
        (m ((c.tc : Thread _ _).loc Cert.ReferenceXIdeal.main_arg8)) := by
  unfold Cert.ReferenceXIdeal.Value.res_main_v40 input share squares
  rfl

/-- The reference's gradient at the input, of arguments that agree. -/
theorem total_of_agree {a b c a' b' c' : FVec Ideal Cert.ReferenceXIdeal.S8192x512 .bf16} {d d' : FVec Ideal Cert.ReferenceXIdeal.S8192x1024 .bf16}
    {e e' : FVec Ideal Cert.ReferenceXIdeal.S8192x128 .bf16} {w w' : FVec Ideal Cert.ReferenceXIdeal.S2688x1024 .bf16}
    {x x' r r' : FVec Ideal Cert.ReferenceXIdeal.S8192x1024 .f32} {g g' : FVec Ideal Cert.ReferenceXIdeal.S1x1024 .f32}
    (ha : a' = a) (hb : b' = b) (hc : c' = c) (hd : d' = d) (he : e' = e) (hw : w' = w) (hx : x' = x) (hg : g' = g) (hr : r' = r) :
    input (carried a' b' c' d' e' w') x' g' r' = total a b c d e w x g r := by
  subst ha hb hc hd he hw hx hg hr
  funext i
  refine (input_at _ _ _ _ i).trans (congrArg (r' i + ·) (normed_congr (fun _ => rfl) (fun _ => rfl) (fun k => ?_) rfl))
  exact carried_at _ _ _ _ _ _ (ix2 (i 0) k)

/-- The reference's gradient at the gain, of arguments that agree. -/
theorem scale_of_agree {a b c : FVec Ideal Cert.ReferenceXIdeal.S8192x512 .bf16} {d : FVec Ideal Cert.ReferenceXIdeal.S8192x1024 .bf16}
    {e e' : FVec Ideal Cert.ReferenceXIdeal.S8192x128 .bf16} {w : FVec Ideal Cert.ReferenceXIdeal.S2688x1024 .bf16}
    {x : FVec Ideal Cert.ReferenceXIdeal.S8192x1024 .f32} (he : e' = e) :
    gains (carried a b c d e' w) x = scale a b c d e w x := by
  subst he
  funext j
  refine (gains_at _ _ j).trans ?_
  unfold scale gained
  refine if_congr Iff.rfl (Finset.sum_congr rfl fun i _ => congrArg (· * _) ?_) rfl
  exact carried_at _ _ _ _ _ _ (ix2 i (j 1))

variable (m : (ℓ : Loc nD τ sig) → Buf (Elt Ideal) ℓ)

/-- What the kernel leaves at the input. -/
theorem final_total (c : Dev nD) : (dats m 0 c).arrAt 9 (cfgs 0).N = total (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) := by
  refine (dats m 0 c).arrAt_eq_of_covers 9 _ (by decide +kernel) fun t hf y => ?_
  blk_simp
  rw [after0_9, stored, pay_normed]
  refine congrArg₂ (· + ·) ?_ ?_
  · blk_ext [iblk, V, idx t]
  · refine normed_congr ?_ ?_ ?_ ?_
    · intro k
      blk_point [iblk, V, idx t]
    · intro k
      blk_point [iblk, V, idx t]
    · intro k
      refine (products_at _ _ _ _ _ _ _).trans (through_congr ?_ ?_ ?_ ?_ ?_ ?_ k) <;> intro i <;> (try intro j) <;> blk_point [iblk, V, idx t]
    · exact Fin.ext (win0_9.rect_emb_val_of_index_zero t 1 (by rw [(idx t).2.2.2.2.2.2.2.2.2.1]; rfl) y).symm

/-- What the kernel leaves at the gain. -/
theorem final_scale (c : Dev nD) : (dats m 0 c).arrAt 10 (cfgs 0).N = scale (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => 0) (fun t j => term m c t j)
    (fun t h j => by rw [carried_first m c t h, zero_add]) (fun t h j => carried_later m c t h j) (le_of_eq N_0) t0_15 rfl j, zero_add]
  simp only [term, scale]
  split_ifs with h0
  · simp only [gained]
    refine Fin.sum_mul_add_congr fun t k hl => congrArg₂ (· * ·) ?_ (congrArg₂ (· * ·) ?_ (factor_congr fun k => ?_))
    · refine (products_at _ _ _ _ _ _ _).trans (through_congr ?_ ?_ ?_ ?_ ?_ ?_ _) <;> intro i <;> (try intro j) <;> blk_point [iblk, V, idx t]
    · blk_point [iblk, V, idx t]
    · blk_point [iblk, V, idx t]
  · exact Finset.sum_const_zero (M := EReal)

/-- The kernel and the reference compute the same gradients. -/
theorem algebraic : Cert.algebraic_KernelXIdeal_ReferenceXIdeal (hKernelXIdeal := Cert.KernelXIdeal.Gen.facts)
    (hReferenceXIdeal := Cert.ReferenceXIdeal.Gen.facts) := by
  pair_intro
  · run_from Cert.KernelXIdeal.Gen.run_main m g
  · run_from Cert.ReferenceXIdeal.Value.run m' g'
    · obtain ⟨ha, hb, hc, hd, he, hw, hx, hg, hr⟩ := hagree c
      exact (printed m' c).trans ((total_of_agree ha hb hc hd he hw hx hg hr).trans (final_total m c).symm)
    · exact (scale_of_agree (hagree c).2.2.2.2.1).trans (final_scale m c).symm

end claim

end Cert.Proof.X

end
-- ==== Proof.Mid.lean ====
/-
  The gradient at the MLP's input: the incoming gradients of the two halves of the up projection's columns, carried
  through the projection's weights and through the norm before it, and added to the gradient that passes by, in f32 and
  in bf16; and the gradient of the norm's gain.
-/
module

public import proofs.«01_k».proof.Proof.XRef
public import proofs.«01_k».proof.Proof.Gen.KernelMidIdeal.Frame
public import proofs.«01_k».proof.Proof.Gen.ReferenceMidIdeal.Run

@[expose] public section

set_option maxRecDepth 16384

noncomputable section

namespace Cert.Proof.Mid

open Idealize.ShloMosaic Idealize.ShloMosaic.TcCoe Idealize.SL.Sem
open Idealize.ShloMosaic.Pipeline (Dat)
open Cert.KernelMidIdeal Cert.KernelMidIdeal.Gen
open Cert.Proof.X (root square width eps factor normed gained factor_congr normed_congr)

variable (m : (ℓ : Loc nD τ sig) → Buf (Elt Ideal) ℓ)

/-- Which block each array hands the body at a grid point. -/
theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- A sum over the columns, half by half. -/
theorem sum_split (f : Fin 5632 → EReal) :
    ∑ l, f l = ∑ i : Fin 2816, f ⟨i.val, by omega⟩ + ∑ i : Fin 2816, f ⟨2816 + i.val, by omega⟩ := by
  rw [Fin.sum_univ_add (a := 2816) (b := 2816) f]
  rfl

/-- The gradient at the normed input: the two halves side by side, through the weights. -/
def through {n : ℕ} (a : FVec Ideal ⟨3, ![2, n, 2816]⟩ .bf16) (w : FVec Ideal ⟨2, ![5632, 1024]⟩ .bf16) (i : Fin n) (j : Fin 1024) : EReal :=
  ∑ l : Fin 5632, a (ix3 ⟨l.val / 2816, by omega⟩ i ⟨l.val % 2816, by omega⟩) * w (ix2 l j)

/-- A row of it takes the same row of the halves. -/
theorem through_congr {n n' : ℕ} {a : FVec Ideal ⟨3, ![2, n, 2816]⟩ .bf16} {a' : FVec Ideal ⟨3, ![2, n', 2816]⟩ .bf16}
    {w w' : FVec Ideal ⟨2, ![5632, 1024]⟩ .bf16} {i : Fin n} {i' : Fin n'} (ha : ∀ h k, a (ix3 h i k) = a' (ix3 h i' k))
    (hw : ∀ l j, w (ix2 l j) = w' (ix2 l j)) (j : Fin 1024) : through a w i j = through a' w' i' j :=
  Finset.sum_congr rfl fun l _ => congrArg₂ (· * ·) (ha _ _) (hw l j)

/-- The products of a grid point, element by element. -/
theorem pay_through (p q : Vec Ideal S1x512x2816 .bf16) (u v : Vec Ideal S2816x1024 .bf16) (i) :
    k0_pay4 p u q v i = ∑ k : Fin 2816, p (ix3 0 (i 0) k) * u (ix2 k (i 1)) + ∑ k : Fin 2816, q (ix3 0 (i 0) k) * v (ix2 k (i 1)) := by
  pointwise [k0_pay4]

/-- The gradient a grid point stores, element by element. -/
theorem pay_normed (D : FVec Ideal S512x1024 .f32) (x : Vec Ideal S512x1024 .f32) (g : Vec Ideal S1x1024 .f32) (r : Vec Ideal S512x1024 .f32) (i) :
    k0_pay1 D (k0_pay5 x) (k0_pay6 x) g r i = r i + normed x g (fun i j => D (ix2 i j)) (i 0) (i 1) := by
  pointwise [k0_pay1, k0_pay5, k0_pay6, normed, factor, root, square]

/-- What a grid point adds to the gain's gradient, element by element. -/
theorem pay_gained (p q : Vec Ideal S1x512x2816 .bf16) (u v : Vec Ideal S2816x1024 .bf16) (x : Vec Ideal S512x1024 .f32)
    (b : Vec Ideal S1x1024 .f32) (i) : k0_pay7 p u q v x b i = b i + gained x (fun i j => k0_pay4 p u q v (ix2 i j)) (i 1) := by
  have h (D : FVec Ideal S512x1024 .f32) : addf (shapeCast S1x1024 b shapeCasts_S1x1024_S1x1024)
      (shapeCast S1x1024 (multiReduction .add [0] S1024 (mulf D (k0_pay6 x)) 0x00000000#32 reduces_S512x1024_S1024 (.inl rfl) rfl)
        shapeCasts_S1024_S1x1024) i = b i + gained x (fun i j => D (ix2 i j)) (i 1) := by
    pointwise [k0_pay5, k0_pay6, gained, factor, root, square]
  refine Eq.trans ?_ (h (k0_pay4 p u q v))
  unfold k0_pay7
  pointwise

/-- The array the first grid point clears. -/
theorem cleared (i) : k0_pay3 (F := Ideal) i = 0 := by
  pointwise [k0_pay3]

section blocks

variable (a : Vec Ideal S2x512x2816 .bf16) (w : Vec Ideal S5632x1024 .bf16)

/-- One half of the incoming gradient. -/
abbrev lower : Vec Ideal S1x512x2816 .bf16 := View.ld a (Rect.unit ![0, 0, 0] ![1, 512, 2816] inb_S2x512x2816_S1x512x2816_0_0_0)

/-- The other half. -/
abbrev upper : Vec Ideal S1x512x2816 .bf16 := View.ld a (Rect.unit ![1, 0, 0] ![1, 512, 2816] inb_S2x512x2816_S1x512x2816_1_0_0)

/-- The rows of the weights that the one half takes. -/
abbrev above : Vec Ideal S2816x1024 .bf16 := View.ld w (Rect.unit ![0, 0] ![2816, 1024] inb_S5632x1024_S2816x1024_0_0)

/-- The rows of the weights that the other takes. -/
abbrev below : Vec Ideal S2816x1024 .bf16 := View.ld w (Rect.unit ![2816, 0] ![2816, 1024] inb_S5632x1024_S2816x1024_2816_0)

/-- The products of a grid point. -/
abbrev products : FVec Ideal S512x1024 .f32 := k0_pay4 (lower a) (above w) (upper a) (below w)

/-- An element of a half. -/
theorem ld_half {o : ℕ} (inb : ∀ b : Fin 3, (![o, 0, 0] : Fin 3 → ℕ) b + (![1, 512, 2816] : Fin 3 → ℕ) b ≤ S2x512x2816.size b) (i : Fin 512)
    (k : Fin 2816) (h : Fin 2) (l : Fin 2816) (hh : h.val = o) (hl : l.val = k.val) :
    View.ld a (Rect.unit ![o, 0, 0] ![1, 512, 2816] inb) (ix3 0 i k) = a (ix3 h i l) :=
  congrArg a (Rect.emb_eq_of_coords _ _ _ (Fin.forall_fin_succ.mpr ⟨by show h.val = o + 1 * 0; omega, Fin.forall_fin_two.mpr
    ⟨by show i.val = 0 + 1 * i.val; omega, by show l.val = 0 + 1 * k.val; omega⟩⟩))

/-- A row of some of the weights' rows. -/
theorem ld_rows {o : ℕ} (inb : ∀ b : Fin 2, (![o, 0] : Fin 2 → ℕ) b + (![2816, 1024] : Fin 2 → ℕ) b ≤ S5632x1024.size b) (k : Fin 2816) (j : Fin 1024)
    (l : Fin 5632) (h : l.val = o + k.val) : View.ld w (Rect.unit ![o, 0] ![2816, 1024] inb) (ix2 k j) = w (ix2 l j) :=
  congrArg w (Rect.emb_eq_of_coords _ _ _ (Fin.forall_fin_two.mpr
    ⟨by show l.val = o + 1 * k.val; omega, by show j.val = 0 + 1 * j.val; omega⟩))

/-- Together they are the two side by side, through the weights. -/
theorem products_at (i) : products a w i = through a w (i 0) (i 1) := by
  refine (pay_through _ _ _ _ i).trans (Eq.trans ?_
    (sum_split fun l => a (ix3 ⟨l.val / 2816, by omega⟩ (i 0) ⟨l.val % 2816, by omega⟩) * w (ix2 l (i 1))).symm)
  refine congrArg₂ (· + ·) ?_ ?_ <;> refine Fin.sum_fin_congr fun k => congrArg₂ (· * ·) ?_ ?_
  · exact ld_half _ _ _ _ _ _ (by show k.val / 2816 = 0; omega) (by show k.val % 2816 = k.val; omega)
  · exact ld_rows _ _ _ _ _ (Nat.zero_add _).symm
  · exact ld_half _ _ _ _ _ _ (by show (2816 + k.val) / 2816 = 1; omega) (by show (2816 + k.val) % 2816 = k.val; omega)
  · exact ld_rows _ _ _ _ _ rfl

end blocks

/-- The gradient at the normed input, of a grid point's rows. -/
abbrev inner (c : Dev nD) (t : Fin cfg0.N) : FVec Ideal S512x1024 .f32 := products (iblk m c 0 t) (iblk m c 1 t)

/-- What a grid point stores of the gradient at the input. -/
theorem stored (c : Dev nD) (t : Fin cfg0.N) : (outsAt0 m c t.val t.isLt).1
    = k0_pay1 (inner m c t) (k0_pay5 (iblk m c 2 t)) (k0_pay6 (iblk m c 2 t)) (iblk m c 3 t) (iblk m c 4 t) := by
  by_cases h : t.val % 16 = 0
  · rw [outsAt0_A m c t h]
    frame_out
  · rw [outsAt0_B m c t h]
    frame_out

/-- The same, rounded. -/
theorem rounded (c : Dev nD) (t : Fin cfg0.N) : (outsAt0 m c t.val t.isLt).2.1
    = k0_pay2 (inner m c t) (k0_pay5 (iblk m c 2 t)) (k0_pay6 (iblk m c 2 t)) (iblk m c 3 t) (iblk m c 4 t) := by
  by_cases h : t.val % 16 = 0
  · rw [outsAt0_A m c t h]
    frame_out
  · rw [outsAt0_B m c t h]
    frame_out

/-- What a grid point adds to the gain's gradient, in the first of the eight rows. -/
def term (c : Dev nD) (t : Fin cfg0.N) : Vec Ideal S8x1024 .f32 := fun j =>
  if (j 0).val = 0 then gained (iblk m c 2 t) (fun i j => inner m c t (ix2 i j)) (j 1) else 0

/-- The first of the eight rows. -/
abbrev first : Rect S8x1024 := Rect.unit ![0, 0] ![1, 1024] inb_S8x1024_S1x1024_0_0

/-- A place in the first row. -/
theorem first_emb (j : S8x1024.Idx) (h : (j 0).val = 0) : first.emb (ix2 0 (j 1)) = j := X.first_emb j h

/-- A place in a later row lies off the first. -/
theorem not_first (j : S8x1024.Idx) (h : ¬(j 0).val = 0) : j ∉ first.set := X.not_first j h

/-- What is stored in the first row. -/
theorem store_first (a : Vec Ideal S2x512x2816 .bf16) (w : Vec Ideal S5632x1024 .bf16) (x : Vec Ideal S512x1024 .f32) (v : Vec Ideal S8x1024 .f32)
    (j : S8x1024.Idx) (h : (j 0).val = 0) : k0_pay7 (lower a) (above w) (upper a) (below w) x (View.ld v first) (ix2 0 (j 1))
      = v j + gained x (fun i j => products a w (ix2 i j)) (j 1) := by
  rw [pay_gained]
  exact congrArg₂ (· + ·) (congrArg v (first_emb j h)) rfl

/-- After the first grid point. -/
theorem carried_first (c : Dev nD) (t : Fin cfg0.N) (h : t.val % 16 = 0) (j) : (outsAt0 m c t.val t.isLt).2.2 j = term m c t j := by
  rw [outsAt0_A m c t h]
  frame_open
  simp (disch := decide) only [↓ View.readCov_skip, ↓ View.readCov_cons_toLoadRect, ↓ View.readCov_fill]
  frame_out
  unfold term
  split_ifs with h0
  · refine (congrArg _ (first_emb j h0)).symm.trans ((View.canon_cons_emb first _ _ _).trans ((store_first _ _ _ _ j h0).trans ?_))
    rw [cleared, zero_add]
  · refine (View.canon_cons_of_not_mem _ _ (not_first j h0)).trans ?_
    rw [View.canon_unit_zero (by decide)]
    exact cleared j

/-- After a later grid point. -/
theorem carried_later (c : Dev nD) (t : Fin cfg0.N) (h : ¬t.val % 16 = 0) (j) :
    (outsAt0 m c t.val t.isLt).2.2 j = (outsAt0 m c (t.val - 1) (Nat.lt_of_le_of_lt (Nat.sub_le _ _) t.isLt)).2.2 j + term m c t j := by
  rw [outsAt0_B m c t h]
  frame_out
  unfold term
  split_ifs with h0
  · exact (View.read_writes_cons_hit _ _ first _ _ _ j (first_emb j h0)).trans (store_first _ _ _ _ j h0)
  · refine (View.read_writes_cons_miss _ _ _ _ j (not_first j h0)).trans ?_
    rw [View.writes_nil, (hs0_7 t).read_unread, add_zero]

/-- The gradient at the input: what passes by, and what comes through the norm and the weights. -/
def total (a : FVec Ideal S2x8192x2816 .bf16) (w : FVec Ideal S5632x1024 .bf16) (x : FVec Ideal S8192x1024 .f32) (g : FVec Ideal S1x1024 .f32)
    (r : FVec Ideal S8192x1024 .f32) : FVec Ideal S8192x1024 .f32 :=
  fun i => r i + normed x g (through a w) (i 0) (i 1)

/-- The gradient at the gain, in the first of eight rows. -/
def scale (a : FVec Ideal S2x8192x2816 .bf16) (w : FVec Ideal S5632x1024 .bf16) (x : FVec Ideal S8192x1024 .f32) : FVec Ideal S8x1024 .f32 :=
  fun j => if (j 0).val = 0 then gained x (through a w) (j 1) else 0

/-- What the kernel leaves at the input. -/
theorem final_total (c : Dev nD) : (dats m 0 c).arrAt 5 (cfgs 0).N = total (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  blk_simp
  rw [after0_5, stored, pay_normed]
  refine congrArg₂ (· + ·) ?_ ?_
  · blk_ext [iblk, V, idx t]
  · refine normed_congr ?_ ?_ ?_ ?_
    · intro k
      blk_point [iblk, V, idx t]
    · intro k
      blk_point [iblk, V, idx t]
    · intro k
      refine (products_at _ _ _).trans (through_congr ?_ ?_ k) <;> intro i j <;> blk_point [iblk, V, idx t]
    · exact Fin.ext (win0_5.rect_emb_val_of_index_zero t 1 (by rw [(idx t).2.2.2.2.2.1]; rfl) y).symm

/-- The same, rounded. -/
theorem final_rounded (c : Dev nD) : (dats m 0 c).arrAt 6 (cfgs 0).N = truncf (φ := .f32) .bf16 (total (m ((c : Thread nD τ).loc main_arg0))
    (m ((c : Thread nD τ).loc main_arg1)) (m ((c : Thread nD τ).loc main_arg2)) (m ((c : Thread nD τ).loc main_arg3))
    (m ((c : Thread nD τ).loc main_arg4))) bitsLt_bf16_f32 := by
  refine (dats m 0 c).arrAt_eq_of_covers 6 _ (by decide +kernel) fun t hf y => ?_
  blk_simp
  rw [after0_6, rounded]
  refine (pay_normed _ _ _ _ y).trans (congrArg₂ (· + ·) ?_ ?_)
  · blk_ext [iblk, V, idx t]
  · refine normed_congr ?_ ?_ ?_ ?_
    · intro k
      blk_point [iblk, V, idx t]
    · intro k
      blk_point [iblk, V, idx t]
    · intro k
      refine (products_at _ _ _).trans (through_congr ?_ ?_ k) <;> intro i j <;> blk_point [iblk, V, idx t]
    · exact Fin.ext (win0_6.rect_emb_val_of_index_zero t 1 (by rw [(idx t).2.2.2.2.2.2.1]; rfl) y).symm

/-- What the kernel leaves at the gain. -/
theorem final_scale (c : Dev nD) : (dats m 0 c).arrAt 7 (cfgs 0).N = scale (m ((c : Thread nD τ).loc main_arg0))
    (m ((c : Thread nD τ).loc main_arg1)) (m ((c : Thread nD τ).loc main_arg2)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) (fun t j => term m c t j)
    (fun t h j => by rw [carried_first m c t h, zero_add]) (fun t h j => carried_later m c t h j) (le_of_eq N_0) t0_15 rfl j, zero_add]
  simp only [term, scale]
  split_ifs with h0
  · simp only [gained]
    refine Fin.sum_mul_add_congr fun t k hl => congrArg₂ (· * ·) ?_ (congrArg₂ (· * ·) ?_ (factor_congr fun k => ?_))
    · refine (products_at _ _ _).trans (through_congr ?_ ?_ _) <;> intro i j <;> blk_point [iblk, V, idx t]
    · blk_point [iblk, V, idx t]
    · blk_point [iblk, V, idx t]
  · exact Finset.sum_const_zero (M := EReal)

section reference

open Cert.ReferenceMidIdeal.Gen

/-- The two halves of the incoming gradient, side by side. -/
abbrev halves (b : FVec Ideal Cert.ReferenceMidIdeal.S2x8192x2816 .bf16) : FVec Ideal Cert.ReferenceMidIdeal.S8192x5632 .bf16 :=
  concatenate Cert.ReferenceMidIdeal.S8192x5632 1
    [⟨Cert.ReferenceMidIdeal.S8192x2816, shapeCast _ (extractStridedSlice Cert.ReferenceMidIdeal.S1x8192x2816 ![0, 0, 0] b
        slices_S2x8192x2816_S1x8192x2816_0_0_0) shapeCasts_S1x8192x2816_S8192x2816⟩,
     ⟨Cert.ReferenceMidIdeal.S8192x2816, shapeCast _ (extractStridedSlice Cert.ReferenceMidIdeal.S1x8192x2816 ![1, 0, 0] b
        slices_S2x8192x2816_S1x8192x2816_1_0_0) shapeCasts_S1x8192x2816_S8192x2816⟩]
    concatenates_S8192x2816_S8192x2816_S8192x5632_d1

/-- The halves side by side, element by element. -/
theorem halves_at (b : FVec Ideal Cert.ReferenceMidIdeal.S2x8192x2816 .bf16) (r : Fin 8192) (j : Fin 5632) :
    halves b (ix2 r j) = b (ix3 ⟨j.val / 2816, by omega⟩ r ⟨j.val % 2816, by omega⟩) := by
  pointwise [halves]
  blk_point []

/-- The gradient at the normed input, as the reference takes it. -/
abbrev carried (a : FVec Ideal Cert.ReferenceMidIdeal.S2x8192x2816 .bf16) (w : FVec Ideal Cert.ReferenceMidIdeal.S5632x1024 .bf16) :
    FVec Ideal Cert.ReferenceMidIdeal.S8192x1024 .f32 :=
  Host.dotGeneral Cert.ReferenceMidIdeal.dot_S8192x5632_S1024x5632_S8192x1024_1_1_0_0_n_n none
    (extf .f32 (halves a) Cert.ReferenceMidIdeal.Gen.bitsLt_bf16_f32)
    (transpose Cert.ReferenceMidIdeal.S1024x5632 [1, 0] (extf .f32 w Cert.ReferenceMidIdeal.Gen.bitsLt_bf16_f32) transposes_S5632x1024_S1024x5632_1_0)

/-- Element by element. -/
theorem carried_at (a : FVec Ideal Cert.ReferenceMidIdeal.S2x8192x2816 .bf16) (w : FVec Ideal Cert.ReferenceMidIdeal.S5632x1024 .bf16) (i) :
    carried a w i = through a w (i 0) (i 1) := by
  have h (s : FVec Ideal Cert.ReferenceMidIdeal.S8192x5632 .bf16) :
      Host.dotGeneral Cert.ReferenceMidIdeal.dot_S8192x5632_S1024x5632_S8192x1024_1_1_0_0_n_n none
        (extf .f32 s Cert.ReferenceMidIdeal.Gen.bitsLt_bf16_f32) (transpose Cert.ReferenceMidIdeal.S1024x5632 [1, 0]
          (extf .f32 w Cert.ReferenceMidIdeal.Gen.bitsLt_bf16_f32) transposes_S5632x1024_S1024x5632_1_0) i
        = ∑ l : Fin 5632, s (ix2 (i 0) l) * w (ix2 l (i 1)) := by
    pointwise
  exact (h _).trans (Finset.sum_congr rfl fun l _ => congrArg (· * w (ix2 l (i 1))) (halves_at a (i 0) l))

/-- The reference's gradient at the input, as the printed program has it. -/
theorem printed (m : (ℓ : Loc Cert.ReferenceMidIdeal.nD Cert.ReferenceMidIdeal.τ Cert.ReferenceMidIdeal.sig) → Buf (Elt Ideal) ℓ)
    (c : Dev Cert.ReferenceMidIdeal.nD) : Cert.ReferenceMidIdeal.Value.res_main_v44 m c
      = X.input (carried (m ((c.tc : Thread _ _).loc Cert.ReferenceMidIdeal.main_arg0)) (m ((c.tc : Thread _ _).loc Cert.ReferenceMidIdeal.main_arg1)))
        (m ((c.tc : Thread _ _).loc Cert.ReferenceMidIdeal.main_arg2)) (m ((c.tc : Thread _ _).loc Cert.ReferenceMidIdeal.main_arg3))
        (m ((c.tc : Thread _ _).loc Cert.ReferenceMidIdeal.main_arg4)) := by
  unfold Cert.ReferenceMidIdeal.Value.res_main_v44 X.input X.share X.squares
  rfl

/-- The same, rounded. -/
theorem printed_rounded (m : (ℓ : Loc Cert.ReferenceMidIdeal.nD Cert.ReferenceMidIdeal.τ Cert.ReferenceMidIdeal.sig) → Buf (Elt Ideal) ℓ)
    (c : Dev Cert.ReferenceMidIdeal.nD) : Cert.ReferenceMidIdeal.Value.res_main_v46 m c
      = (truncf (φ := .f32) .bf16 (Cert.ReferenceMidIdeal.Value.res_main_v44 m c : FVec Ideal Cert.ReferenceMidIdeal.S8192x1024 .f32)
        Cert.ReferenceMidIdeal.Gen.bitsLt_bf16_f32 : FVec Ideal Cert.ReferenceMidIdeal.S8192x1024 .bf16) := by
  unfold Cert.ReferenceMidIdeal.Value.res_main_v44 Cert.ReferenceMidIdeal.Value.res_main_v46
  rfl

/-- The reference's gradient at the input, of arguments that agree. -/
theorem total_of_agree {a a' : FVec Ideal S2x8192x2816 .bf16} {w w' : FVec Ideal S5632x1024 .bf16}
    {x x' r r' : FVec Ideal S8192x1024 .f32} {g g' : FVec Ideal S1x1024 .f32}
    (ha : a' = a) (hw : w' = w) (hx : x' = x) (hg : g' = g) (hr : r' = r) : X.input (carried a' w') x' g' r' = total a w x g r := by
  subst ha hw hx hg hr
  funext i
  refine (X.input_at _ _ _ _ i).trans (congrArg (r' i + ·) (normed_congr (fun _ => rfl) (fun _ => rfl) (fun k => ?_) rfl))
  exact carried_at _ _ (ix2 (i 0) k)

/-- The reference's gradient at the gain. -/
theorem scale_eq (a : FVec Ideal S2x8192x2816 .bf16) (w : FVec Ideal S5632x1024 .bf16) (x : FVec Ideal S8192x1024 .f32) :
    X.gains (carried a w) x = scale a w x := by
  funext j
  refine (X.gains_at _ _ j).trans ?_
  unfold scale gained
  refine if_congr Iff.rfl (Finset.sum_congr rfl fun i _ => congrArg (· * _) ?_) rfl
  exact carried_at _ _ (ix2 i (j 1))

end reference

/-- The kernel and the reference compute the same gradients. -/
theorem algebraic : Cert.algebraic_KernelMidIdeal_ReferenceMidIdeal (hKernelMidIdeal := Cert.KernelMidIdeal.Gen.facts)
    (hReferenceMidIdeal := Cert.ReferenceMidIdeal.Gen.facts) := by
  pair_intro
  · run_from Cert.KernelMidIdeal.Gen.run_main m g
  · run_from Cert.ReferenceMidIdeal.Value.run m' g'
    · obtain ⟨ha, hw, hx, hg, hr⟩ := hagree c
      exact (printed m' c).trans ((total_of_agree ha hw hx hg hr).trans (final_total m c).symm)
    · obtain ⟨ha, hw, hx, hg, hr⟩ := hagree c
      refine (printed_rounded m' c).trans (Eq.trans ?_ (final_rounded m c).symm)
      exact congrArg (fun v : FVec Ideal S8192x1024 .f32 => truncf (φ := .f32) .bf16 v bitsLt_bf16_f32) ((printed m' c).trans (total_of_agree ha hw hx hg hr))
    · exact (scale_eq _ _ _).trans (final_scale m c).symm

end Cert.Proof.Mid

end
-- ==== Proof.lean ====
/-
  The claims of the statement, put together. For the attention's backward pass, for each of five products of the backward
  pass (the gradients of the weights of the MLP's up and down projections, of the output's and the input's projections,
  and the gradient at the MLP's activation) and for the gradients at the step's and at the MLP's input: the frames of
  the kernel, printed and idealized, and of the reference, the idealization's (empty) list of rewrites, and the equality
  of the results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelUp.Frame
public import proofs.«01_k».proof.Proof.Gen.KernelUpIdeal.Frame
public import proofs.«01_k».proof.Proof.Gen.ReferenceUpIdeal.Run
public import proofs.«01_k».proof.Proof.Gen.KernelDown.Frame
public import proofs.«01_k».proof.Proof.Gen.KernelDownIdeal.Frame
public import proofs.«01_k».proof.Proof.Gen.ReferenceDownIdeal.Run
public import proofs.«01_k».proof.Proof.Gen.KernelAct.Frame
public import proofs.«01_k».proof.Proof.Gen.KernelActIdeal.Frame
public import proofs.«01_k».proof.Proof.Gen.ReferenceActIdeal.Run
public import proofs.«01_k».proof.Proof.Gen.KernelOut.Frame
public import proofs.«01_k».proof.Proof.Gen.KernelOutIdeal.Frame
public import proofs.«01_k».proof.Proof.Gen.ReferenceOutIdeal.Run
public import proofs.«01_k».proof.Proof.Gen.KernelIn.Frame
public import proofs.«01_k».proof.Proof.Gen.KernelInIdeal.Frame
public import proofs.«01_k».proof.Proof.Gen.ReferenceInIdeal.Run
public import proofs.«01_k».proof.Proof.Gen.KernelX.Frame
public import proofs.«01_k».proof.Proof.Gen.KernelXIdeal.Frame
public import proofs.«01_k».proof.Proof.Gen.ReferenceXIdeal.Run
public import proofs.«01_k».proof.Proof.Gen.KernelMid.Frame
public import proofs.«01_k».proof.Proof.Gen.KernelMidIdeal.Frame
public import proofs.«01_k».proof.Proof.Gen.ReferenceMidIdeal.Run
public import proofs.«01_k».proof.Proof.Run
public import proofs.«01_k».proof.Proof.Twin
public import proofs.«01_k».proof.Proof.Final
public import proofs.«01_k».proof.Proof.Up
public import proofs.«01_k».proof.Proof.Down
public import proofs.«01_k».proof.Proof.Act
public import proofs.«01_k».proof.Proof.Out
public import proofs.«01_k».proof.Proof.In
public import proofs.«01_k».proof.Proof.XRef
public import proofs.«01_k».proof.Proof.Mid

@[expose] public section

set_option maxRecDepth 65536

noncomputable section

namespace Cert.Proof

open Idealize.ShloMosaic Idealize.SL.Sem

/-- The frame of the kernel, over the words. -/
theorem quiescent_kernel : Cert.quiescent_Kernel (hKernel := Cert.Kernel.Gen.facts) :=
  fun m g _ => Twin.frame_run (F := Bits) m g

/-- The frame of the idealized kernel. -/
theorem quiescent_kernelIdeal : Cert.quiescent_KernelIdeal (hKernelIdeal := Cert.KernelIdeal.Gen.facts) :=
  fun m g _ => Attn.frame_run (F := Ideal) m g

/-- The frame of the reference. -/
theorem quiescent_referenceIdeal : Cert.quiescent_ReferenceIdeal (hReferenceIdeal := Cert.ReferenceIdeal.Gen.facts) :=
  fun m g _ => (θ_run Cert.ReferenceIdeal.defs _ _).mono
    (fun r h => ⟨fun c => (h c).2.2.2.2.2, sem_eq_zero_of_no_sems (by decide) r.2⟩) (Cert.ReferenceIdeal.Value.run (F := Ideal) m g)

/-- The frame of the reference of the gradient of the up projection's weights. -/
theorem quiescent_referenceUp : Cert.quiescent_ReferenceUpIdeal (hReferenceUpIdeal := Cert.ReferenceUpIdeal.Gen.facts) :=
  fun m g _ => (θ_run Cert.ReferenceUpIdeal.defs _ _).mono
    (fun r h => ⟨fun c => (h c).2, sem_eq_zero_of_no_sems (by decide) r.2⟩) (Cert.ReferenceUpIdeal.Value.run (F := Ideal) m g)

/-- The frame of the reference of the gradient of the down projection's weights. -/
theorem quiescent_referenceDown : Cert.quiescent_ReferenceDownIdeal (hReferenceDownIdeal := Cert.ReferenceDownIdeal.Gen.facts) :=
  fun m g _ => (θ_run Cert.ReferenceDownIdeal.defs _ _).mono
    (fun r h => ⟨fun c => (h c).2, sem_eq_zero_of_no_sems (by decide) r.2⟩) (Cert.ReferenceDownIdeal.Value.run (F := Ideal) m g)

/-- The frame of the reference of the gradient at the MLP's activation. -/
theorem quiescent_referenceAct : Cert.quiescent_ReferenceActIdeal (hReferenceActIdeal := Cert.ReferenceActIdeal.Gen.facts) :=
  fun m g _ => (θ_run Cert.ReferenceActIdeal.defs _ _).mono
    (fun r h => ⟨fun c => (h c).2, sem_eq_zero_of_no_sems (by decide) r.2⟩) (Cert.ReferenceActIdeal.Value.run (F := Ideal) m g)

/-- The frame of the reference of the gradient of the output projection's weights. -/
theorem quiescent_referenceOut : Cert.quiescent_ReferenceOutIdeal (hReferenceOutIdeal := Cert.ReferenceOutIdeal.Gen.facts) :=
  fun m g _ => (θ_run Cert.ReferenceOutIdeal.defs _ _).mono
    (fun r h => ⟨fun c => (h c).2, sem_eq_zero_of_no_sems (by decide) r.2⟩) (Cert.ReferenceOutIdeal.Value.run (F := Ideal) m g)

/-- The frame of the reference of the gradient of the input projection's weights. -/
theorem quiescent_referenceIn : Cert.quiescent_ReferenceInIdeal (hReferenceInIdeal := Cert.ReferenceInIdeal.Gen.facts) :=
  fun m g _ => (θ_run Cert.ReferenceInIdeal.defs _ _).mono
    (fun r h => ⟨fun c => (h c).2, sem_eq_zero_of_no_sems (by decide) r.2⟩) (Cert.ReferenceInIdeal.Value.run (F := Ideal) m g)

/-- The frame of the reference of the gradient at the input. -/
theorem quiescent_referenceX : Cert.quiescent_ReferenceXIdeal (hReferenceXIdeal := Cert.ReferenceXIdeal.Gen.facts) :=
  fun m g _ => (θ_run Cert.ReferenceXIdeal.defs _ _).mono
    (fun r h => ⟨fun c => (h c).2.2, sem_eq_zero_of_no_sems (by decide) r.2⟩) (Cert.ReferenceXIdeal.Value.run (F := Ideal) m g)

/-- The frame of the reference of the gradient at the MLP's input. -/
theorem quiescent_referenceMid : Cert.quiescent_ReferenceMidIdeal (hReferenceMidIdeal := Cert.ReferenceMidIdeal.Gen.facts) :=
  fun m g _ => (θ_run Cert.ReferenceMidIdeal.defs _ _).mono
    (fun r h => ⟨fun c => (h c).2.2.2, sem_eq_zero_of_no_sems (by decide) r.2⟩) (Cert.ReferenceMidIdeal.Value.run (F := Ideal) m g)

/-- The claims. -/
theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelAct.Gen.facts, Cert.KernelActIdeal.Gen.facts, Cert.ReferenceActIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelX.Gen.facts, Cert.KernelXIdeal.Gen.facts, Cert.ReferenceXIdeal.Gen.facts,
  Cert.KernelMid.Gen.facts, Cert.KernelMidIdeal.Gen.facts, Cert.ReferenceMidIdeal.Gen.facts,
  Final.pre_facts,
  quiescent_kernel, quiescent_kernelIdeal, fun m g _ => quiescent_kernelIdeal m g trivial,
  quiescent_referenceIdeal, fun m g _ => quiescent_referenceIdeal m g trivial,
  fun m g _ => Cert.KernelUp.Gen.frame (F := Bits) m g, fun m g _ => Cert.KernelUpIdeal.Gen.frame (F := Ideal) m g, quiescent_referenceUp,
  fun m g _ => Cert.KernelDown.Gen.frame (F := Bits) m g, fun m g _ => Cert.KernelDownIdeal.Gen.frame (F := Ideal) m g, quiescent_referenceDown,
  fun m g _ => Cert.KernelAct.Gen.frame (F := Bits) m g, fun m g _ => Cert.KernelActIdeal.Gen.frame (F := Ideal) m g, quiescent_referenceAct,
  fun m g _ => Cert.KernelOut.Gen.frame (F := Bits) m g, fun m g _ => Cert.KernelOutIdeal.Gen.frame (F := Ideal) m g, quiescent_referenceOut,
  fun m g _ => Cert.KernelIn.Gen.frame (F := Bits) m g, fun m g _ => Cert.KernelInIdeal.Gen.frame (F := Ideal) m g, quiescent_referenceIn,
  fun m g _ => Cert.KernelX.Gen.frame (F := Bits) m g, fun m g _ => Cert.KernelXIdeal.Gen.frame (F := Ideal) m g, quiescent_referenceX,
  fun m g _ => Cert.KernelMid.Gen.frame (F := Bits) m g, fun m g _ => Cert.KernelMidIdeal.Gen.frame (F := Ideal) m g, quiescent_referenceMid,
  trivial, Final.algebraic, trivial, Up.algebraic, trivial, Down.algebraic, trivial, Act.algebraic, trivial, Out.algebraic, trivial, In.algebraic, trivial,
  X.algebraic, trivial, Mid.algebraic⟩

end Cert.Proof

end
